-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S16 : Shape := ⟨1, ![16]⟩
abbrev S_ : Shape := ⟨0, ![]⟩
abbrev S1 : Shape := ⟨1, ![1]⟩
abbrev S2 : Shape := ⟨1, ![2]⟩
abbrev S8 : Shape := ⟨1, ![8]⟩
abbrev S8x1 : Shape := ⟨2, ![8, 1]⟩
abbrev S1x1 : Shape := ⟨2, ![1, 1]⟩
abbrev S3x256x4096 : Shape := ⟨3, ![3, 256, 4096]⟩
abbrev S3 : Shape := ⟨1, ![3]⟩
abbrev S1x256x4096 : Shape := ⟨3, ![1, 256, 4096]⟩
abbrev S256x128 : Shape := ⟨2, ![256, 128]⟩
abbrev S1x128x4096 : Shape := ⟨3, ![1, 128, 4096]⟩
abbrev S128x4096 : Shape := ⟨2, ![128, 4096]⟩
abbrev S128x128 : Shape := ⟨2, ![128, 128]⟩

abbrev nBuf : Space → Nat
  | .hbm => 201
  | .vmem => 5
  | .smem => 3
  | _ => 0

abbrev hbmTy0_0 (i : Nat) : BufTy := match i % 128 with
  | 0 => ⟨S256x4096, .f32⟩
  | 1 => ⟨S4096x128, .f32⟩
  | 2 => ⟨S16, .i32⟩
  | 3 => ⟨S16, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S1, .i32⟩
  | 17 => ⟨S_, .i32⟩
  | 18 => ⟨S1, .i32⟩
  | 19 => ⟨S1, .i1⟩
  | 20 => ⟨S1, .i1⟩
  | 21 => ⟨S1, .i1⟩
  | 22 => ⟨S_, .i1⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i1⟩
  | 40 => ⟨S_, .i32⟩
  | 41 => ⟨S_, .i1⟩
  | 42 => ⟨S_, .i1⟩
  | 43 => ⟨S_, .i1⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S1, .i32⟩
  | 53 => ⟨S_, .i32⟩
  | 54 => ⟨S1, .i32⟩
  | 55 => ⟨S1, .i1⟩
  | 56 => ⟨S1, .i1⟩
  | 57 => ⟨S1, .i1⟩
  | 58 => ⟨S_, .i1⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i1⟩
  | 76 => ⟨S_, .i32⟩
  | 77 => ⟨S_, .i1⟩
  | 78 => ⟨S_, .i1⟩
  | 79 => ⟨S_, .i1⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S1, .i32⟩
  | 89 => ⟨S_, .i32⟩
  | 90 => ⟨S1, .i32⟩
  | 91 => ⟨S1, .i1⟩
  | 92 => ⟨S1, .i1⟩
  | 93 => ⟨S1, .i1⟩
  | 94 => ⟨S_, .i1⟩
  | 95 => ⟨S_, .i1⟩
  | 96 => ⟨S_, .i32⟩
  | 97 => ⟨S_, .i32⟩
  | 98 => ⟨S_, .i32⟩
  | 99 => ⟨S1, .i32⟩
  | 100 => ⟨S1, .i32⟩
  | 101 => ⟨S2, .i32⟩
  | 102 => ⟨S_, .i32⟩
  | 103 => ⟨S_, .i32⟩
  | 104 => ⟨S8, .i32⟩
  | 105 => ⟨S8, .i32⟩
  | 106 => ⟨S8, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S8, .i32⟩
  | 114 => ⟨S8, .i32⟩
  | 115 => ⟨S_, .i32⟩
  | 116 => ⟨S8, .i32⟩
  | 117 => ⟨S8, .i1⟩
  | 118 => ⟨S_, .i32⟩
  | 119 => ⟨S8, .i32⟩
  | 120 => ⟨S8, .i1⟩
  | 121 => ⟨S_, .i32⟩
  | 122 => ⟨S_, .i1⟩
  | 123 => ⟨S8, .i1⟩
  | 124 => ⟨S8, .i1⟩
  | 125 => ⟨S8, .i1⟩
  | 126 => ⟨S8, .i32⟩
  | 127 => ⟨S8, .i32⟩
  | _ => ⟨S256x4096, .f32⟩

abbrev hbmTy0_1 (i : Nat) : BufTy := match i % 128 with
  | 0 => ⟨S8, .i32⟩
  | 1 => ⟨S_, .i32⟩
  | 2 => ⟨S8, .i32⟩
  | 3 => ⟨S8, .i1⟩
  | 4 => ⟨S_, .i32⟩
  | 5 => ⟨S8, .i32⟩
  | 6 => ⟨S8, .i32⟩
  | 7 => ⟨S8, .i32⟩
  | 8 => ⟨S8x1, .i32⟩
  | 9 => ⟨S1, .i32⟩
  | 10 => ⟨S_, .i32⟩
  | 11 => ⟨S8x1, .i32⟩
  | 12 => ⟨S8x1, .i1⟩
  | 13 => ⟨S1x1, .i32⟩
  | 14 => ⟨S8x1, .i32⟩
  | 15 => ⟨S8x1, .i1⟩
  | 16 => ⟨S8x1, .i1⟩
  | 17 => ⟨S_, .i1⟩
  | 18 => ⟨S8, .i1⟩
  | 19 => ⟨S8, .i32⟩
  | 20 => ⟨S_, .i32⟩
  | 21 => ⟨S8, .i32⟩
  | 22 => ⟨S8, .i32⟩
  | 23 => ⟨S_, .i32⟩
  | 24 => ⟨S_, .i32⟩
  | 25 => ⟨S8, .i32⟩
  | 26 => ⟨S8, .i32⟩
  | 27 => ⟨S8, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8, .i32⟩
  | 35 => ⟨S8, .i32⟩
  | 36 => ⟨S_, .i32⟩
  | 37 => ⟨S8, .i32⟩
  | 38 => ⟨S8, .i1⟩
  | 39 => ⟨S_, .i32⟩
  | 40 => ⟨S8, .i32⟩
  | 41 => ⟨S8, .i1⟩
  | 42 => ⟨S_, .i32⟩
  | 43 => ⟨S_, .i1⟩
  | 44 => ⟨S8, .i1⟩
  | 45 => ⟨S8, .i1⟩
  | 46 => ⟨S8, .i1⟩
  | 47 => ⟨S8, .i32⟩
  | 48 => ⟨S8, .i32⟩
  | 49 => ⟨S8, .i32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S1, .i32⟩
  | 59 => ⟨S_, .i32⟩
  | 60 => ⟨S8x1, .i32⟩
  | 61 => ⟨S8x1, .i1⟩
  | 62 => ⟨S1x1, .i32⟩
  | 63 => ⟨S8x1, .i32⟩
  | 64 => ⟨S8x1, .i1⟩
  | 65 => ⟨S8x1, .i1⟩
  | 66 => ⟨S_, .i1⟩
  | 67 => ⟨S8, .i1⟩
  | 68 => ⟨S8, .i32⟩
  | 69 => ⟨S_, .i32⟩
  | 70 => ⟨S8, .i32⟩
  | 71 => ⟨S8, .i32⟩
  | 72 => ⟨S4096x128, .f32⟩
  | _ => ⟨S256x4096, .f32⟩

abbrev hbmTy (i : Nat) : BufTy := match i / 128 with
  | 0 => hbmTy0_0 i
  | 1 => hbmTy0_1 i
  | _ => ⟨S256x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S3x256x4096, .f32⟩
  | .local _ .vmem, ⟨4, _⟩ => ⟨S3x256x4096, .f32⟩
  | .local _ .smem, ⟨0, _⟩ => ⟨S2, .i32⟩
  | .local _ .smem, ⟨1, _⟩ => ⟨S8, .i32⟩
  | .local _ .smem, ⟨2, _⟩ => ⟨S8, .i32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_c_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_c_2 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_c_3 : Ref sig .tc := ⟨.hbm, 22, rfl⟩
abbrev main_call0_v8 : Ref sig .tc := ⟨.hbm, 23, rfl⟩
abbrev main_call0_v9 : Ref sig .tc := ⟨.hbm, 24, rfl⟩
abbrev main_call0_c_4 : Ref sig .tc := ⟨.hbm, 25, rfl⟩
abbrev main_v5 : Ref sig .tc := ⟨.hbm, 26, rfl⟩
abbrev main_c_3 : Ref sig .tc := ⟨.hbm, 27, rfl⟩
abbrev main_v6 : Ref sig .tc := ⟨.hbm, 28, rfl⟩
abbrev main_c_4 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_c_1 : Ref sig .tc := ⟨.hbm, 36, rfl⟩
abbrev main_call1_v4 : Ref sig .tc := ⟨.hbm, 37, rfl⟩
abbrev main_call1_c_2 : Ref sig .tc := ⟨.hbm, 38, rfl⟩
abbrev main_call1_v5 : Ref sig .tc := ⟨.hbm, 39, rfl⟩
abbrev main_call1_c_3 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_v7 : Ref sig .tc := ⟨.hbm, 45, rfl⟩
abbrev main_call2_c : Ref sig .tc := ⟨.hbm, 46, rfl⟩
abbrev main_call2_v0 : Ref sig .tc := ⟨.hbm, 47, rfl⟩
abbrev main_call2_c_0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_c_1 : Ref sig .tc := ⟨.hbm, 52, rfl⟩
abbrev main_call2_c_2 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_c_3 : Ref sig .tc := ⟨.hbm, 58, rfl⟩
abbrev main_call2_v8 : Ref sig .tc := ⟨.hbm, 59, rfl⟩
abbrev main_call2_v9 : Ref sig .tc := ⟨.hbm, 60, rfl⟩
abbrev main_call2_c_4 : Ref sig .tc := ⟨.hbm, 61, rfl⟩
abbrev main_v8 : Ref sig .tc := ⟨.hbm, 62, rfl⟩
abbrev main_c_5 : Ref sig .tc := ⟨.hbm, 63, rfl⟩
abbrev main_v9 : Ref sig .tc := ⟨.hbm, 64, rfl⟩
abbrev main_c_6 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_c_1 : Ref sig .tc := ⟨.hbm, 72, rfl⟩
abbrev main_call3_v4 : Ref sig .tc := ⟨.hbm, 73, rfl⟩
abbrev main_call3_c_2 : Ref sig .tc := ⟨.hbm, 74, rfl⟩
abbrev main_call3_v5 : Ref sig .tc := ⟨.hbm, 75, rfl⟩
abbrev main_call3_c_3 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_v10 : Ref sig .tc := ⟨.hbm, 81, rfl⟩
abbrev main_call4_c : Ref sig .tc := ⟨.hbm, 82, rfl⟩
abbrev main_call4_v0 : Ref sig .tc := ⟨.hbm, 83, rfl⟩
abbrev main_call4_c_0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_c_1 : Ref sig .tc := ⟨.hbm, 88, rfl⟩
abbrev main_call4_c_2 : Ref sig .tc := ⟨.hbm, 89, rfl⟩
abbrev main_call4_v4 : Ref sig .tc := ⟨.hbm, 90, rfl⟩
abbrev main_call4_v5 : Ref sig .tc := ⟨.hbm, 91, rfl⟩
abbrev main_call4_v6 : Ref sig .tc := ⟨.hbm, 92, rfl⟩
abbrev main_call4_v7 : Ref sig .tc := ⟨.hbm, 93, rfl⟩
abbrev main_call4_c_3 : Ref sig .tc := ⟨.hbm, 94, rfl⟩
abbrev main_call4_v8 : Ref sig .tc := ⟨.hbm, 95, rfl⟩
abbrev main_call4_v9 : Ref sig .tc := ⟨.hbm, 96, rfl⟩
abbrev main_call4_c_4 : Ref sig .tc := ⟨.hbm, 97, rfl⟩
abbrev main_v11 : Ref sig .tc := ⟨.hbm, 98, rfl⟩
abbrev main_v12 : Ref sig .tc := ⟨.hbm, 99, rfl⟩
abbrev main_v13 : Ref sig .tc := ⟨.hbm, 100, rfl⟩
abbrev main_v14 : Ref sig .tc := ⟨.hbm, 101, rfl⟩
abbrev main_c_7 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_c_8 : Ref sig .tc := ⟨.hbm, 107, rfl⟩
abbrev main_call5_v0 : Ref sig .tc := ⟨.hbm, 108, rfl⟩
abbrev main_call5_c : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_c_1 : Ref sig .tc := ⟨.hbm, 115, rfl⟩
abbrev main_call5_v5 : Ref sig .tc := ⟨.hbm, 116, rfl⟩
abbrev main_call5_v6 : Ref sig .tc := ⟨.hbm, 117, rfl⟩
abbrev main_call5_c_2 : Ref sig .tc := ⟨.hbm, 118, rfl⟩
abbrev main_call5_v7 : Ref sig .tc := ⟨.hbm, 119, rfl⟩
abbrev main_call5_v8 : Ref sig .tc := ⟨.hbm, 120, rfl⟩
abbrev main_call5_c_3 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_v19 : Ref sig .tc := ⟨.hbm, 128, rfl⟩
abbrev main_call6_c : Ref sig .tc := ⟨.hbm, 129, rfl⟩
abbrev main_call6_v0 : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_c_1 : Ref sig .tc := ⟨.hbm, 137, rfl⟩
abbrev main_call6_c_2 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_call6_c_3 : Ref sig .tc := ⟨.hbm, 145, rfl⟩
abbrev main_call6_v12 : Ref sig .tc := ⟨.hbm, 146, rfl⟩
abbrev main_call6_v13 : Ref sig .tc := ⟨.hbm, 147, rfl⟩
abbrev main_call6_c_4 : Ref sig .tc := ⟨.hbm, 148, rfl⟩
abbrev main_call6_v14 : Ref sig .tc := ⟨.hbm, 149, rfl⟩
abbrev main_v20 : Ref sig .tc := ⟨.hbm, 150, rfl⟩
abbrev main_c_9 : Ref sig .tc := ⟨.hbm, 151, rfl⟩
abbrev main_v21 : Ref sig .tc := ⟨.hbm, 152, rfl⟩
abbrev main_v22 : Ref sig .tc := ⟨.hbm, 153, rfl⟩
abbrev main_v23 : Ref sig .tc := ⟨.hbm, 154, rfl⟩
abbrev main_v24 : Ref sig .tc := ⟨.hbm, 155, rfl⟩
abbrev main_c_10 : Ref sig .tc := ⟨.hbm, 156, rfl⟩
abbrev main_call7_v0 : Ref sig .tc := ⟨.hbm, 157, rfl⟩
abbrev main_call7_c : Ref sig .tc := ⟨.hbm, 158, rfl⟩
abbrev main_call7_v1 : Ref sig .tc := ⟨.hbm, 159, rfl⟩
abbrev main_call7_c_0 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_call7_c_1 : Ref sig .tc := ⟨.hbm, 164, rfl⟩
abbrev main_call7_v5 : Ref sig .tc := ⟨.hbm, 165, rfl⟩
abbrev main_call7_v6 : Ref sig .tc := ⟨.hbm, 166, rfl⟩
abbrev main_call7_c_2 : Ref sig .tc := ⟨.hbm, 167, rfl⟩
abbrev main_call7_v7 : Ref sig .tc := ⟨.hbm, 168, rfl⟩
abbrev main_call7_v8 : Ref sig .tc := ⟨.hbm, 169, rfl⟩
abbrev main_call7_c_3 : Ref sig .tc := ⟨.hbm, 170, rfl⟩
abbrev main_call7_v9 : Ref sig .tc := ⟨.hbm, 171, rfl⟩
abbrev main_call7_v10 : Ref sig .tc := ⟨.hbm, 172, rfl⟩
abbrev main_call7_v11 : Ref sig .tc := ⟨.hbm, 173, rfl⟩
abbrev main_call7_v12 : Ref sig .tc := ⟨.hbm, 174, rfl⟩
abbrev main_call7_v13 : Ref sig .tc := ⟨.hbm, 175, rfl⟩
abbrev main_call7_v14 : Ref sig .tc := ⟨.hbm, 176, rfl⟩
abbrev main_v25 : Ref sig .tc := ⟨.hbm, 177, rfl⟩
abbrev main_call8_c : Ref sig .tc := ⟨.hbm, 178, rfl⟩
abbrev main_call8_v0 : Ref sig .tc := ⟨.hbm, 179, rfl⟩
abbrev main_call8_v1 : Ref sig .tc := ⟨.hbm, 180, rfl⟩
abbrev main_call8_c_0 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_c_1 : Ref sig .tc := ⟨.hbm, 186, rfl⟩
abbrev main_call8_c_2 : Ref sig .tc := ⟨.hbm, 187, rfl⟩
abbrev main_call8_v6 : Ref sig .tc := ⟨.hbm, 188, rfl⟩
abbrev main_call8_v7 : Ref sig .tc := ⟨.hbm, 189, rfl⟩
abbrev main_call8_v8 : Ref sig .tc := ⟨.hbm, 190, rfl⟩
abbrev main_call8_v9 : Ref sig .tc := ⟨.hbm, 191, rfl⟩
abbrev main_call8_v10 : Ref sig .tc := ⟨.hbm, 192, rfl⟩
abbrev main_call8_v11 : Ref sig .tc := ⟨.hbm, 193, rfl⟩
abbrev main_call8_c_3 : Ref sig .tc := ⟨.hbm, 194, rfl⟩
abbrev main_call8_v12 : Ref sig .tc := ⟨.hbm, 195, rfl⟩
abbrev main_call8_v13 : Ref sig .tc := ⟨.hbm, 196, rfl⟩
abbrev main_call8_c_4 : Ref sig .tc := ⟨.hbm, 197, rfl⟩
abbrev main_call8_v14 : Ref sig .tc := ⟨.hbm, 198, rfl⟩
abbrev main_v26 : Ref sig .tc := ⟨.hbm, 199, rfl⟩
abbrev main_v27 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v1 : BitVec 32) : Nat :=
  let c0_i32_8 : BitVec 32 := 0#32
  let c1_i32_7 : BitVec 32 := 1#32
  let v7 : BitVec 32 := Scalar.muli v1 c1_i32_7
  let v8 : BitVec 32 := Scalar.addi c0_i32_8 v7
  v8.toNat
def k0_dev4 (v0 : BitVec 32) : Nat :=
  let c0_i32_15 : BitVec 32 := 0#32
  let c1_i32_14 : BitVec 32 := 1#32
  let v15 : BitVec 32 := Scalar.muli v0 c1_i32_14
  let v16 : BitVec 32 := Scalar.addi c0_i32_15 v15
  v16.toNat
def k0_off1 (d25 : Dev nD) : Fin 2 → Nat :=
  let v25 : BitVec 32 := Dev.word d25
  let c1_i32_20 : BitVec 32 := 1#32
  let v26 : BitVec 32 := Scalar.divsi v25 c1_i32_20
  let c16_i32 : BitVec 32 := 16#32
  let v27 : BitVec 32 := Scalar.remsi v26 c16_i32
  let c256_i32 : BitVec 32 := 256#32
  let v33 : BitVec 32 := Scalar.muli v27 c256_i32
  let c0_i32_24 : BitVec 32 := 0#32
  let v34 : BitVec 32 := Scalar.addi v33 c0_i32_24
  let v35 : Index := Scalar.indexCast v34
  let c0_25 : Index := 0#32
  ![v35.toNat, 0]
def k0_dev5 (v1 : BitVec 32) : Nat :=
  let c0_i32_44 : BitVec 32 := 0#32
  let c1_i32_43 : BitVec 32 := 1#32
  let v47 : BitVec 32 := Scalar.muli v1 c1_i32_43
  let v48 : BitVec 32 := Scalar.addi c0_i32_44 v47
  v48.toNat
def k0_dev6 (v0 : BitVec 32) : Nat :=
  let c0_i32_67 : BitVec 32 := 0#32
  let c1_i32_66 : BitVec 32 := 1#32
  let v67 : BitVec 32 := Scalar.muli v0 c1_i32_66
  let v68 : BitVec 32 := Scalar.addi c0_i32_67 v67
  v68.toNat
def k0_off2 (v79 : BitVec 32) : Fin 2 → Nat :=
  let c256_i32_80 : BitVec 32 := 256#32
  let v85 : BitVec 32 := Scalar.muli v79 c256_i32_80
  let c0_i32_81 : BitVec 32 := 0#32
  let v86 : BitVec 32 := Scalar.addi v85 c0_i32_81
  let v87 : Index := Scalar.indexCast v86
  let c0_82 : Index := 0#32
  ![v87.toNat, 0]

def k0_chk3 (v79 : BitVec 32) : Prop :=
  (∀ a, (k0_off2 v79) a + S256x128.size a ≤ S4096x128.size a)
theorem k0_off2_inb : ∀ (v79 : BitVec 32) (k0_hw3 : k0_chk3 v79), ∀ a, (k0_off2 v79) a + S256x128.size a ≤ S4096x128.size a := fun v79 k0_hw3 => k0_hw3

def k0_off3 (v91 : BitVec 32) : Fin 2 → Nat :=
  let c256_i32_91 : BitVec 32 := 256#32
  let v97 : BitVec 32 := Scalar.muli v91 c256_i32_91
  let c0_i32_92 : BitVec 32 := 0#32
  let v98 : BitVec 32 := Scalar.addi v97 c0_i32_92
  let v99 : Index := Scalar.indexCast v98
  let c0_93 : Index := 0#32
  ![v99.toNat, 0]

def k0_chk4 (v91 : BitVec 32) : Prop :=
  (∀ a, (k0_off3 v91) a + S256x128.size a ≤ S4096x128.size a)
theorem k0_off3_inb : ∀ (v91 : BitVec 32) (k0_hw4 : k0_chk4 v91), ∀ a, (k0_off3 v91) a + S256x128.size a ≤ S4096x128.size a := fun v91 k0_hw4 => k0_hw4

def k0_dev7 (v0 : BitVec 32) : Nat :=
  let c0_i32_115 : BitVec 32 := 0#32
  let c1_i32_114 : BitVec 32 := 1#32
  let v115 : BitVec 32 := Scalar.muli v0 c1_i32_114
  let v116 : BitVec 32 := Scalar.addi c0_i32_115 v115
  v116.toNat
def k0_dev8 (v1 : BitVec 32) : Nat :=
  let c0_i32_121 : BitVec 32 := 0#32
  let c1_i32_120 : BitVec 32 := 1#32
  let v117 : BitVec 32 := Scalar.muli v1 c1_i32_120
  let v118 : BitVec 32 := Scalar.addi c0_i32_121 v117
  v118.toNat
def k0_dev9 (v1 : BitVec 32) : Nat :=
  let c0_i32_147 : BitVec 32 := 0#32
  let c1_i32_146 : BitVec 32 := 1#32
  let v141 : BitVec 32 := Scalar.muli v1 c1_i32_146
  let v142 : BitVec 32 := Scalar.addi c0_i32_147 v141
  v142.toNat
def k0_dev10 (v0 : BitVec 32) : Nat :=
  let c0_i32_153 : BitVec 32 := 0#32
  let c1_i32_152 : BitVec 32 := 1#32
  let v143 : BitVec 32 := Scalar.muli v0 c1_i32_152
  let v144 : BitVec 32 := Scalar.addi c0_i32_153 v143
  v144.toNat
def k0_off4 (v155 : BitVec 32) : Fin 2 → Nat :=
  let c256_i32_166 : BitVec 32 := 256#32
  let v161 : BitVec 32 := Scalar.muli v155 c256_i32_166
  let c0_i32_167 : BitVec 32 := 0#32
  let v162 : BitVec 32 := Scalar.addi v161 c0_i32_167
  let v163 : Index := Scalar.indexCast v162
  let c0_168 : Index := 0#32
  ![v163.toNat, 0]

def k0_chk5 (v155 : BitVec 32) : Prop :=
  (∀ a, (k0_off4 v155) a + S256x128.size a ≤ S4096x128.size a)
theorem k0_off4_inb : ∀ (v155 : BitVec 32) (k0_hw5 : k0_chk5 v155), ∀ a, (k0_off4 v155) a + S256x128.size a ≤ S4096x128.size a := fun v155 k0_hw5 => k0_hw5

def k0_off5 (v167 : BitVec 32) : Fin 2 → Nat :=
  let c256_i32_177 : BitVec 32 := 256#32
  let v173 : BitVec 32 := Scalar.muli v167 c256_i32_177
  let c0_i32_178 : BitVec 32 := 0#32
  let v174 : BitVec 32 := Scalar.addi v173 c0_i32_178
  let v175 : Index := Scalar.indexCast v174
  let c0_179 : Index := 0#32
  ![v175.toNat, 0]

def k0_chk6 (v167 : BitVec 32) : Prop :=
  (∀ a, (k0_off5 v167) a + S256x128.size a ≤ S4096x128.size a)
theorem k0_off5_inb : ∀ (v167 : BitVec 32) (k0_hw6 : k0_chk6 v167), ∀ a, (k0_off5 v167) a + S256x128.size a ≤ S4096x128.size a := fun v167 k0_hw6 => k0_hw6

def k0_dev11 (v0 : BitVec 32) : Nat :=
  let c0_i32_201 : BitVec 32 := 0#32
  let c1_i32_200 : BitVec 32 := 1#32
  let v191 : BitVec 32 := Scalar.muli v0 c1_i32_200
  let v192 : BitVec 32 := Scalar.addi c0_i32_201 v191
  v192.toNat
def k0_dev12 (v1 : BitVec 32) : Nat :=
  let c0_i32_209 : BitVec 32 := 0#32
  let c1_i32_208 : BitVec 32 := 1#32
  let v193 : BitVec 32 := Scalar.muli v1 c1_i32_208
  let v194 : BitVec 32 := Scalar.addi c0_i32_209 v193
  v194.toNat
def k0_dev13 (v1 : BitVec 32) : Nat :=
  let c0_i32_235 : BitVec 32 := 0#32
  let c1_i32_234 : BitVec 32 := 1#32
  let v217 : BitVec 32 := Scalar.muli v1 c1_i32_234
  let v218 : BitVec 32 := Scalar.addi c0_i32_235 v217
  v218.toNat
def k0_dev14 (v0 : BitVec 32) : Nat :=
  let c0_i32_243 : BitVec 32 := 0#32
  let c1_i32_242 : BitVec 32 := 1#32
  let v219 : BitVec 32 := Scalar.muli v0 c1_i32_242
  let v220 : BitVec 32 := Scalar.addi c0_i32_243 v219
  v220.toNat
def k0_off6 (v231 : BitVec 32) : Fin 2 → Nat :=
  let c256_i32_255 : BitVec 32 := 256#32
  let v237 : BitVec 32 := Scalar.muli v231 c256_i32_255
  let c0_i32_256 : BitVec 32 := 0#32
  let v238 : BitVec 32 := Scalar.addi v237 c0_i32_256
  let v239 : Index := Scalar.indexCast v238
  let c0_257 : Index := 0#32
  ![v239.toNat, 0]

def k0_chk7 (v231 : BitVec 32) : Prop :=
  (∀ a, (k0_off6 v231) a + S256x128.size a ≤ S4096x128.size a)
theorem k0_off6_inb : ∀ (v231 : BitVec 32) (k0_hw7 : k0_chk7 v231), ∀ a, (k0_off6 v231) a + S256x128.size a ≤ S4096x128.size a := fun v231 k0_hw7 => k0_hw7

def k0_off7 (v243 : BitVec 32) : Fin 2 → Nat :=
  let c256_i32_266 : BitVec 32 := 256#32
  let v249 : BitVec 32 := Scalar.muli v243 c256_i32_266
  let c0_i32_267 : BitVec 32 := 0#32
  let v250 : BitVec 32 := Scalar.addi v249 c0_i32_267
  let v251 : Index := Scalar.indexCast v250
  let c0_268 : Index := 0#32
  ![v251.toNat, 0]

def k0_chk8 (v243 : BitVec 32) : Prop :=
  (∀ a, (k0_off7 v243) a + S256x128.size a ≤ S4096x128.size a)
theorem k0_off7_inb : ∀ (v243 : BitVec 32) (k0_hw8 : k0_chk8 v243), ∀ a, (k0_off7 v243) a + S256x128.size a ≤ S4096x128.size a := fun v243 k0_hw8 => k0_hw8

def k0_dev15 (v0 : BitVec 32) : Nat :=
  let c0_i32_290 : BitVec 32 := 0#32
  let c1_i32_289 : BitVec 32 := 1#32
  let v267 : BitVec 32 := Scalar.muli v0 c1_i32_289
  let v268 : BitVec 32 := Scalar.addi c0_i32_290 v267
  v268.toNat
def k0_dev16 (v1 : BitVec 32) : Nat :=
  let c0_i32_298 : BitVec 32 := 0#32
  let c1_i32_297 : BitVec 32 := 1#32
  let v269 : BitVec 32 := Scalar.muli v1 c1_i32_297
  let v270 : BitVec 32 := Scalar.addi c0_i32_298 v269
  v270.toNat
def k0_dev17 (v1 : BitVec 32) : Nat :=
  let c0_i32_324 : BitVec 32 := 0#32
  let c1_i32_323 : BitVec 32 := 1#32
  let v293 : BitVec 32 := Scalar.muli v1 c1_i32_323
  let v294 : BitVec 32 := Scalar.addi c0_i32_324 v293
  v294.toNat
def k0_dev18 (v0 : BitVec 32) : Nat :=
  let c0_i32_332 : BitVec 32 := 0#32
  let c1_i32_331 : BitVec 32 := 1#32
  let v295 : BitVec 32 := Scalar.muli v0 c1_i32_331
  let v296 : BitVec 32 := Scalar.addi c0_i32_332 v295
  v296.toNat
def k0_off8 (v307 : BitVec 32) : Fin 2 → Nat :=
  let c256_i32_344 : BitVec 32 := 256#32
  let v313 : BitVec 32 := Scalar.muli v307 c256_i32_344
  let c0_i32_345 : BitVec 32 := 0#32
  let v314 : BitVec 32 := Scalar.addi v313 c0_i32_345
  let v315 : Index := Scalar.indexCast v314
  let c0_346 : Index := 0#32
  ![v315.toNat, 0]

def k0_chk9 (v307 : BitVec 32) : Prop :=
  (∀ a, (k0_off8 v307) a + S256x128.size a ≤ S4096x128.size a)
theorem k0_off8_inb : ∀ (v307 : BitVec 32) (k0_hw9 : k0_chk9 v307), ∀ a, (k0_off8 v307) a + S256x128.size a ≤ S4096x128.size a := fun v307 k0_hw9 => k0_hw9

def k0_off9 (v319 : BitVec 32) : Fin 2 → Nat :=
  let c256_i32_355 : BitVec 32 := 256#32
  let v325 : BitVec 32 := Scalar.muli v319 c256_i32_355
  let c0_i32_356 : BitVec 32 := 0#32
  let v326 : BitVec 32 := Scalar.addi v325 c0_i32_356
  let v327 : Index := Scalar.indexCast v326
  let c0_357 : Index := 0#32
  ![v327.toNat, 0]

def k0_chk10 (v319 : BitVec 32) : Prop :=
  (∀ a, (k0_off9 v319) a + S256x128.size a ≤ S4096x128.size a)
theorem k0_off9_inb : ∀ (v319 : BitVec 32) (k0_hw10 : k0_chk10 v319), ∀ a, (k0_off9 v319) a + S256x128.size a ≤ S4096x128.size a := fun v319 k0_hw10 => k0_hw10

def k0_dev19 (v0 : BitVec 32) : Nat :=
  let c0_i32_379 : BitVec 32 := 0#32
  let c1_i32_378 : BitVec 32 := 1#32
  let v343 : BitVec 32 := Scalar.muli v0 c1_i32_378
  let v344 : BitVec 32 := Scalar.addi c0_i32_379 v343
  v344.toNat
def k0_dev20 (v1 : BitVec 32) : Nat :=
  let c0_i32_387 : BitVec 32 := 0#32
  let c1_i32_386 : BitVec 32 := 1#32
  let v345 : BitVec 32 := Scalar.muli v1 c1_i32_386
  let v346 : BitVec 32 := Scalar.addi c0_i32_387 v345
  v346.toNat
def k0_dev21 (v1 : BitVec 32) : Nat :=
  let c0_i32_413 : BitVec 32 := 0#32
  let c1_i32_412 : BitVec 32 := 1#32
  let v369 : BitVec 32 := Scalar.muli v1 c1_i32_412
  let v370 : BitVec 32 := Scalar.addi c0_i32_413 v369
  v370.toNat
def k0_dev22 (v0 : BitVec 32) : Nat :=
  let c0_i32_421 : BitVec 32 := 0#32
  let c1_i32_420 : BitVec 32 := 1#32
  let v371 : BitVec 32 := Scalar.muli v0 c1_i32_420
  let v372 : BitVec 32 := Scalar.addi c0_i32_421 v371
  v372.toNat
def k0_off10 (v383 : BitVec 32) : Fin 2 → Nat :=
  let c256_i32_433 : BitVec 32 := 256#32
  let v389 : BitVec 32 := Scalar.muli v383 c256_i32_433
  let c0_i32_434 : BitVec 32 := 0#32
  let v390 : BitVec 32 := Scalar.addi v389 c0_i32_434
  let v391 : Index := Scalar.indexCast v390
  let c0_435 : Index := 0#32
  ![v391.toNat, 0]

def k0_chk11 (v383 : BitVec 32) : Prop :=
  (∀ a, (k0_off10 v383) a + S256x128.size a ≤ S4096x128.size a)
theorem k0_off10_inb : ∀ (v383 : BitVec 32) (k0_hw11 : k0_chk11 v383), ∀ a, (k0_off10 v383) a + S256x128.size a ≤ S4096x128.size a := fun v383 k0_hw11 => k0_hw11

def k0_off11 (v395 : BitVec 32) : Fin 2 → Nat :=
  let c256_i32_444 : BitVec 32 := 256#32
  let v401 : BitVec 32 := Scalar.muli v395 c256_i32_444
  let c0_i32_445 : BitVec 32 := 0#32
  let v402 : BitVec 32 := Scalar.addi v401 c0_i32_445
  let v403 : Index := Scalar.indexCast v402
  let c0_446 : Index := 0#32
  ![v403.toNat, 0]

def k0_chk12 (v395 : BitVec 32) : Prop :=
  (∀ a, (k0_off11 v395) a + S256x128.size a ≤ S4096x128.size a)
theorem k0_off11_inb : ∀ (v395 : BitVec 32) (k0_hw12 : k0_chk12 v395), ∀ a, (k0_off11 v395) a + S256x128.size a ≤ S4096x128.size a := fun v395 k0_hw12 => k0_hw12

def k0_dev23 (v0 : BitVec 32) : Nat :=
  let c0_i32_468 : BitVec 32 := 0#32
  let c1_i32_467 : BitVec 32 := 1#32
  let v419 : BitVec 32 := Scalar.muli v0 c1_i32_467
  let v420 : BitVec 32 := Scalar.addi c0_i32_468 v419
  v420.toNat
def k0_dev24 (v1 : BitVec 32) : Nat :=
  let c0_i32_476 : BitVec 32 := 0#32
  let c1_i32_475 : BitVec 32 := 1#32
  let v421 : BitVec 32 := Scalar.muli v1 c1_i32_475
  let v422 : BitVec 32 := Scalar.addi c0_i32_476 v421
  v422.toNat
def k0_dev25 (v1 : BitVec 32) : Nat :=
  let c0_i32_502 : BitVec 32 := 0#32
  let c1_i32_501 : BitVec 32 := 1#32
  let v445 : BitVec 32 := Scalar.muli v1 c1_i32_501
  let v446 : BitVec 32 := Scalar.addi c0_i32_502 v445
  v446.toNat
def k0_dev26 (v0 : BitVec 32) : Nat :=
  let c0_i32_510 : BitVec 32 := 0#32
  let c1_i32_509 : BitVec 32 := 1#32
  let v447 : BitVec 32 := Scalar.muli v0 c1_i32_509
  let v448 : BitVec 32 := Scalar.addi c0_i32_510 v447
  v448.toNat
def k0_off12 (v459 : BitVec 32) : Fin 2 → Nat :=
  let c256_i32_522 : BitVec 32 := 256#32
  let v465 : BitVec 32 := Scalar.muli v459 c256_i32_522
  let c0_i32_523 : BitVec 32 := 0#32
  let v466 : BitVec 32 := Scalar.addi v465 c0_i32_523
  let v467 : Index := Scalar.indexCast v466
  let c0_524 : Index := 0#32
  ![v467.toNat, 0]

def k0_chk13 (v459 : BitVec 32) : Prop :=
  (∀ a, (k0_off12 v459) a + S256x128.size a ≤ S4096x128.size a)
theorem k0_off12_inb : ∀ (v459 : BitVec 32) (k0_hw13 : k0_chk13 v459), ∀ a, (k0_off12 v459) a + S256x128.size a ≤ S4096x128.size a := fun v459 k0_hw13 => k0_hw13

def k0_off13 (v471 : BitVec 32) : Fin 2 → Nat :=
  let c256_i32_533 : BitVec 32 := 256#32
  let v477 : BitVec 32 := Scalar.muli v471 c256_i32_533
  let c0_i32_534 : BitVec 32 := 0#32
  let v478 : BitVec 32 := Scalar.addi v477 c0_i32_534
  let v479 : Index := Scalar.indexCast v478
  let c0_535 : Index := 0#32
  ![v479.toNat, 0]

def k0_chk14 (v471 : BitVec 32) : Prop :=
  (∀ a, (k0_off13 v471) a + S256x128.size a ≤ S4096x128.size a)
theorem k0_off13_inb : ∀ (v471 : BitVec 32) (k0_hw14 : k0_chk14 v471), ∀ a, (k0_off13 v471) a + S256x128.size a ≤ S4096x128.size a := fun v471 k0_hw14 => k0_hw14

def k0_dev27 (v1 : BitVec 32) : Nat :=
  let c0_i32_562 : BitVec 32 := 0#32
  let c1_i32_561 : BitVec 32 := 1#32
  let v495 : BitVec 32 := Scalar.muli v1 c1_i32_561
  let v496 : BitVec 32 := Scalar.addi c0_i32_562 v495
  v496.toNat

def k0_chk2 (v1 : BitVec 32) : Prop :=
  ((k0_dev2 v1) < nD) ∧
  ((k0_dev3 v1) < nD) ∧
  ((k0_dev5 v1) < nD) ∧
  ((k0_dev8 v1) < nD) ∧
  ((k0_dev9 v1) < nD) ∧
  ((k0_dev12 v1) < nD) ∧
  ((k0_dev13 v1) < nD) ∧
  ((k0_dev16 v1) < nD) ∧
  ((k0_dev17 v1) < nD) ∧
  ((k0_dev20 v1) < nD) ∧
  ((k0_dev21 v1) < nD) ∧
  ((k0_dev24 v1) < nD) ∧
  ((k0_dev25 v1) < nD) ∧
  ((k0_dev27 v1) < nD)
theorem k0_dev2_lt : ∀ (v1 : BitVec 32) (k0_hw2 : k0_chk2 v1), (k0_dev2 v1) < nD := fun v1 k0_hw2 => k0_hw2.1
theorem k0_dev3_lt : ∀ (v1 : BitVec 32) (k0_hw2 : k0_chk2 v1), (k0_dev3 v1) < nD := fun v1 k0_hw2 => k0_hw2.2.1
theorem k0_dev5_lt : ∀ (v1 : BitVec 32) (k0_hw2 : k0_chk2 v1), (k0_dev5 v1) < nD := fun v1 k0_hw2 => k0_hw2.2.2.1
theorem k0_dev8_lt : ∀ (v1 : BitVec 32) (k0_hw2 : k0_chk2 v1), (k0_dev8 v1) < nD := fun v1 k0_hw2 => k0_hw2.2.2.2.1
theorem k0_dev9_lt : ∀ (v1 : BitVec 32) (k0_hw2 : k0_chk2 v1), (k0_dev9 v1) < nD := fun v1 k0_hw2 => k0_hw2.2.2.2.2.1
theorem k0_dev12_lt : ∀ (v1 : BitVec 32) (k0_hw2 : k0_chk2 v1), (k0_dev12 v1) < nD := fun v1 k0_hw2 => k0_hw2.2.2.2.2.2.1
theorem k0_dev13_lt : ∀ (v1 : BitVec 32) (k0_hw2 : k0_chk2 v1), (k0_dev13 v1) < nD := fun v1 k0_hw2 => k0_hw2.2.2.2.2.2.2.1
theorem k0_dev16_lt : ∀ (v1 : BitVec 32) (k0_hw2 : k0_chk2 v1), (k0_dev16 v1) < nD := fun v1 k0_hw2 => k0_hw2.2.2.2.2.2.2.2.1
theorem k0_dev17_lt : ∀ (v1 : BitVec 32) (k0_hw2 : k0_chk2 v1), (k0_dev17 v1) < nD := fun v1 k0_hw2 => k0_hw2.2.2.2.2.2.2.2.2.1
theorem k0_dev20_lt : ∀ (v1 : BitVec 32) (k0_hw2 : k0_chk2 v1), (k0_dev20 v1) < nD := fun v1 k0_hw2 => k0_hw2.2.2.2.2.2.2.2.2.2.1
theorem k0_dev21_lt : ∀ (v1 : BitVec 32) (k0_hw2 : k0_chk2 v1), (k0_dev21 v1) < nD := fun v1 k0_hw2 => k0_hw2.2.2.2.2.2.2.2.2.2.2.1
theorem k0_dev24_lt : ∀ (v1 : BitVec 32) (k0_hw2 : k0_chk2 v1), (k0_dev24 v1) < nD := fun v1 k0_hw2 => k0_hw2.2.2.2.2.2.2.2.2.2.2.2.1
theorem k0_dev25_lt : ∀ (v1 : BitVec 32) (k0_hw2 : k0_chk2 v1), (k0_dev25 v1) < nD := fun v1 k0_hw2 => k0_hw2.2.2.2.2.2.2.2.2.2.2.2.2.1
theorem k0_dev27_lt : ∀ (v1 : BitVec 32) (k0_hw2 : k0_chk2 v1), (k0_dev27 v1) < nD := fun v1 k0_hw2 => k0_hw2.2.2.2.2.2.2.2.2.2.2.2.2.2

def k0_dev28 (v0 : BitVec 32) : Nat :=
  let c0_i32_593 : BitVec 32 := 0#32
  let c1_i32_592 : BitVec 32 := 1#32
  let v519 : BitVec 32 := Scalar.muli v0 c1_i32_592
  let v520 : BitVec 32 := Scalar.addi c0_i32_593 v519
  v520.toNat

def k0_chk1 (v0 : BitVec 32) : Prop :=
  ((k0_dev1 v0) < nD) ∧
  ((k0_dev4 v0) < nD) ∧
  ((k0_dev6 v0) < nD) ∧
  ((k0_dev7 v0) < nD) ∧
  ((k0_dev10 v0) < nD) ∧
  ((k0_dev11 v0) < nD) ∧
  ((k0_dev14 v0) < nD) ∧
  ((k0_dev15 v0) < nD) ∧
  ((k0_dev18 v0) < nD) ∧
  ((k0_dev19 v0) < nD) ∧
  ((k0_dev22 v0) < nD) ∧
  ((k0_dev23 v0) < nD) ∧
  ((k0_dev26 v0) < nD) ∧
  ((k0_dev28 v0) < nD)
theorem k0_dev1_lt : ∀ (v0 : BitVec 32) (k0_hw1 : k0_chk1 v0), (k0_dev1 v0) < nD := fun v0 k0_hw1 => k0_hw1.1
theorem k0_dev4_lt : ∀ (v0 : BitVec 32) (k0_hw1 : k0_chk1 v0), (k0_dev4 v0) < nD := fun v0 k0_hw1 => k0_hw1.2.1
theorem k0_dev6_lt : ∀ (v0 : BitVec 32) (k0_hw1 : k0_chk1 v0), (k0_dev6 v0) < nD := fun v0 k0_hw1 => k0_hw1.2.2.1
theorem k0_dev7_lt : ∀ (v0 : BitVec 32) (k0_hw1 : k0_chk1 v0), (k0_dev7 v0) < nD := fun v0 k0_hw1 => k0_hw1.2.2.2.1
theorem k0_dev10_lt : ∀ (v0 : BitVec 32) (k0_hw1 : k0_chk1 v0), (k0_dev10 v0) < nD := fun v0 k0_hw1 => k0_hw1.2.2.2.2.1
theorem k0_dev11_lt : ∀ (v0 : BitVec 32) (k0_hw1 : k0_chk1 v0), (k0_dev11 v0) < nD := fun v0 k0_hw1 => k0_hw1.2.2.2.2.2.1
theorem k0_dev14_lt : ∀ (v0 : BitVec 32) (k0_hw1 : k0_chk1 v0), (k0_dev14 v0) < nD := fun v0 k0_hw1 => k0_hw1.2.2.2.2.2.2.1
theorem k0_dev15_lt : ∀ (v0 : BitVec 32) (k0_hw1 : k0_chk1 v0), (k0_dev15 v0) < nD := fun v0 k0_hw1 => k0_hw1.2.2.2.2.2.2.2.1
theorem k0_dev18_lt : ∀ (v0 : BitVec 32) (k0_hw1 : k0_chk1 v0), (k0_dev18 v0) < nD := fun v0 k0_hw1 => k0_hw1.2.2.2.2.2.2.2.2.1
theorem k0_dev19_lt : ∀ (v0 : BitVec 32) (k0_hw1 : k0_chk1 v0), (k0_dev19 v0) < nD := fun v0 k0_hw1 => k0_hw1.2.2.2.2.2.2.2.2.2.1
theorem k0_dev22_lt : ∀ (v0 : BitVec 32) (k0_hw1 : k0_chk1 v0), (k0_dev22 v0) < nD := fun v0 k0_hw1 => k0_hw1.2.2.2.2.2.2.2.2.2.2.1
theorem k0_dev23_lt : ∀ (v0 : BitVec 32) (k0_hw1 : k0_chk1 v0), (k0_dev23 v0) < nD := fun v0 k0_hw1 => k0_hw1.2.2.2.2.2.2.2.2.2.2.2.1
theorem k0_dev26_lt : ∀ (v0 : BitVec 32) (k0_hw1 : k0_chk1 v0), (k0_dev26 v0) < nD := fun v0 k0_hw1 => k0_hw1.2.2.2.2.2.2.2.2.2.2.2.2.1
theorem k0_dev28_lt : ∀ (v0 : BitVec 32) (k0_hw1 : k0_chk1 v0), (k0_dev28 v0) < nD := fun v0 k0_hw1 => k0_hw1.2.2.2.2.2.2.2.2.2.2.2.2.2

def k0_off14 (v531 : BitVec 32) : Fin 2 → Nat :=
  let c256_i32_604 : BitVec 32 := 256#32
  let v537 : BitVec 32 := Scalar.muli v531 c256_i32_604
  let c0_i32_605 : BitVec 32 := 0#32
  let v538 : BitVec 32 := Scalar.addi v537 c0_i32_605
  let v539 : Index := Scalar.indexCast v538
  let c0_606 : Index := 0#32
  ![v539.toNat, 0]

def k0_chk15 (v531 : BitVec 32) : Prop :=
  (∀ a, (k0_off14 v531) a + S256x128.size a ≤ S4096x128.size a)
theorem k0_off14_inb : ∀ (v531 : BitVec 32) (k0_hw15 : k0_chk15 v531), ∀ a, (k0_off14 v531) a + S256x128.size a ≤ S4096x128.size a := fun v531 k0_hw15 => k0_hw15

def k0_off15 (v543 : BitVec 32) : Fin 2 → Nat :=
  let c256_i32_615 : BitVec 32 := 256#32
  let v549 : BitVec 32 := Scalar.muli v543 c256_i32_615
  let c0_i32_616 : BitVec 32 := 0#32
  let v550 : BitVec 32 := Scalar.addi v549 c0_i32_616
  let v551 : Index := Scalar.indexCast v550
  let c0_617 : Index := 0#32
  ![v551.toNat, 0]

def k0_chk16 (v543 : BitVec 32) : Prop :=
  (∀ a, (k0_off15 v543) a + S256x128.size a ≤ S4096x128.size a)
theorem k0_off15_inb : ∀ (v543 : BitVec 32) (k0_hw16 : k0_chk16 v543), ∀ a, (k0_off15 v543) a + S256x128.size a ≤ S4096x128.size a := fun v543 k0_hw16 => k0_hw16

def k0_off16 (v583 : BitVec 32) : Fin 2 → Nat :=
  let c256_i32_663 : BitVec 32 := 256#32
  let v589 : BitVec 32 := Scalar.muli v583 c256_i32_663
  let c0_i32_664 : BitVec 32 := 0#32
  let v590 : BitVec 32 := Scalar.addi v589 c0_i32_664
  let v591 : Index := Scalar.indexCast v590
  let c0_665 : Index := 0#32
  ![v591.toNat, 0]

def k0_chk17 (v583 : BitVec 32) : Prop :=
  (∀ a, (k0_off16 v583) a + S128x128.size a ≤ S4096x128.size a)
theorem k0_off16_inb : ∀ (v583 : BitVec 32) (k0_hw17 : k0_chk17 v583), ∀ a, (k0_off16 v583) a + S128x128.size a ≤ S4096x128.size a := fun v583 k0_hw17 => k0_hw17

def k0_off17 (v595 : BitVec 32) : Fin 2 → Nat :=
  let c256_i32_673 : BitVec 32 := 256#32
  let v601 : BitVec 32 := Scalar.muli v595 c256_i32_673
  let c128_i32_674 : BitVec 32 := 128#32
  let v602 : BitVec 32 := Scalar.addi v601 c128_i32_674
  let v603 : Index := Scalar.indexCast v602
  let c0_675 : Index := 0#32
  ![v603.toNat, 0]

def k0_chk18 (v595 : BitVec 32) : Prop :=
  (∀ a, (k0_off17 v595) a + S128x128.size a ≤ S4096x128.size a)
theorem k0_off17_inb : ∀ (v595 : BitVec 32) (k0_hw18 : k0_chk18 v595), ∀ a, (k0_off17 v595) a + S128x128.size a ≤ S4096x128.size a := fun v595 k0_hw18 => k0_hw18

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealProto.lean ====
/- The ring all-gather's protocol: the ring, the cells, the landing sets, the schedule of duties, the levels and what a
   device owes. Stated for any contents `X` of the row blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Rounds
public import Idealize.ShloMosaic.Lib.Release
public import Idealize.ShloMosaic.Lib.Tactic
public import Idealize.ShloMosaic.Lib.Pipeline.Value
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The next device clockwise. -/
def rt : Dev nD → Dev nD := ![4, 2, 6, 0, 8, 1, 10, 3, 12, 5, 14, 7, 13, 9, 15, 11]
/-- The device before. -/
def lt : Dev nD → Dev nD := ![3, 5, 1, 7, 0, 9, 2, 11, 4, 13, 6, 15, 8, 12, 10, 14]

theorem rt_lt (c : Dev nD) : rt (lt c) = c := by revert c; decide
theorem lt_rt (c : Dev nD) : lt (rt c) = c := by revert c; decide

/-- Where direction `b`'s copies go (`true`: clockwise), and where they come from. -/
def out : Bool → Dev nD → Dev nD | true => rt | false => lt
def inn : Bool → Dev nD → Dev nD | true => lt | false => rt

@[simp] theorem out_inn (b : Bool) (c : Dev nD) : out b (inn b c) = c := by cases b; exacts [lt_rt c, rt_lt c]
@[simp] theorem inn_out (b : Bool) (c : Dev nD) : inn b (out b c) = c := by cases b; exacts [rt_lt c, lt_rt c]
theorem out_not (b : Bool) (c : Dev nD) : out (!b) c = inn b c := by cases b <;> rfl

/-- The direction's ring as a permutation. -/
def outE (b : Bool) : Dev nD ≃ Dev nD := ⟨out b, inn b, inn_out b, out_inn b⟩

/-- Whose row block hop `k` of direction `b` brings to `c`. -/
def orig (b : Bool) (k : ℕ) (c : Dev nD) : Dev nD := (inn b)^[k + 1] c

@[simp] theorem orig_out (b : Bool) (k : ℕ) (c : Dev nD) : orig b (k + 1) (out b c) = orig b k c := by
  unfold orig; rw [Function.iterate_succ_apply, inn_out]
@[simp] theorem orig_out_zero (b : Bool) (c : Dev nD) : orig b 0 (out b c) = c := inn_out b c

/-! ## Buffers and views -/

/-- Direction `b`'s landing buffer. -/
def bufM : Bool → Memref sig .tc .vmem S3x256x4096 .f32
  | true => Memref.whole cc0_scratch0
  | false => Memref.whole cc0_scratch1

theorem slot_inb (s : ℕ) : ∀ a, (![s % 3, 0, 0] : Fin 3 → ℕ) a + S1x256x4096.size a ≤ S3x256x4096.size a := by
  have := Nat.mod_lt s (by decide : 0 < 3)
  intro a; fin_cases a <;> simp <;> omega
theorem half_inb (s : ℕ) (t : Bool) : ∀ a, (![s % 3, cond t 0 128, 0] : Fin 3 → ℕ) a + S1x128x4096.size a ≤ S3x256x4096.size a := by
  have := Nat.mod_lt s (by decide : 0 < 3)
  intro a; cases t <;> fin_cases a <;> simp <;> omega

/-- Slot `s` (mod 3) of direction `b`'s buffer, as a matrix. -/
abbrev slotM (b : Bool) (s : ℕ) : Memref sig .tc .vmem S256x4096 .f32 :=
  ((bufM b).slice (Rect.unit (s := S3x256x4096) ![s % 3, 0, 0] S1x256x4096.size (slot_inb s)) (fun _ => rfl)).squeeze S256x4096 squeezes_S1x256x4096_S256x4096
/-- The top (`t`) or bottom half of its rows. -/
abbrev halfM (b : Bool) (s : ℕ) (t : Bool) : Memref sig .tc .vmem S128x4096 .f32 :=
  ((bufM b).slice (Rect.unit (s := S3x256x4096) ![s % 3, cond t 0 128, 0] S1x128x4096.size (half_inb s t)) (fun _ => rfl)).squeeze S128x4096 squeezes_S1x128x4096_S128x4096

abbrev xM : Memref sig .tc .vmem S256x4096 .f32 := Memref.whole cc0_stg0_0

/-- The elements hop `k` lands on: a whole slot, but the last hop half a slot. -/
def lset (b : Bool) (k : ℕ) : Finset (bufM b).view.ty.Idx :=
  if k = 7 then (halfM b 1 b).view.set else (slotM b k).view.set
/-- The elements hop `k + 1` is copied from. -/
def sset (b : Bool) (k : ℕ) : Finset (bufM b).view.ty.Idx :=
  if k = 6 then (halfM b 0 b).view.set else (slotM b k).view.set

variable (X : Dev nD → (S256x4096.Idx → Elt F .f32))

/-- Row block `e` in every slot of direction `b`'s buffer. -/
def bigx (b : Bool) (e : Dev nD) : (bufM b).view.ty.Contents (Elt F) :=
  match b with
  | true => fun (i : S3x256x4096.Idx) => X e (fun | 0 => i 1 | 1 => i 2)
  | false => fun (i : S3x256x4096.Idx) => X e (fun | 0 => i 1 | 1 => i 2)

/-- The top or bottom half of a row block. -/
def halfX (t : Bool) (x : S256x4096.Idx → Elt F .f32) : S128x4096.Idx → Elt F .f32 :=
  fun i => x (fun | 0 => ⟨(i 0).val + cond t 0 128, by
      have h : (i 0).val < 128 := (i 0).isLt
      show _ < 256; cases t <;> simp <;> omega⟩ | 1 => i 1)

theorem read_slot (b : Bool) (s : ℕ) (e : Dev nD) : (slotM b s).view.read (Elt F) (bigx X b e) = X e := by
  rw [Memref.read_squeeze_slice (hc := shapeCasts_S1x256x4096_S256x4096)]
  funext i
  have h := Shape.reshapeEquiv_cons_one (n := 2) (d := S256x4096.size) rfl i
  have h' : ∀ g : S1x256x4096.Idx → Elt F .f32, shapeCast S256x4096 g shapeCasts_S1x256x4096_S256x4096 i
      = g (Fin.cons ⟨0, Nat.one_pos⟩ i) := fun g => congrArg g h
  rw [h']
  cases b <;>
  · show X e _ = X e _
    refine congrArg (X e) (funext fun a => ?_)
    fin_cases a
    · exact Fin.ext (by show 0 + 1 * (i 0).val = _; simp)
    · exact Fin.ext (by show 0 + 1 * (i 1).val = _; simp)

theorem read_half (b : Bool) (s : ℕ) (t : Bool) (e : Dev nD) : (halfM b s t).view.read (Elt F) (bigx X b e) = halfX t (X e) := by
  rw [Memref.read_squeeze_slice (hc := shapeCasts_S1x128x4096_S128x4096)]
  funext i
  have h := Shape.reshapeEquiv_cons_one (n := 2) (d := S128x4096.size) rfl i
  have h' : ∀ g : S1x128x4096.Idx → Elt F .f32, shapeCast S128x4096 g shapeCasts_S1x128x4096_S128x4096 i
      = g (Fin.cons ⟨0, Nat.one_pos⟩ i) := fun g => congrArg g h
  rw [h']
  cases b <;>
  · show X e _ = X e _
    refine congrArg (X e) (funext fun a => ?_)
    fin_cases a
    · exact Fin.ext (by show cond t 0 128 + 1 * (i 0).val = (i 0).val + cond t 0 128; omega)
    · exact Fin.ext (by show 0 + 1 * (i 1).val = _; simp)

/-! ## Ghost state -/

abbrev Key : Type := Dev nD × Bool × ℕ
abbrev UP : Type := UR sig nD τ
abbrev UT : Type := URounds (GSem nD τ sig) ℕ
abbrev US : Type := Release.USlots Key
abbrev UU : Type := UP × (UT × US)

local notation "𝕄" => MT nD τ sig ℕ (Elt F) ℕ UU ℕ

abbrev EP : Emb UP (MT nD τ sig ℕ (Elt F) ℕ UU ℕ) := embL
def ER : Emb UT (MT nD τ sig ℕ (Elt F) ℕ UU ℕ) := (Emb.inl : Emb UT (UT × US)).trans (embR : Emb (UT × US) 𝕄)
def EL : Emb US (MT nD τ sig ℕ (Elt F) ℕ UU ℕ) := (Emb.inr : Emb US (UT × US)).trans (embR : Emb (UT × US) 𝕄)

instance ER_landsIn : (ER : Emb UT 𝕄).LandsIn (upEmb : UEmb _ 𝕄) := by unfold ER; infer_instance
instance EL_landsIn : (EL : Emb US 𝕄).LandsIn (upEmb : UEmb _ 𝕄) := by unfold EL; infer_instance

/-! ## Cells -/

/-- What a semaphore is for: the barrier; a send counter, a landing counter of a direction's slot; a direction's credits. -/
inductive Kind where
  | bar | snd (b : Bool) (s : ℕ) | rcv (b : Bool) (s : ℕ) | crd (b : Bool) | other
deriving DecidableEq

def sS (b : Bool) (k : ℕ) : DmaSem sig := ⟨cond b 6 12 + k % 3, by have := Nat.mod_lt k (by decide : 0 < 3); show _ < 18; cases b <;> simp <;> omega⟩
def rS (b : Bool) (k : ℕ) : DmaSem sig := ⟨cond b 9 15 + k % 3, by have := Nat.mod_lt k (by decide : 0 < 3); show _ < 18; cases b <;> simp <;> omega⟩
def cS : Bool → Sem sig | true => (0 : Fin 3) | false => (1 : Fin 3)

def kindOf : SemLoc sig → Kind
  | .reg i => if i.val = 2 then .bar else .crd (i.val = 0)
  | .dma i => if i.val < 6 then .other else if i.val < 9 then .snd true (i.val - 6) else if i.val < 12 then .rcv true (i.val - 9)
      else if i.val < 15 then .snd false (i.val - 12) else .rcv false (i.val - 15)

theorem mod3_cases (k : ℕ) : k % 3 = 0 ∨ k % 3 = 1 ∨ k % 3 = 2 := by omega

theorem kind_bar : kindOf (.reg barrier0) = .bar := rfl
theorem kind_snd (b : Bool) (k : ℕ) : kindOf (.dma (sS b k)) = .snd b (k % 3) := by
  unfold sS; rcases mod3_cases k with h | h | h <;> cases b <;> simp only [h] <;> first | done | rfl
theorem kind_rcv (b : Bool) (k : ℕ) : kindOf (.dma (rS b k)) = .rcv b (k % 3) := by
  unfold rS; rcases mod3_cases k with h | h | h <;> cases b <;> simp only [h] <;> first | done | rfl
theorem kind_crd (b : Bool) : kindOf (.reg (cS b)) = .crd b := by cases b <;> rfl

abbrev barCell (c : Dev nD) : GSem nD τ sig := ((c : Thread nD τ), .reg barrier0)
abbrev scell (b : Bool) (c : Dev nD) (k : ℕ) : GSem nD τ sig := ((c : Thread nD τ), .dma (sS b k))
abbrev rcell (b : Bool) (c : Dev nD) (k : ℕ) : GSem nD τ sig := ((c : Thread nD τ), .dma (rS b k))
abbrev ccell (b : Bool) (c : Dev nD) : GSem nD τ sig := ((c : Thread nD τ), .reg (cS b))

theorem sS_mod (b : Bool) (k : ℕ) : sS b (k % 3) = sS b k := by unfold sS; simp
theorem rS_mod (b : Bool) (k : ℕ) : rS b (k % 3) = rS b k := by unfold rS; simp

/-- The bytes' credit of hop `k`. -/
def Nof (k : ℕ) : ℕ := if k = 7 then (halfM true 1 true).view.dmaCredit else (slotM true 0).view.dmaCredit
theorem Nof_pos (k : ℕ) : 0 < Nof k := by
  unfold Nof; split <;> exact View.dmaCredit_pos _ (by decide)
theorem amt_slot (b : Bool) (k : ℕ) (hk : k ≠ 7) (s : ℕ) : (slotM b s).view.dmaCredit = Nof k := by
  unfold Nof; exact (if_neg hk).symm
theorem amt_half (b : Bool) (s : ℕ) (t : Bool) : (halfM b s t).view.dmaCredit = Nof 7 := by
  unfold Nof; exact (if_pos rfl).symm
theorem amt_x (k : ℕ) (hk : k ≠ 7) : xM.view.dmaCredit = Nof k := by
  unfold Nof; exact (if_neg hk).symm

/-! ## Payloads -/

/-- Elements `I` of direction `b`'s buffer on `c`. -/
abbrev bpts (b : Bool) (c : Dev nD) (I : Finset (bufM b).view.ty.Idx) (q : PosShare TreeShare) (f : (bufM b).view.ty.Contents (Elt F)) : sProp 𝕄 :=
  (bufM b).view.loc (c : Thread nD τ) ↦[I]{q} f
/-- The same at contents not chosen. -/
abbrev bany (b : Bool) (c : Dev nD) (I : Finset (bufM b).view.ty.Idx) : sProp 𝕄 := iprop(∃ f, bpts b c I fullShare f)

abbrev xpts (c : Dev nD) (q : PosShare TreeShare) : sProp 𝕄 :=
  xM.view.loc (c : Thread nD τ) ↦[xM.view.set]{q} (X c : S256x4096.Idx → Elt F .f32)

/-- The share of the own row block each direction's first copy reads. -/
def xq : Bool → PosShare TreeShare | true => fullShare.left | false => fullShare.right.left

/-- What hop `k`'s send counter gives back: the elements it was copied from. -/
def sndPay (b : Bool) (k : ℕ) (c : Dev nD) : sProp 𝕄 :=
  match k with
  | 0 => xpts X c (xq b)
  | k + 1 => bpts b c (sset b k) fullShare.right (bigx X b (orig b k c))
/-- What hop `k`'s landing counter gives: the landed elements. -/
def rcvPay (b : Bool) (k : ℕ) (c : Dev nD) : sProp 𝕄 := bpts b c (lset b k) fullShare (bigx X b (orig b k c))

/-- On `c`, the slot of hop `k` is free again and its landing round is reached. -/
def fct (b : Bool) (c : Dev nD) (k : ℕ) : sProp 𝕄 :=
  iprop(reached ER (rcell b c k) (k / 3) ∗ Release.released EL ((c, b, k) : Key) 1)
/-- Credit `j` onto `c`'s credit counter. -/
def crdPay (b : Bool) (j : ℕ) (c : Dev nD) : sProp 𝕄 := bigSep (Finset.Icc 3 (j + 2)) (fct (F := F) b (out b c))

instance fct_persistent (b : Bool) (c : Dev nD) (k : ℕ) : BI.Persistent (fct (F := F) b c k) := by unfold fct; infer_instance
instance crdPay_persistent (b : Bool) (j : ℕ) (c : Dev nD) : BI.Persistent (crdPay (F := F) b j c) := by unfold crdPay; infer_instance

/-- What `c` needs to start hop `k` besides its source: the elements it lands on, their landing round reached. -/
def land (b : Bool) (c : Dev nD) (k : ℕ) : sProp 𝕄 :=
  iprop(bany (F := F) b (out b c) (lset b k) ∗ reached ER (rcell b (out b c) k) (k / 3))

/-- What the barrier hands `d` of direction `b`: its first three landings, and the way back for credits. -/
def barPay (b : Bool) (d : Dev nD) : sProp 𝕄 :=
  iprop(bigSep (Finset.Ico 0 3) (land (F := F) b d) ∗ reached ER (ccell (!b) (out b d)) 0)

/-! ## The schedule -/

def Rd : Rounds.Schedule (GSem nD τ sig) ℕ 𝕄 where
  duties g r := if g.1.2 = .tc then
      match kindOf g.2 with
      | .bar => if r = 0 then {0, 1} else ∅
      | .snd _ s => if 3 * r + s < 8 then {0} else ∅
      | .rcv _ s => if 3 * r + s < 8 then {0} else ∅
      | .crd _ => if r = 0 then Finset.Icc 1 5 else ∅
      | .other => ∅
    else ∅
  unitless _ := False
  amount g r _ := match kindOf g.2 with
    | .snd _ s => Nof (3 * r + s)
    | .rcv _ s => Nof (3 * r + s)
    | _ => 1
  payload g r d := match kindOf g.2 with
    | .bar => barPay (F := F) (d == 0) g.1.1
    | .snd b s => sndPay X b (3 * r + s) g.1.1
    | .rcv b s => rcvPay X b (3 * r + s) g.1.1
    | .crd b => crdPay (F := F) b d g.1.1
    | .other => iprop(emp)
  amount_pos g r d _ := by split <;> first | exact Nof_pos _ | exact Nat.one_pos

instance sndPay_storable (b : Bool) (k : ℕ) (c : Dev nD) : BI.Storable (upEmb : UEmb _ 𝕄) (sndPay X b k c) := by
  unfold sndPay; split <;> infer_instance
instance rcvPay_storable (b : Bool) (k : ℕ) (c : Dev nD) : BI.Storable (upEmb : UEmb _ 𝕄) (rcvPay X b k c) := by
  unfold rcvPay; infer_instance
instance fct_storable (b : Bool) (k : ℕ) (c : Dev nD) : BI.Storable (upEmb : UEmb _ 𝕄) (fct (F := F) b c k) := by
  unfold fct Release.released; infer_instance
instance crdPay_storable (b : Bool) (k : ℕ) (c : Dev nD) : BI.Storable (upEmb : UEmb _ 𝕄) (crdPay (F := F) b k c) := by
  unfold crdPay; infer_instance
instance land_storable (b : Bool) (k : ℕ) (c : Dev nD) : BI.Storable (upEmb : UEmb _ 𝕄) (land (F := F) b c k) := by
  unfold land; infer_instance
instance barPay_storable (b : Bool) (c : Dev nD) : BI.Storable (upEmb : UEmb _ 𝕄) (barPay (F := F) b c) := by
  unfold barPay; infer_instance

instance Rd_storable (g : GSem nD τ sig) (r : ℕ) (d : ℕ) : BI.Storable (upEmb : UEmb _ 𝕄) ((Rd X).payload g r d) := by
  dsimp only [Rd]; split <;> infer_instance

theorem hop_eq (k : ℕ) : 3 * (k / 3) + k % 3 = k := by omega

theorem duties_bar (c : Dev nD) : (Rd X).duties (barCell c) 0 = {0, 1} := rfl
theorem duties_snd (b : Bool) (c : Dev nD) (k : ℕ) (hk : k < 8) : (Rd X).duties (scell b c k) (k / 3) = {0} := by
  dsimp only [Rd]; rw [if_pos rfl, kind_snd]; dsimp only; rw [hop_eq, if_pos hk]
theorem duties_rcv (b : Bool) (c : Dev nD) (k : ℕ) (hk : k < 8) : (Rd X).duties (rcell b c k) (k / 3) = {0} := by
  dsimp only [Rd]; rw [if_pos rfl, kind_rcv]; dsimp only; rw [hop_eq, if_pos hk]
theorem duties_crd (b : Bool) (c : Dev nD) : (Rd X).duties (ccell b c) 0 = Finset.Icc 1 5 := by
  dsimp only [Rd]; rw [if_pos rfl, kind_crd]; rfl

theorem amount_bar (c : Dev nD) (d : ℕ) : (Rd X).amount (barCell c) 0 d = 1 := rfl
theorem amount_snd (b : Bool) (c : Dev nD) (k d : ℕ) : (Rd X).amount (scell b c k) (k / 3) d = Nof k := by
  dsimp only [Rd]; rw [kind_snd]; dsimp only; rw [hop_eq]
theorem amount_rcv (b : Bool) (c : Dev nD) (k d : ℕ) : (Rd X).amount (rcell b c k) (k / 3) d = Nof k := by
  dsimp only [Rd]; rw [kind_rcv]; dsimp only; rw [hop_eq]
theorem amount_crd (b : Bool) (c : Dev nD) (d : ℕ) : (Rd X).amount (ccell b c) 0 d = 1 := by
  dsimp only [Rd]; rw [kind_crd]

theorem payload_bar (c : Dev nD) (d : ℕ) : (Rd X).payload (barCell c) 0 d = barPay (F := F) (d == 0) c := rfl
theorem payload_snd (b : Bool) (c : Dev nD) (k d : ℕ) : (Rd X).payload (scell b c k) (k / 3) d = sndPay X b k c := by
  dsimp only [Rd]; rw [kind_snd]; dsimp only; rw [hop_eq]
theorem payload_rcv (b : Bool) (c : Dev nD) (k d : ℕ) : (Rd X).payload (rcell b c k) (k / 3) d = rcvPay X b k c := by
  dsimp only [Rd]; rw [kind_rcv]; dsimp only; rw [hop_eq]
theorem payload_crd (b : Bool) (c : Dev nD) (d : ℕ) : (Rd X).payload (ccell b c) 0 d = crdPay (F := F) b d c := by
  dsimp only [Rd]; rw [kind_crd]

theorem expect_bar (c : Dev nD) : (Rd X).expect (barCell c) 0 = 2 := by
  unfold Schedule.expect Schedule.amountOf; rw [duties_bar]; rfl
theorem expect_snd (b : Bool) (c : Dev nD) (k : ℕ) (hk : k < 8) : (Rd X).expect (scell b c k) (k / 3) = Nof k := by
  unfold Schedule.expect Schedule.amountOf; rw [duties_snd X b c k hk, Finset.sum_singleton, amount_snd]
theorem expect_rcv (b : Bool) (c : Dev nD) (k : ℕ) (hk : k < 8) : (Rd X).expect (rcell b c k) (k / 3) = Nof k := by
  unfold Schedule.expect Schedule.amountOf; rw [duties_rcv X b c k hk, Finset.sum_singleton, amount_rcv]
theorem expect_crd (b : Bool) (c : Dev nD) : (Rd X).expect (ccell b c) 0 = 5 := by
  unfold Schedule.expect Schedule.amountOf; rw [duties_crd, Finset.sum_congr rfl (fun d _ => amount_crd X b c d)]; rfl

theorem later_bar (c : Dev nD) : ∀ r, 1 ≤ r → (Rd X).duties (barCell c) r = ∅ := fun r hr => by
  dsimp only [Rd]; rw [if_pos rfl, kind_bar]; exact if_neg (by omega)
theorem later_snd (b : Bool) (c : Dev nD) (s R : ℕ) (hR : 8 ≤ 3 * R + s % 3) : ∀ r, R ≤ r → (Rd X).duties (scell b c s) r = ∅ := fun r hr => by
  dsimp only [Rd]; rw [if_pos rfl, kind_snd]; exact if_neg (by omega)
theorem later_rcv (b : Bool) (c : Dev nD) (s R : ℕ) (hR : 8 ≤ 3 * R + s % 3) : ∀ r, R ≤ r → (Rd X).duties (rcell b c s) r = ∅ := fun r hr => by
  dsimp only [Rd]; rw [if_pos rfl, kind_rcv]; exact if_neg (by omega)
theorem later_crd (b : Bool) (c : Dev nD) : ∀ r, 1 ≤ r → (Rd X).duties (ccell b c) r = ∅ := fun r hr => by
  dsimp only [Rd]; rw [if_pos rfl, kind_crd]; exact if_neg (by omega)

/-! ## Levels, and what is owed -/

def L (g : GSem nD τ sig) : Finset ℕ := if g.1.2 = .tc then Finset.range 8 else ∅
/-- The barrier first, then per hop the landing and, above it, the credit given after it; own sends wait for no one. -/
def lv (g : GSem nD τ sig) (i : ℕ) : ℕ :=
  match kindOf g.2 with
  | .bar => 1
  | .rcv _ _ => 2 * i + 2
  | .crd _ => 2 * i + 3
  | _ => 0

theorem L_tc (c : Dev nD) (sm : SemLoc sig) : L ((c : Thread nD τ), sm) = Finset.range 8 := if_pos rfl
theorem L_of_ne (g : GSem nD τ sig) (h : g.1.2 ≠ .tc) : L g = ∅ := if_neg h
theorem lv_bar (c : Dev nD) (i : ℕ) : lv (barCell c) i = 1 := rfl
theorem lv_snd (b : Bool) (c : Dev nD) (k i : ℕ) : lv (scell b c k) i = 0 := by dsimp only [lv]; rw [kind_snd]
theorem lv_rcv (b : Bool) (c : Dev nD) (k i : ℕ) : lv (rcell b c k) i = 2 * i + 2 := by dsimp only [lv]; rw [kind_rcv]
theorem lv_crd (b : Bool) (c : Dev nD) (i : ℕ) : lv (ccell b c) i = 2 * i + 3 := by dsimp only [lv]; rw [kind_crd]

/-- What `c` owes of direction `b`, hops from `k` on not yet started and credits from `j` on not yet given. -/
def Odir (b : Bool) (c : Dev nD) (k j : ℕ) : CellTallies nD τ sig ℕ :=
  (∑ i ∈ Finset.Ico k 8, tallyAt (rcell b (out b c) i) i (Nof i)) + ∑ i ∈ Finset.Ico j 6, tallyAt (ccell b (inn b c)) i 1

/-- What `c` owes at launch. -/
def O₀ (c : Dev nD) : CellTallies nD τ sig ℕ :=
  Odir true c 0 1 + Odir false c 0 1 + tallyAt (barCell (rt c)) 0 1 + tallyAt (barCell (lt c)) 0 1

theorem ico_peel {k n : ℕ} (h : k < n) : Finset.Ico k n = insert k (Finset.Ico (k + 1) n) := by
  ext i; rw [Finset.mem_insert, Finset.mem_Ico, Finset.mem_Ico]; omega
theorem ico_peel_not (k n : ℕ) : k ∉ Finset.Ico (k + 1) n := by rw [Finset.mem_Ico]; omega

theorem Odir_start (b : Bool) (c : Dev nD) (k j : ℕ) (hk : k < 8) :
    Odir b c k j = Odir b c (k + 1) j + tallyAt (rcell b (out b c) k) k (Nof k) := by
  unfold Odir; rw [ico_peel hk, Finset.sum_insert (ico_peel_not _ _)]; ac_rfl
theorem Odir_credit (b : Bool) (c : Dev nD) (k j : ℕ) (hj : j < 6) :
    Odir b c k j = Odir b c k (j + 1) + tallyAt (ccell b (inn b c)) j 1 := by
  unfold Odir; rw [ico_peel hj, Finset.sum_insert (ico_peel_not _ _)]; ac_rfl
theorem Odir_done (b : Bool) (c : Dev nD) : Odir b c 8 6 = 0 := by unfold Odir; simp

theorem tally_pos {g g' : GSem nD τ sig} {i i' n : ℕ} (h : 0 < (tallyAt g' i' n : CellTallies nD τ sig ℕ) g i) : g = g' ∧ i = i' := by
  rw [tallyAt_apply] at h
  by_contra hn
  rw [if_neg hn] at h
  exact absurd h (Nat.lt_irrefl 0)

theorem sum_pos_tally {s : Finset ℕ} {f : ℕ → CellTallies nD τ sig ℕ} {g : GSem nD τ sig} {i : ℕ} (h : 0 < (∑ j ∈ s, f j) g i) :
    ∃ j ∈ s, 0 < f j g i := by
  rw [Finset.sum_apply, Finsupp.finset_sum_apply] at h
  exact Finset.exists_lt_of_sum_lt (by simpa using h)

theorem Odir_pos {b : Bool} {c : Dev nD} {k j : ℕ} {g : GSem nD τ sig} {i : ℕ} (h : 0 < Odir b c k j g i) :
    (k ≤ i ∧ i < 8 ∧ g = rcell b (out b c) i) ∨ (j ≤ i ∧ i < 6 ∧ g = ccell b (inn b c)) := by
  unfold Odir at h
  rw [Pi.add_apply, Finsupp.add_apply] at h
  rcases Nat.add_pos_iff_pos_or_pos.mp h with h | h
  · obtain ⟨m, hm, h⟩ := sum_pos_tally h
    obtain ⟨rfl, rfl⟩ := tally_pos h
    rw [Finset.mem_Ico] at hm
    exact .inl ⟨hm.1, hm.2, rfl⟩
  · obtain ⟨m, hm, h⟩ := sum_pos_tally h
    obtain ⟨rfl, rfl⟩ := tally_pos h
    rw [Finset.mem_Ico] at hm
    exact .inr ⟨hm.1, hm.2, rfl⟩

theorem Odir_L {b : Bool} {c : Dev nD} {k j : ℕ} {g : GSem nD τ sig} {i : ℕ} (h : 0 < Odir b c k j g i) : i ∈ L g := by
  rcases Odir_pos h with ⟨_, h, rfl⟩ | ⟨_, h, rfl⟩ <;> rw [L_tc, Finset.mem_range] <;> omega

/-- What is owed of both directions lies above level `n`. -/
theorem Odir_above {b : Bool} {c : Dev nD} {k j n : ℕ} (hk : n < 2 * k + 2) (hj : n < 2 * j + 3 ∨ 6 ≤ j) {g : GSem nD τ sig} {i : ℕ}
    (h : 0 < Odir b c k j g i) : n < lv g i := by
  rcases Odir_pos h with ⟨h1, _, rfl⟩ | ⟨h1, h2, rfl⟩
  · rw [lv_rcv]; omega
  · rw [lv_crd]; omega

/-- A wait at index `i` of a semaphore at level at most `n`, owing only above `n`. -/
theorem mayWait_of (b b' : Bool) (c : Dev nD) (sm : SemLoc sig) (i n : ℕ) (hi : i < 8) (hn : lv ((c : Thread nD τ), sm) i ≤ n) {k j k' j' : ℕ}
    (hk : n < 2 * k + 2) (hj : n < 2 * j + 3 ∨ 6 ≤ j) (hk' : n < 2 * k' + 2) (hj' : n < 2 * j' + 3 ∨ 6 ≤ j') :
    (levAts L lv : sProp 𝕄) ⊢ MayWait (c : Thread nD τ) sm i (Odir b c k j + Odir b' c k' j') :=
  MayOwe.of_cut (L := L) (lev := lv) n
    (fun p hp => by rw [Finset.mem_singleton.mp hp, L_tc]; exact Finset.mem_range.mpr hi)
    (fun g u hg => by
      rw [Pi.add_apply, Finsupp.add_apply] at hg
      rcases Nat.add_pos_iff_pos_or_pos.mp hg with h | h <;> exact Odir_L h)
    (fun p hp => by rw [Finset.mem_singleton.mp hp]; exact hn)
    (fun g u hg => by
      rw [Pi.add_apply, Finsupp.add_apply] at hg
      rcases Nat.add_pos_iff_pos_or_pos.mp hg with h | h
      · exact Odir_above hk hj h
      · exact Odir_above hk' hj' h)

end Cert.KernelIdeal.Ring

end
-- ==== Proof.KernelIdealSteps.lean ====
/- The protocol's moves: what a device holds of one direction, and how each wait, signal and copy changes it. -/
module

public import proofs.«01_k».proof.Proof.KernelIdealProto

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32))

/-! ## The records shared by all -/

/-- The region's own semaphores: the two credit counters, then the twelve of the copies. -/
abbrev osem : Fin 14 → SemLoc sig := fun
  | 0 => .reg (0 : Fin 3) | 1 => .reg (1 : Fin 3) | 2 => .dma (6 : Fin 18) | 3 => .dma (7 : Fin 18) | 4 => .dma (8 : Fin 18) | 5 => .dma (9 : Fin 18)
  | 6 => .dma (10 : Fin 18) | 7 => .dma (11 : Fin 18) | 8 => .dma (12 : Fin 18) | 9 => .dma (13 : Fin 18) | 10 => .dma (14 : Fin 18)
  | 11 => .dma (15 : Fin 18) | 12 => .dma (16 : Fin 18) | 13 => .dma (17 : Fin 18)

theorem osem_inj : Function.Injective osem := by decide

def barEmb : Dev nD ↪ GSem nD τ sig := ⟨fun c => barCell c, fun _ _ e => congrArg (fun g => g.1.1) e⟩
def scEmb : Dev nD × Fin 14 ↪ GSem nD τ sig :=
  ⟨fun x => ((x.1 : Thread nD τ), osem x.2), fun _ _ e =>
    Prod.ext (congrArg (fun g => g.1.1) e) (osem_inj (congrArg (fun g : GSem nD τ sig => g.2) e))⟩

def barCells : Finset (GSem nD τ sig) := Finset.univ.map barEmb
def scCells : Finset (GSem nD τ sig) := Finset.univ.map scEmb
def cells : Finset (GSem nD τ sig) := barCells ∪ scCells

theorem mem_bar (c : Dev nD) : barCell c ∈ cells :=
  Finset.mem_union_left _ (Finset.mem_map.mpr ⟨c, Finset.mem_univ _, rfl⟩)
theorem mem_sc (c : Dev nD) (j : Fin 14) (sm : SemLoc sig) (h : sm = osem j) : (((c : Thread nD τ), sm) : GSem nD τ sig) ∈ cells :=
  Finset.mem_union_right _ (Finset.mem_map.mpr ⟨(c, j), Finset.mem_univ _, by rw [h]; rfl⟩)

def sIx (b : Bool) (k : ℕ) : Fin 14 := ⟨cond b 2 8 + k % 3, by have := Nat.mod_lt k (by decide : 0 < 3); cases b <;> simp <;> omega⟩
def rIx (b : Bool) (k : ℕ) : Fin 14 := ⟨cond b 5 11 + k % 3, by have := Nat.mod_lt k (by decide : 0 < 3); cases b <;> simp <;> omega⟩
def cIx : Bool → Fin 14 | true => 0 | false => 1

theorem sS_osem (b : Bool) (k : ℕ) : (.dma (sS b k) : SemLoc sig) = osem (sIx b k) := by
  unfold sS sIx; rcases mod3_cases k with h | h | h <;> cases b <;> simp only [h] <;> rfl
theorem rS_osem (b : Bool) (k : ℕ) : (.dma (rS b k) : SemLoc sig) = osem (rIx b k) := by
  unfold rS rIx; rcases mod3_cases k with h | h | h <;> cases b <;> simp only [h] <;> rfl
theorem cS_osem (b : Bool) : (.reg (cS b) : SemLoc sig) = osem (cIx b) := by cases b <;> rfl

theorem mem_snd (b : Bool) (c : Dev nD) (k : ℕ) : scell b c k ∈ cells := mem_sc c _ _ (sS_osem b k)
theorem mem_rcv (b : Bool) (c : Dev nD) (k : ℕ) : rcell b c k ∈ cells := mem_sc c _ _ (rS_osem b k)
theorem mem_crd (b : Bool) (c : Dev nD) : ccell b c ∈ cells := mem_sc c _ _ (cS_osem b)

/-- The slots lent to a neighbour again after their first use. -/
def keys : Finset Key := Finset.univ ×ˢ (Finset.univ ×ˢ Finset.Icc 3 7)
def slotRes (k : Key) : sProp 𝕄 := bany (F := F) k.2.1 k.1 (lset k.2.1 k.2.2)

theorem mem_key (c : Dev nD) (b : Bool) (k : ℕ) (h : 3 ≤ k) (h' : k < 8) : ((c, b, k) : Key) ∈ keys :=
  Finset.mem_product.mpr ⟨Finset.mem_univ _, Finset.mem_product.mpr ⟨Finset.mem_univ _, Finset.mem_Icc.mpr ⟨h, Nat.le_of_lt_succ h'⟩⟩⟩

variable (K : GSem nD τ sig → ℕ) (ι : Key → ℕ)

/-- The levels of all cells. -/
@[irreducible] def levs : sProp 𝕄 := levAts L lv
instance levs_persistent : BI.Persistent (levs (F := F)) := by unfold levs; infer_instance

@[irreducible] def recs : sProp 𝕄 :=
  iprop(bigSep cells (fun g => cellInv ER (Rd X) (K g) g) ∗ bigSep keys (fun k => Release.slotInv EL (ι k) k (slotRes k)) ∗ levs)

instance recs_persistent : BI.Persistent (recs X K ι) := by unfold recs; infer_instance

theorem recs_cell (g : GSem nD τ sig) (h : g ∈ cells) : recs X K ι ⊢ cellInv ER (Rd X) (K g) g := by
  have e : (bigSep cells (fun g => cellInv ER (Rd X) (K g) g) : sProp 𝕄) ⊢ cellInv ER (Rd X) (K g) g := bigSep_elim h
  unfold recs; iintro ⟨H, -, -⟩; iapply e; iexact H
theorem recs_slot (k : Key) (h : k ∈ keys) : recs X K ι ⊢ Release.slotInv EL (ι k) k (slotRes (F := F) k) := by
  have e : (bigSep keys (fun k => Release.slotInv EL (ι k) k (slotRes (F := F) k)) : sProp 𝕄) ⊢ Release.slotInv EL (ι k) k (slotRes (F := F) k) :=
    bigSep_elim h
  unfold recs; iintro ⟨-, H, -⟩; iapply e; iexact H
theorem recs_levels : recs X K ι ⊢ levs := by
  unfold recs; iintro ⟨-, -, H⟩; iexact H

/-- A wait at index `i` of a semaphore at level at most `n`, owing only above `n`. -/
theorem may_wait (b b' : Bool) (c : Dev nD) (sm : SemLoc sig) (i n : ℕ) (hi : i < 8) (hn : lv ((c : Thread nD τ), sm) i ≤ n) {k j k' j' : ℕ}
    (hk : n < 2 * k + 2) (hj : n < 2 * j + 3 ∨ 6 ≤ j) (hk' : n < 2 * k' + 2) (hj' : n < 2 * j' + 3 ∨ 6 ≤ j') :
    (levs : sProp 𝕄) ⊢ MayWait (c : Thread nD τ) sm i (Odir b c k j + Odir b' c k' j') := by
  unfold levs; exact mayWait_of b b' c sm i n hi hn hk hj hk' hj'

theorem lset_nonempty (b : Bool) (k : ℕ) : (lset b k).Nonempty := by
  unfold lset; split
  · exact View.set_nonempty (by decide)
  · exact View.set_nonempty (by decide)

theorem slot_once (k : Key) : iprop(slotRes (F := F) k ∗ slotRes k) ⊢ (False : sProp 𝕄) := by
  obtain ⟨i, hi⟩ := lset_nonempty k.2.1 k.2.2
  unfold slotRes bany
  iintro ⟨⟨%f, H⟩, ⟨%g, H'⟩⟩
  iapply (pointsTo_full_full_false (ℓ := (bufM k.2.1).view.loc (k.1 : Thread nD τ)) hi hi)
  isplitl [H] <;> iassumption

/-! ## What a device holds of one direction -/

/-- Positions of three counters after `n` waits around them. -/
def pos (g : ℕ → GSem nD τ sig) (n : ℕ) : sProp 𝕄 := bigSep (Finset.range 3) (fun s => atPos ER (g s) ((n + 2 - s) / 3) (∅ : Finset ℕ) 0)
def rchd (g : ℕ → GSem nD τ sig) (n : ℕ) : sProp 𝕄 := bigSep (Finset.range (n + 3)) (fun k => reached (D := ℕ) ER (g k) (k / 3))

instance rchd_persistent (g : ℕ → GSem nD τ sig) (n : ℕ) : BI.Persistent (rchd (F := F) g n) := by unfold rchd; infer_instance

variable (b : Bool) (c : Dev nD)

def credR (n : ℕ) : sProp 𝕄 := bigSep (Finset.Ico n 8) (fun k => cred (tallyAt (rcell b c k) k (Nof k)))
def credS (n m : ℕ) : sProp 𝕄 := bigSep (Finset.Ico n m) (fun k => cred (tallyAt (scell b c k) k (Nof k)))
def tokS (st : ℕ) : sProp 𝕄 := bigSep (Finset.Ico st 8) (fun k =>
  iprop(dutyTok ER (scell b c k) (k / 3) (0 : ℕ) ∗ dutyTok ER (rcell b (out b c) k) (k / 3) (0 : ℕ)))
def tokC (j : ℕ) : sProp 𝕄 := bigSep (Finset.Ico j 6) (fun j =>
  iprop(dutyTok ER (ccell b (inn b c)) 0 (j : ℕ) ∗ Release.readerAt EL ((c, b, j + 2) : Key) 0))
def tokT (k : ℕ) : sProp 𝕄 := bigSep (Finset.Ico k 8) (fun k =>
  iprop(Release.writeTok EL ((out b c, b, k) : Key) 1 ∗ cred (tallyAt (ccell b c) (k - 2) 1)))
def lands (st tk : ℕ) : sProp 𝕄 := bigSep (Finset.Ico st tk) (land (F := F) b c)
def freed (j : ℕ) : sProp 𝕄 := bigSep (Finset.Ico 3 (j + 2)) (fun k => Release.released EL ((c, b, k) : Key) 1)
def posC (k : ℕ) : sProp 𝕄 := iprop(∃ T : Finset ℕ, ⌜T ⊆ Finset.Icc 1 5 ∧ k - 3 ≤ T.card⌝
  ∗ atPos ER (ccell b c) 0 T (k - 3) ∗ bigSep T (fun j => crdPay (F := F) b j c))

instance freed_persistent (j : ℕ) : BI.Persistent (freed (F := F) b c j) := by unfold freed; infer_instance

/-- Direction `b` on `c`, after `nr` landing waits, `ns` send waits, `st` copies started, credits `1` to `cr - 1` given
    and credits for hops `3` to `tk - 1` taken. -/
def Dir (nr ns st cr tk : ℕ) : sProp 𝕄 :=
  iprop(pos (rcell b c) nr ∗ rchd (rcell b c) nr ∗ credR b c nr ∗ pos (scell b c) ns ∗ rchd (scell b c) ns ∗ credS b c ns st
    ∗ tokS b c st ∗ lands b c st tk ∗ tokC b c cr ∗ freed b c cr ∗ reached (D := ℕ) ER (ccell b (inn b c)) 0 ∗ tokT b c tk ∗ posC b c tk)

/-- What `c` owes: `k` copies started and credits up to `j` given of direction `b`; `k'` and `j'` of the other. -/
def Ow (k j k' j' : ℕ) : sProp 𝕄 := iprop(∃ W, owes (c : Thread nD τ) (Odir b c k j + Odir (!b) c k' j') W)

theorem Ow_swap (k j k' j' : ℕ) : (Ow b c k j k' j' : sProp 𝕄) = Ow (!b) c k' j' k j := by
  unfold Ow; rw [Bool.not_not, add_comm]

/-! ## Families -/

theorem take_from {Φ : ℕ → sProp 𝕄} {n m : ℕ} (h : n < m) : bigSep (Finset.Ico n m) Φ = iprop(Φ n ∗ bigSep (Finset.Ico (n + 1) m) Φ) := by
  rw [ico_peel h, bigSep_insert (ico_peel_not _ _)]; rfl
theorem put_end {Φ : ℕ → sProp 𝕄} {n m : ℕ} (h : n ≤ m) : iprop(Φ m ∗ bigSep (Finset.Ico n m) Φ) = bigSep (Finset.Ico n (m + 1)) Φ := by
  rw [show Finset.Ico n (m + 1) = insert m (Finset.Ico n m) from by ext i; rw [Finset.mem_insert, Finset.mem_Ico, Finset.mem_Ico]; omega,
    bigSep_insert (by rw [Finset.mem_Ico]; omega)]; rfl

variable {b c}

theorem credR_take {n : ℕ} (h : n < 8) : (credR b c n : sProp 𝕄) ⊢ iprop(cred (tallyAt (rcell b c n) n (Nof n)) ∗ credR b c (n + 1)) :=
  Entails.of_eq (take_from h)
theorem credS_take {n m : ℕ} (h : n < m) : (credS b c n m : sProp 𝕄) ⊢ iprop(cred (tallyAt (scell b c n) n (Nof n)) ∗ credS b c (n + 1) m) :=
  Entails.of_eq (take_from h)
theorem credS_put {n m : ℕ} (h : n ≤ m) : iprop(cred (tallyAt (scell b c m) m (Nof m)) ∗ credS b c n m) ⊢ (credS b c n (m + 1) : sProp 𝕄) :=
  Entails.of_eq (put_end (Φ := fun k => cred (tallyAt (scell b c k) k (Nof k))) h)
theorem tokS_take {n : ℕ} (h : n < 8) : (tokS b c n : sProp 𝕄)
    ⊢ iprop((dutyTok ER (scell b c n) (n / 3) (0 : ℕ) ∗ dutyTok ER (rcell b (out b c) n) (n / 3) (0 : ℕ)) ∗ tokS b c (n + 1)) :=
  Entails.of_eq (take_from h)
theorem tokC_take {n : ℕ} (h : n < 6) : (tokC b c n : sProp 𝕄)
    ⊢ iprop((dutyTok ER (ccell b (inn b c)) 0 (n : ℕ) ∗ Release.readerAt EL ((c, b, n + 2) : Key) 0) ∗ tokC b c (n + 1)) :=
  Entails.of_eq (take_from h)
theorem tokT_take {n : ℕ} (h : n < 8) : (tokT b c n : sProp 𝕄)
    ⊢ iprop((Release.writeTok EL ((out b c, b, n) : Key) 1 ∗ cred (tallyAt (ccell b c) (n - 2) 1)) ∗ tokT b c (n + 1)) :=
  Entails.of_eq (take_from h)
theorem lands_take {n m : ℕ} (h : n < m) : (lands b c n m : sProp 𝕄) ⊢ iprop(land b c n ∗ lands b c (n + 1) m) :=
  Entails.of_eq (take_from h)
theorem lands_put {n m : ℕ} (h : n ≤ m) : iprop(land b c m ∗ lands b c n m) ⊢ (lands b c n (m + 1) : sProp 𝕄) :=
  Entails.of_eq (put_end (Φ := land (F := F) b c) h)
theorem freed_put {j : ℕ} (h : 1 ≤ j) : iprop(Release.released EL ((c, b, j + 2) : Key) 1 ∗ freed b c j) ⊢ (freed b c (j + 1) : sProp 𝕄) :=
  Entails.of_eq (put_end (Φ := fun k => (Release.released EL ((c, b, k) : Key) 1 : sProp 𝕄)) (by omega))

variable (b c)

theorem pos_step (g : ℕ → GSem nD τ sig) (hg : ∀ k, g (k % 3) = g k) (n : ℕ) :
    (pos g n : sProp 𝕄) ⊢ iprop(atPos ER (g n) (n / 3) (∅ : Finset ℕ) 0 ∗ (atPos ER (g n) (n / 3 + 1) (∅ : Finset ℕ) 0 -∗ pos g (n + 1))) := by
  have hm : n % 3 ∈ Finset.range 3 := Finset.mem_range.mpr (Nat.mod_lt _ (by decide))
  unfold pos
  rw [bigSep_erase hm, bigSep_erase hm, hg, show (n + 2 - n % 3) / 3 = n / 3 from by omega, show (n + 1 + 2 - n % 3) / 3 = n / 3 + 1 from by omega,
    bigSep_congr (s := (Finset.range 3).erase (n % 3)) (Φ := fun s => atPos ER (g s) ((n + 2 - s) / 3) (∅ : Finset ℕ) 0)
      (Ψ := fun s => atPos ER (g s) ((n + 1 + 2 - s) / 3) (∅ : Finset ℕ) 0) (fun s hs => by
        rw [Finset.mem_erase, Finset.mem_range] at hs
        rw [show (n + 2 - s) / 3 = (n + 1 + 2 - s) / 3 from by omega])]
  show iprop(_ ∗ _) ⊢ iprop(_ ∗ (_ -∗ iprop(_ ∗ _)))
  iintro ⟨H, HR⟩
  isplitl [H]; · iexact H
  iintro H
  isplitl [H]; · iexact H
  iexact HR

theorem rchd_step (g : ℕ → GSem nD τ sig) (hg : ∀ k, g (k % 3) = g k) (n : ℕ) :
    iprop(rchd g n ∗ reached (D := ℕ) ER (g n) (n / 3 + 1)) ⊢ (rchd g (n + 1) : sProp 𝕄) := by
  unfold rchd
  rw [Finset.range_add_one (n := n + 3), bigSep_insert Finset.notMem_range_self, show (n + 3) / 3 = n / 3 + 1 from by omega,
    ← hg (n + 3), show (n + 3) % 3 = n % 3 from by omega, hg]
  show _ ⊢ iprop(_ ∗ _)
  iintro ⟨H, H'⟩
  isplitl [H'] <;> iassumption

theorem rchd_get (g : ℕ → GSem nD τ sig) (n k : ℕ) (h : k < n + 3) : (rchd g n : sProp 𝕄) ⊢ reached (D := ℕ) ER (g k) (k / 3) := by
  unfold rchd; exact bigSep_elim (Finset.mem_range.mpr h)

theorem scell_mod (k : ℕ) : scell b c (k % 3) = scell b c k := by unfold scell; rw [sS_mod]
theorem rcell_mod (k : ℕ) : rcell b c (k % 3) = rcell b c k := by unfold rcell; rw [rS_mod]

/-- The facts a credit carries. -/
theorem crd_facts (nr cr : ℕ) (h : cr ≤ nr) :
    iprop(rchd (rcell b c) nr ∗ freed b c (cr + 1)) ⊢ (crdPay b cr (inn b c) : sProp 𝕄) := by
  unfold crdPay rchd freed
  have e : Finset.Icc 3 (cr + 2) = Finset.Ico 3 (cr + 1 + 2) := by ext i; rw [Finset.mem_Icc, Finset.mem_Ico]; omega
  rw [out_inn, e]
  have h1 := bigSep_subset (s := Finset.range (nr + 3)) (t := Finset.Ico 3 (cr + 1 + 2)) (fun i hi => by
    rw [Finset.mem_Ico] at hi; rw [Finset.mem_range]; omega) (Φ := fun k => (reached (D := ℕ) ER (rcell b c k) (k / 3) : sProp 𝕄))
  refine (sep_mono_left h1).trans ?_
  exact Entails.of_eq (bigSep_sep _ _ _).symm

end Cert.KernelIdeal.Ring

end
-- ==== Proof.KernelIdealMoves.lean ====
/- The protocol's moves as rules: a landing wait, a send wait, a credit given, a credit taken, a copy started. -/
module

public import proofs.«01_k».proof.Proof.KernelIdealSteps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

variable (X : Dev nD → (S256x4096.Idx → Elt F .f32)) (K : GSem nD τ sig → ℕ) (ι : Key → ℕ)

/-- A run of a piece of the body on `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (b : Bool) (c : Dev nD)

theorem wait_recv {nr st cr k' j' : ℕ} (h : nr < 8) (hst : nr < st) (hcr : nr ≤ cr ∨ 6 ≤ cr) (hk' : nr < k') (hj' : nr ≤ j' ∨ 6 ≤ j') :
    recs X K ι ⊢ MayWait (c : Thread nD τ) (.dma (rS b nr)) nr (Odir b c st cr + Odir (!b) c k' j') :=
  (recs_levels X K ι).trans (may_wait b (!b) c (.dma (rS b nr)) nr (2 * nr + 2) h (le_of_eq (lv_rcv b c nr nr))
    (by omega) (by omega) (by omega) (by omega))

theorem rest_recv {nr : ℕ} (h : nr < 8) : (bigSep ((Rd X).duties (rcell b c nr) (nr / 3) \ ∅) (fun d => (Rd X).payload (rcell b c nr) (nr / 3) d) : sProp 𝕄)
    ⊢ rcvPay X b nr c := by
  rw [Finset.sdiff_empty, duties_rcv X b c nr h, bigSep_singleton, payload_rcv]

/-- The wait for hop `nr` to have landed. -/
theorem move_recv {α : Type} {Q : α → sProp 𝕄} {nr ns st cr tk k' j' : ℕ} (h : nr < 8) (hst : nr < st) (hcr : nr ≤ cr ∨ 6 ≤ cr) (hk' : nr < k') (hj' : nr ≤ j' ∨ 6 ≤ j')
    {s s' : Shape} {e e' : EltTy} {sp sp' : Space} {sem : DmaSem sig} {src : Memref sig .tc sp' s' e'} {dst : Memref sig .tc sp s e}
    {h1 : src.view.WordExact} {h2 : dst.view.WordExact} {k : PUnit → Prog (TpuEff nD τ sig (Elt F) Λ₀ .tc) α}
    (hsem : sem = rS b nr) (hamt : dst.view.dmaCredit = Nof nr) :
    iprop(recs X K ι ∗ Dir b c nr ns st cr tk ∗ Ow b c st cr k' j')
      ⊢ iprop((iprop(Dir b c (nr + 1) ns st cr tk ∗ Ow b c st cr k' j' ∗ rcvPay X b nr c) -∗ run (F := F) c (k ⟨⟩) Q)
        -∗ run (F := F) c (.op (.waitDma2 sem src dst h1 h2) k) Q) := by
  subst hsem
  unfold Dir Ow
  iintro ⟨#HR, ⟨Hp, #Hr, Hc, HD⟩, %W, HO⟩ Hk
  ihave ⟨Hat, Hp⟩ := (pos_step (rcell b c) (rcell_mod b c) nr) $$ Hp
  ihave ⟨Hc1, Hc⟩ := (credR_take h) $$ Hc
  ihave #Hi := (recs_cell X K ι (rcell b c nr) (mem_rcv b c nr)) $$ HR
  ihave Hw := (wait_recv X K ι b c h hst hcr hk' hj') $$ HR
  iapply (Rounds.wp_wait_rest_token 𝒱₀ ER (Rd X) (c : Thread nD τ) none (κ := K (rcell b c nr))
      (wpE_waitDma2_eq 𝒱₀ (c : Thread nD τ) none Set.univ) (Set.mem_univ _) nr (R := nr / 3) (m := 0) (T := ∅)
      ((Nat.zero_add _).trans (hamt.trans (expect_rcv X b c nr h).symm))) $$ [Hc1 HO Hat Hw]
  · isplitr; · iexact Hi
    isplitl [Hc1]; · rw [hamt]; iexact Hc1
    isplitl [HO]; · iexact HO
    isplitl [Hw]; · iexact Hw
    iexact Hat
  iintro ⟨HO, Hat, #Hr1, Hpay⟩
  ihave Hpay' := (rest_recv X b c h) $$ Hpay
  ihave #Hr' := (rchd_step (rcell b c) (rcell_mod b c) nr) $$ [Hr Hr1]
  · isplitr
    · iexact Hr
    · iexact Hr1
  iapply Hk
  isplitr [HO Hpay']
  · isplitl [Hat Hp]; · iapply Hp; iexact Hat
    isplitr; · iexact Hr'
    isplitl [Hc]; · iexact Hc
    iexact HD
  isplitl [HO]; · iexists _; iexact HO
  iexact Hpay'

theorem wait_send {ns st cr k' j' : ℕ} (h : ns < 8) :
    recs X K ι ⊢ MayWait (c : Thread nD τ) (.dma (sS b ns)) ns (Odir b c st cr + Odir (!b) c k' j') :=
  (recs_levels X K ι).trans (may_wait b (!b) c (.dma (sS b ns)) ns 0 h (le_of_eq (lv_snd b c ns ns))
    (by omega) (by omega) (by omega) (by omega))

theorem rest_send {ns : ℕ} (h : ns < 8) : (bigSep ((Rd X).duties (scell b c ns) (ns / 3) \ ∅) (fun d => (Rd X).payload (scell b c ns) (ns / 3) d) : sProp 𝕄)
    ⊢ sndPay X b ns c := by
  rw [Finset.sdiff_empty, duties_snd X b c ns h, bigSep_singleton, payload_snd]

/-- The wait for the own copy of hop `ns` to have left. -/
theorem move_send {α : Type} {Q : α → sProp 𝕄} {nr ns st cr tk k' j' : ℕ} (h : ns < 8) (hst : ns < st)
    {s s' : Shape} {e e' : EltTy} {sp sp' : Space} {sem : DmaSem sig} {src : Memref sig .tc sp' s' e'} {dst : Memref sig .tc sp s e}
    {h1 : src.view.WordExact} {h2 : dst.view.WordExact} {k : PUnit → Prog (TpuEff nD τ sig (Elt F) Λ₀ .tc) α}
    (hsem : sem = sS b ns) (hamt : dst.view.dmaCredit = Nof ns) :
    iprop(recs X K ι ∗ Dir b c nr ns st cr tk ∗ Ow b c st cr k' j')
      ⊢ iprop((iprop(Dir b c nr (ns + 1) st cr tk ∗ Ow b c st cr k' j' ∗ sndPay X b ns c) -∗ run (F := F) c (k ⟨⟩) Q)
        -∗ run (F := F) c (.op (.waitDma2 sem src dst h1 h2) k) Q) := by
  subst hsem
  unfold Dir Ow
  iintro ⟨#HR, ⟨Hp0, Hr0, Hc0, Hp, #Hr, Hc, HD⟩, %W, HO⟩ Hk
  ihave ⟨Hat, Hp⟩ := (pos_step (scell b c) (scell_mod b c) ns) $$ Hp
  ihave ⟨Hc1, Hc⟩ := (credS_take hst) $$ Hc
  ihave #Hi := (recs_cell X K ι (scell b c ns) (mem_snd b c ns)) $$ HR
  ihave Hw := (wait_send X K ι b c h) $$ HR
  iapply (Rounds.wp_wait_rest_token 𝒱₀ ER (Rd X) (c : Thread nD τ) none (κ := K (scell b c ns))
      (wpE_waitDma2_eq 𝒱₀ (c : Thread nD τ) none Set.univ) (Set.mem_univ _) ns (R := ns / 3) (m := 0) (T := ∅)
      ((Nat.zero_add _).trans (hamt.trans (expect_snd X b c ns h).symm))) $$ [Hc1 HO Hat Hw]
  · isplitr; · iexact Hi
    isplitl [Hc1]; · rw [hamt]; iexact Hc1
    isplitl [HO]; · iexact HO
    isplitl [Hw]; · iexact Hw
    iexact Hat
  iintro ⟨HO, Hat, #Hr1, Hpay⟩
  ihave Hpay' := (rest_send X b c h) $$ Hpay
  ihave #Hr' := (rchd_step (scell b c) (scell_mod b c) ns) $$ [Hr Hr1]
  · isplitr
    · iexact Hr
    · iexact Hr1
  iapply Hk
  isplitr [HO Hpay']
  · isplitl [Hp0]; · iexact Hp0
    isplitl [Hr0]; · iexact Hr0
    isplitl [Hc0]; · iexact Hc0
    isplitl [Hat Hp]; · iapply Hp; iexact Hat
    isplitr; · iexact Hr'
    isplitl [Hc]; · iexact Hc
    iexact HD
  isplitl [HO]; · iexists _; iexact HO
  iexact Hpay'

/-- Credit `cr` given to the neighbour that writes here: the slot of hop `cr + 2` is free again. -/
theorem move_credit {α : Type} {Q : α → sProp 𝕄} {nr ns st cr tk k' j' : ℕ} (h1 : 1 ≤ cr) (h6 : cr < 6) (hnr : cr ≤ nr)
    {d : Thread nD τ} {sem : Sem sig} {n : ℕ} {k : PUnit → Prog (TpuEff nD τ sig (Elt F) Λ₀ .tc) α}
    (hd : d = (inn b c : Thread nD τ)) (hsem : sem = cS b) (hn : n = 1) :
    iprop(recs X K ι ∗ Dir b c nr ns st cr tk ∗ Ow b c st cr k' j' ∗ bany b c (lset b (cr + 2)))
      ⊢ iprop((iprop(Dir b c nr ns st (cr + 1) tk ∗ Ow b c st (cr + 1) k' j') -∗ run (F := F) c (k ⟨⟩) Q)
        -∗ run (F := F) c (.op (.semSignal d sem n) k) Q) := by
  subst hd hsem hn
  unfold Dir Ow
  iintro ⟨#HR, ⟨Hp0, #Hr0, Hc0, Hp, Hr, Hc, Ht, Hl, Htc, #Hf, #Hrc, HD⟩, ⟨%W, HO⟩, HS⟩ Hk
  ihave ⟨⟨Hd, Hra⟩, Htc⟩ := (tokC_take h6) $$ Htc
  ihave #Hi := (recs_cell X K ι (ccell b (inn b c)) (mem_crd b (inn b c))) $$ HR
  ihave #Hs := (recs_slot X K ι (c, b, cr + 2) (mem_key c b (cr + 2) (by omega) (by omega))) $$ HR
  imod (Release.slot_release EL (Set.mem_univ (ι (c, b, cr + 2))) (slot_once (F := F) (c, b, cr + 2)) 0) $$ [Hra HS] with ⟨-, #Hrel⟩
  · isplitr; · iexact Hs
    isplitl [Hra]; · iexact Hra
    unfold slotRes; iexact HS
  ihave #Hf' := (freed_put (b := b) (c := c) h1) $$ [Hf Hrel]
  · isplitr
    · iexact Hrel
    · iexact Hf
  ihave #Hpay := (crd_facts b c nr cr hnr) $$ [Hr0 Hf']
  · isplitr
    · iexact Hr0
    · iexact Hf'
  iapply (Rounds.wp_signal 𝒱₀ ER (Rd X) (c : Thread nD τ) none (κ := K (ccell b (inn b c))) (r := 0) (d := cr)
      (by rw [duties_crd]; exact Finset.mem_Icc.mpr ⟨h1, by omega⟩) (amount_crd X b (inn b c) cr) cr
      (O₀ := Odir b c st cr + Odir (!b) c k' j') (O := Odir b c st (cr + 1) + Odir (!b) c k' j') (by rw [Odir_credit b c st cr h6]; ac_rfl)) $$ [HO Hd]
  · isplitr; · iexact Hi
    isplitl [HO]; · iexact HO
    isplitl [Hd]; · iexact Hd
    isplitr; · rw [payload_crd]; iexact Hpay
    iexact Hrc
  iintro HO
  iapply Hk
  isplitr [HO]
  · isplitl [Hp0]; · iexact Hp0
    isplitr; · iexact Hr0
    isplitl [Hc0]; · iexact Hc0
    isplitl [Hp]; · iexact Hp
    isplitl [Hr]; · iexact Hr
    isplitl [Hc]; · iexact Hc
    isplitl [Ht]; · iexact Ht
    isplitl [Hl]; · iexact Hl
    isplitl [Htc]; · iexact Htc
    isplitr; · iexact Hf'
    isplitr; · iexact Hrc
    iexact HD
  iexists _; iexact HO

theorem wait_credit {st cr tk k' j' : ℕ} (h3 : 3 ≤ tk) (h8 : tk < 8) (hst : tk ≤ st + 1) (hcr : tk ≤ cr + 1 ∨ 6 ≤ cr) (hk' : tk ≤ k' + 1)
    (hj' : tk ≤ j' + 1 ∨ 6 ≤ j') :
    recs X K ι ⊢ MayWait (c : Thread nD τ) (.reg (cS b)) (tk - 2) (Odir b c st cr + Odir (!b) c k' j') :=
  (recs_levels X K ι).trans (may_wait b (!b) c (.reg (cS b)) (tk - 2) (2 * (tk - 2) + 3) (by omega) (le_of_eq (lv_crd b c (tk - 2)))
    (by omega) (by omega) (by omega) (by omega))

/-- So many credits hold one late enough. -/
theorem credit_late {S : Finset ℕ} {n : ℕ} (hS : S ⊆ Finset.Icc 1 5) (hn : 1 ≤ n) (hc : n ≤ S.card) : ∃ j ∈ S, n ≤ j := by
  by_contra hno
  have hs : S ⊆ Finset.Icc 1 (n - 1) := fun j hj => by
    have h1 := Finset.mem_Icc.mp (hS hj)
    have h2 : ¬ n ≤ j := fun h => hno ⟨j, hj, h⟩
    exact Finset.mem_Icc.mpr ⟨h1.1, by omega⟩
  have := Finset.card_le_card hs
  rw [Nat.card_Icc] at this
  omega

/-- A credit taken: the slot that hop `tk` lands on is ours to write. -/
theorem move_take {α : Type} {Q : α → sProp 𝕄} {nr ns st cr tk k' j' : ℕ} (h3 : 3 ≤ tk) (h8 : tk < 8) (hst : st ≤ tk) (hst' : tk ≤ st + 1)
    (hcr : tk ≤ cr + 1 ∨ 6 ≤ cr) (hk' : tk ≤ k' + 1) (hj' : tk ≤ j' + 1 ∨ 6 ≤ j')
    {sem : Sem sig} {n : ℕ} {k : PUnit → Prog (TpuEff nD τ sig (Elt F) Λ₀ .tc) α} (hsem : sem = cS b) (hn : n = 1) :
    iprop(recs X K ι ∗ Dir b c nr ns st cr tk ∗ Ow b c st cr k' j')
      ⊢ iprop((iprop(Dir b c nr ns st cr (tk + 1) ∗ Ow b c st cr k' j') -∗ run (F := F) c (k ⟨⟩) Q)
        -∗ run (F := F) c (.op (.semWait sem n) k) Q) := by
  subst hsem hn
  unfold Dir Ow posC
  iintro ⟨#HR, ⟨Hp0, Hr0, Hc0, Hp, Hr, Hc, Ht, Hl, Htc, Hf, Hrc, Htt, ⟨%T, %hT, Hat, #HT⟩⟩, ⟨%W, HO⟩⟩ Hk
  ihave ⟨⟨Hwt, Hcr⟩, Htt⟩ := (tokT_take h8) $$ Htt
  ihave #Hi := (recs_cell X K ι (ccell b c) (mem_crd b c)) $$ HR
  ihave #Hs := (recs_slot X K ι (out b c, b, tk) (mem_key (out b c) b tk h3 h8)) $$ HR
  ihave Hw := (wait_credit X K ι b c h3 h8 hst' hcr hk' hj') $$ HR
  iapply (Rounds.wp_wait 𝒱₀ ER (Rd X) (c : Thread nD τ) none (κ := K (ccell b c)) (sm := .reg (cS b))
      (wpE_semWait_eq 𝒱₀ (c : Thread nD τ) none Set.univ) (Set.mem_univ _) {(.reg (cS b), tk - 2)} (cr := Finsupp.single (tk - 2) 1)
      (R := 0) (m := tk - 3) (T := T) (by rw [Util.total_single]) (image_single_subset _ _ _)) $$ [Hcr HO Hat Hw]
  · isplitr; · iexact Hi
    isplitl [Hcr]; · iexact Hcr
    isplitl [HO]; · iexact HO
    isplitl [Hw]; · iexact Hw
    iexact Hat
  iintro %S ⟨%hS, HO, Hat, HS⟩
  rw [duties_crd, expect_crd] at hS
  obtain ⟨hTS, hS5, hcard⟩ := hS
  have hcS : tk - 2 ≤ S.card := by
    have h := Finset.card_sdiff_of_subset hS5
    rw [Nat.card_Icc] at h
    omega
  obtain ⟨j, hj, hjk⟩ := credit_late hS5 (by omega) hcS
  have hall : iprop(bigSep T (fun j => crdPay (F := F) b j c) ∗ bigSep (S \ T) (fun d => (Rd X).payload (ccell b c) 0 d))
      ⊢ (bigSep S (fun j => crdPay (F := F) b j c) : sProp 𝕄) := by
    rw [bigSep_congr (fun d _ => payload_crd X b c d)]
    exact Entails.of_eq (bigSep_sdiff_split hTS).symm
  ihave Hall' := hall $$ [HS]
  · isplitr
    · iexact HT
    · iexact HS
  icases Hall' with #Hall
  have hone : (bigSep S (fun j => crdPay (F := F) b j c) : sProp 𝕄) ⊢ fct b (out b c) tk :=
    (bigSep_elim hj).trans (by unfold crdPay; exact bigSep_elim (Finset.mem_Icc.mpr ⟨h3, by omega⟩))
  ihave #Hone := hone $$ Hall
  unfold fct
  icases Hone with ⟨#Hreach, #Hrel⟩
  imod (Release.slot_take EL (Set.mem_univ (ι (out b c, b, tk))) (S := slotRes (F := F) (out b c, b, tk)) 1) $$ [Hwt] with Hland
  · isplitr; · iexact Hs
    isplitr; · iexact Hrel
    iexact Hwt
  unfold slotRes
  ihave Hl := (lands_put (b := b) (c := c) hst) $$ [Hl Hland]
  · isplitr [Hl]
    · unfold land
      isplitl [Hland]; · iexact Hland
      iexact Hreach
    · iexact Hl
  iapply Hk
  isplitr [HO]
  · isplitl [Hp0]; · iexact Hp0
    isplitl [Hr0]; · iexact Hr0
    isplitl [Hc0]; · iexact Hc0
    isplitl [Hp]; · iexact Hp
    isplitl [Hr]; · iexact Hr
    isplitl [Hc]; · iexact Hc
    isplitl [Ht]; · iexact Ht
    isplitl [Hl]; · iexact Hl
    isplitl [Htc]; · iexact Htc
    isplitl [Hf]; · iexact Hf
    isplitl [Hrc]; · iexact Hrc
    isplitl [Htt]; · iexact Htt
    iexists S
    isplitr; · ipureintro; exact ⟨hS5, by omega⟩
    isplitl [Hat]; · rw [show tk + 1 - 3 = tk - 3 + 1 from by omega]; iexact Hat
    iexact Hall
  iexists _; iexact HO

/-- Copy `st` started, from a source view at known contents. -/
theorem move_start {α : Type} {Q : α → sProp 𝕄} {nr ns st cr tk k' j' : ℕ} (h8 : st < 8) (hns : ns ≤ st) (hst : st < tk) (hns3 : st < ns + 3)
    {s : Shape} {sp sp' : Space} {src : Memref sig .tc sp s .f32} {dst : Memref sig .tc sp' s .f32} {d : Dev nD} {sd rv : DmaSem sig}
    {hsc : dst.view.ref.isScScratch = false}
    {h1 : src.view.WordExact} {h2 : dst.view.WordExact} {hty : DmaTarget.Typed sp (.dma rv) (.remote (d : Thread nD τ) dst (.dma sd) hsc)}
    {k : PUnit → Prog (TpuEff nD τ sig (Elt F) Λ₀ .tc) α}
    (hd : d = out b c) (hsd : sd = sS b st) (hrv : rv = rS b st) (hamt : dst.view.dmaCredit = Nof st)
    {q : PosShare TreeShare} {fs : Buf (Elt F) (src.view.loc (c : Thread nD τ))}
    (hland : (bany (F := F) b (out b c) (lset b st)) ⊢ iprop(∃ fd, dst.view.loc (d : Thread nD τ) ↦[dst.view.set]{fullShare} fd))
    (hsrc : (src.view.loc (c : Thread nD τ) ↦[src.view.set]{q} fs) ⊢ sndPay X b st c)
    (hdst : ∀ fd, (dst.view.loc (d : Thread nD τ) ↦[dst.view.set]{fullShare} (dst.view.write (Elt F) fd (src.view.read (Elt F) fs) Finset.univ))
      ⊢ rcvPay X b st (out b c)) :
    iprop(recs X K ι ∗ Dir b c nr ns st cr tk ∗ Ow b c st cr k' j' ∗ (src.view.loc (c : Thread nD τ) ↦[src.view.set]{q} fs))
      ⊢ iprop((iprop(Dir b c nr ns (st + 1) cr tk ∗ Ow b c (st + 1) cr k' j') -∗ run (F := F) c (k ⟨⟩) Q)
        -∗ run (F := F) c (.op (.enqueueDma src (.remote (d : Thread nD τ) dst (.dma sd) hsc) (.dma rv) h1 h2 hty) k) Q) := by
  subst hd hsd hrv
  unfold Dir Ow
  iintro ⟨#HR, ⟨Hp0, Hr0, Hc0, Hp, #Hr, Hc, Ht, Hl, HD⟩, ⟨%W, HO⟩, Hs⟩ Hk
  ihave ⟨⟨Hd1, Hd2⟩, Ht⟩ := (tokS_take h8) $$ Ht
  ihave ⟨Hl1, Hl⟩ := (lands_take hst) $$ Hl
  unfold land
  icases Hl1 with ⟨Hland, #Hreach⟩
  ihave Hland' := hland $$ Hland
  icases Hland' with ⟨%fd, Hfd⟩
  ihave #Hi1 := (recs_cell X K ι (scell b c st) (mem_snd b c st)) $$ HR
  ihave #Hi2 := (recs_cell X K ι (rcell b (out b c) st) (mem_rcv b (out b c) st)) $$ HR
  ihave #Hrs := (rchd_get (scell b c) ns st hns3) $$ Hr
  iapply (Rounds.wp_send_pointsTo 𝒱₀ ER (Rd X) (c : Thread nD τ) none (κ₁ := K (scell b c st)) (κ₂ := K (rcell b (out b c) st))
      (c' := (out b c : Thread nD τ)) (src := src) (dst := dst) (hsc := hsc) (hsrc := h1) (hdst := h2) (hsem := hty) (sS := .dma (sS b st)) (sem := .dma (rS b st)) (q := q) (fs := fs) (fd := fd)
      (r₁ := st / 3) (r₂ := st / 3) (d₁ := 0) (d₂ := 0)
      (by rw [duties_snd X b c st h8]; exact Finset.mem_singleton_self _) (by rw [duties_rcv X b (out b c) st h8]; exact Finset.mem_singleton_self _)
      st st (Nof st) (show dst.view.amount (.dma (rS b st)) = Nof st from hamt) (amount_snd X b c st 0) (amount_rcv X b (out b c) st 0)
      (O₀ := Odir b c st cr + Odir (!b) c k' j') (O := Odir b c (st + 1) cr + Odir (!b) c k' j') (by rw [Odir_start b c st cr h8]; ac_rfl)
      (by rw [payload_snd]; exact hsrc) (by rw [payload_rcv]; exact hdst fd)) $$ [Hs Hfd HO Hd1 Hd2]
  · isplitr; · iexact Hi1
    isplitr; · iexact Hi2
    isplitl [Hs]; · iexact Hs
    isplitl [Hfd]; · iexact Hfd
    isplitl [HO]; · iexact HO
    isplitl [Hd1]; · iexact Hd1
    isplitr; · iexact Hrs
    isplitl [Hd2]; · iexact Hd2
    iexact Hreach
  iintro ⟨Hcs, HO⟩
  ihave Hc := (credS_put (b := b) (c := c) hns) $$ [Hc Hcs]
  · isplitl [Hcs] <;> iassumption
  iapply Hk
  isplitr [HO]
  · isplitl [Hp0]; · iexact Hp0
    isplitl [Hr0]; · iexact Hr0
    isplitl [Hc0]; · iexact Hc0
    isplitl [Hp]; · iexact Hp
    isplitr; · iexact Hr
    isplitl [Hc]; · iexact Hc
    isplitl [Ht]; · iexact Ht
    isplitl [Hl]; · iexact Hl
    iexact HD
  iexists _; iexact HO

end Cert.KernelIdeal.Ring

end
-- ==== Proof.KernelIdealCopies.lean ====
/- The three kinds of copies of the ring: the own row block, a landed slot, and half a landed slot. -/
module

public import proofs.«01_k».proof.Proof.KernelIdealMoves

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (K : GSem nD τ sig → ℕ) (ι : Key → ℕ)

theorem lset_slot (b : Bool) {k : ℕ} (h : k ≠ 7) : lset b k = (slotM b k).view.set := if_neg h
theorem lset_half (b : Bool) : lset b 7 = (halfM b 1 b).view.set := if_pos rfl
theorem sset_slot (b : Bool) {k : ℕ} (h : k ≠ 6) : sset b k = (slotM b k).view.set := if_neg h
theorem sset_half (b : Bool) : sset b 6 = (halfM b 0 b).view.set := if_pos rfl

/-- What a write through a view leaves on its elements, known by its read. -/
theorem landed {κ : Idealize.ShloMosaic.Kind} {sp : Space} {s : Shape} {e : EltTy} (v : View sig κ sp s e) (fd g : v.ty.Contents (Elt F)) (w : s.Idx → Elt F e)
    (h : w = v.read (Elt F) g) : ∀ i ∈ v.set, v.write (Elt F) fd w Finset.univ i = g i := by
  intro i hi
  obtain ⟨x, -, rfl⟩ := Finset.mem_map.mp hi
  rw [h, View.write_read_eq_piecewise]
  exact Finset.piecewise_eq_of_mem _ _ _ hi

variable (b : Bool) (c : Dev nD)

omit [FloatOps F] in
theorem sndPay_succ (k : ℕ) : sndPay X b (k + 1) c = bpts b c (sset b k) fullShare.right (bigx X b (orig b k c)) := rfl

/-- The first copy: the own row block into slot 0. -/
theorem start_first {α : Type} {Q : α → sProp 𝕄} {nr ns cr tk k' j' : ℕ} (hns : ns ≤ 0) (hst : 0 < tk)
    {src : Memref sig .tc .vmem S256x4096 .f32} {dst : Memref sig .tc .vmem S256x4096 .f32} {d : Dev nD} {sd rv : DmaSem sig}
    {hsc : dst.view.ref.isScScratch = false}
    {h1 : src.view.WordExact} {h2 : dst.view.WordExact} {hty : DmaTarget.Typed .vmem (.dma rv) (.remote (d : Thread nD τ) dst (.dma sd) hsc)}
    {k : PUnit → Prog (TpuEff nD τ sig (Elt F) Λ₀ .tc) α}
    (hd : d = out b c) (hsrc : src = xM) (hdst : dst = slotM b 0) (hsd : sd = sS b 0) (hrv : rv = rS b 0) :
    iprop(recs X K ι ∗ Dir b c nr ns 0 cr tk ∗ Ow b c 0 cr k' j' ∗ xpts X c (xq b))
      ⊢ iprop((iprop(Dir b c nr ns 1 cr tk ∗ Ow b c 1 cr k' j') -∗ run (F := F) c (k ⟨⟩) Q)
        -∗ run (F := F) c (.op (.enqueueDma src (.remote (d : Thread nD τ) dst (.dma sd) hsc) (.dma rv) h1 h2 hty) k) Q) := by
  subst hsrc hdst hd
  refine move_start X K ι b c (by omega) hns hst (by omega) rfl hsd hrv (amt_slot b 0 (by decide) 0) (src := xM) (dst := slotM b 0) (q := xq b) (fs := (X c : S256x4096.Idx → Elt F .f32)) ?_ ?_ ?_
  · rw [lset_slot b (by decide)]
  · exact Entails.of_eq rfl
  · intro fd
    unfold rcvPay
    rw [lset_slot b (by decide), orig_out_zero]
    exact Entails.of_eq (pointsTo_congr (landed (slotM b 0).view fd (bigx X b c) (xM.view.read (Elt F) (X c)) (read_slot X b 0 c).symm))

/-- A middle copy: the slot of the hop before into the next slot. -/
theorem start_mid {α : Type} {Q : α → sProp 𝕄} {nr ns cr tk k' j' : ℕ} (n : ℕ) (h6 : n < 6) (hns : ns ≤ n + 1) (hst : n + 1 < tk) (hns3 : n + 1 < ns + 3)
    {src : Memref sig .tc .vmem S256x4096 .f32} {dst : Memref sig .tc .vmem S256x4096 .f32} {d : Dev nD} {sd rv : DmaSem sig}
    {hsc : dst.view.ref.isScScratch = false}
    {h1 : src.view.WordExact} {h2 : dst.view.WordExact} {hty : DmaTarget.Typed .vmem (.dma rv) (.remote (d : Thread nD τ) dst (.dma sd) hsc)}
    {k : PUnit → Prog (TpuEff nD τ sig (Elt F) Λ₀ .tc) α}
    (hd : d = out b c) (hsrc : src = slotM b n) (hdst : dst = slotM b (n + 1)) (hsd : sd = sS b (n + 1)) (hrv : rv = rS b (n + 1)) :
    iprop(recs X K ι ∗ Dir b c nr ns (n + 1) cr tk ∗ Ow b c (n + 1) cr k' j' ∗ bpts b c (sset b n) fullShare.right (bigx X b (orig b n c)))
      ⊢ iprop((iprop(Dir b c nr ns (n + 2) cr tk ∗ Ow b c (n + 2) cr k' j') -∗ run (F := F) c (k ⟨⟩) Q)
        -∗ run (F := F) c (.op (.enqueueDma src (.remote (d : Thread nD τ) dst (.dma sd) hsc) (.dma rv) h1 h2 hty) k) Q) := by
  subst hsrc hdst hd
  have e := sset_slot b (k := n) (by omega)
  have e' := lset_slot b (k := n + 1) (by omega)
  rw [e]
  refine move_start X K ι b c (by omega) hns hst hns3 rfl hsd hrv (amt_slot b (n + 1) (by omega) (n + 1)) (src := slotM b n) (dst := slotM b (n + 1)) (q := fullShare.right) (fs := bigx X b (orig b n c)) ?_ ?_ ?_
  · rw [e']
  · rw [sndPay_succ, e]
  · intro fd
    unfold rcvPay
    rw [e', orig_out]
    exact Entails.of_eq (pointsTo_congr (landed (slotM b (n + 1)).view fd (bigx X b (orig b n c)) _ ((read_slot X b n _).trans (read_slot X b (n + 1) _).symm)))

/-- The last copy: half of slot 0 into the same half of slot 1. -/
theorem start_last {α : Type} {Q : α → sProp 𝕄} {nr ns cr tk k' j' : ℕ} (hns : ns ≤ 7) (hst : 7 < tk) (hns3 : 7 < ns + 3)
    {src : Memref sig .tc .vmem S128x4096 .f32} {dst : Memref sig .tc .vmem S128x4096 .f32} {d : Dev nD} {sd rv : DmaSem sig}
    {hsc : dst.view.ref.isScScratch = false}
    {h1 : src.view.WordExact} {h2 : dst.view.WordExact} {hty : DmaTarget.Typed .vmem (.dma rv) (.remote (d : Thread nD τ) dst (.dma sd) hsc)}
    {k : PUnit → Prog (TpuEff nD τ sig (Elt F) Λ₀ .tc) α}
    (hd : d = out b c) (hsrc : src = halfM b 0 b) (hdst : dst = halfM b 1 b) (hsd : sd = sS b 7) (hrv : rv = rS b 7) :
    iprop(recs X K ι ∗ Dir b c nr ns 7 cr tk ∗ Ow b c 7 cr k' j' ∗ bpts b c (sset b 6) fullShare.right (bigx X b (orig b 6 c)))
      ⊢ iprop((iprop(Dir b c nr ns 8 cr tk ∗ Ow b c 8 cr k' j') -∗ run (F := F) c (k ⟨⟩) Q)
        -∗ run (F := F) c (.op (.enqueueDma src (.remote (d : Thread nD τ) dst (.dma sd) hsc) (.dma rv) h1 h2 hty) k) Q) := by
  subst hsrc hdst hd
  rw [sset_half b]
  refine move_start X K ι b c (by omega) hns hst hns3 rfl hsd hrv (amt_half b 1 b) (src := halfM b 0 b) (dst := halfM b 1 b) (q := fullShare.right) (fs := bigx X b (orig b 6 c)) ?_ ?_ ?_
  · rw [lset_half b]
  · rw [show sndPay X b 7 c = _ from sndPay_succ X b c 6, sset_half b]
  · intro fd
    unfold rcvPay
    rw [lset_half b, orig_out b 6 c]
    exact Entails.of_eq (pointsTo_congr (landed (halfM b 1 b).view fd (bigx X b (orig b 6 c)) _ ((read_half X b 0 b _).trans (read_half X b 1 b _).symm)))

end Cert.KernelIdeal.Ring

end
-- ==== Proof.KernelIdealLoads.lean ====
/- What the body reads and writes besides the copies: landed slots, the weights, the tables and the output's row blocks. -/
module

public import proofs.«01_k».proof.Proof.KernelIdealCopies

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (K : GSem nD τ sig → ℕ) (ι : Key → ℕ)
variable (b : Bool) (c : Dev nD)

/-! ## Landed slots -/

theorem halves {ℓ : Loc nD τ sig} {I : Finset (Idx ℓ)} (q : PosShare TreeShare) (f : Buf (Elt F) ℓ) :
    (ℓ ↦[I]{q} f : sProp 𝕄) = iprop((ℓ ↦[I]{q.left} f) ∗ ℓ ↦[I]{q.right} f) :=
  Entails.antisymm (pointsTo_share (PosShare.mem_left_op_right q)).1 (pointsTo_share (PosShare.mem_left_op_right q)).2

theorem access_sub {κ : Idealize.ShloMosaic.Kind} {sp : Space} {s s' : Shape} {e : EltTy} (m : Memref sig κ sp s e) (r : Rect s) (h : ∀ a, r.stride a = 1) (hq : r.shape.Squeezes s') :
    (m.access r).set ⊆ ((m.slice r h).squeeze s' hq).view.set := by
  have e : ((m.slice r h).squeeze s' hq).view.set = (m.access r).set := View.set_reshape (m.access r) hq.numel_eq
  intro i hi
  rw [e]; exact hi

/-- A load of a whole slot. -/
theorem load_slot {α : Type} {Q : α → sProp 𝕄} (s : ℕ) (n : ℕ) (hn : n = s % 3) (e : Dev nD) (q : PosShare TreeShare)
    {m : Memref sig .tc .vmem S3x256x4096 .f32} (hm : m = bufM b)
    {inb : ∀ a, (![n, 0, 0] : Fin 3 → ℕ) a + S1x256x4096.size a ≤ S3x256x4096.size a}
    {hl : m.view.LoadsAt (Rect.unit (s := S3x256x4096) ![n, 0, 0] S1x256x4096.size inb).toLoadRect}
    {k : (S1x256x4096.Idx → Elt F .f32) → Prog (TpuEff nD τ sig (Elt F) Λ₀ .tc) α} :
    (bpts b c (slotM b s).view.set q (bigx X b e))
      ⊢ iprop((∀ v : S1x256x4096.Idx → Elt F .f32, ⌜shapeCast S256x4096 v shapeCasts_S1x256x4096_S256x4096 = X e⌝
          -∗ bpts b c (slotM b s).view.set q (bigx X b e) -∗ run (F := F) c (k v) Q)
        -∗ run (F := F) c (.op (.load m (Rect.unit (s := S3x256x4096) ![n, 0, 0] S1x256x4096.size inb).toLoadRect hl) k) Q) := by
  subst hn hm
  have hS : ((bufM b).access (Rect.unit (s := S3x256x4096) ![s % 3, 0, 0] S1x256x4096.size inb)).set ⊆ (slotM b s).view.set := by
    exact access_sub (bufM b) _ (fun _ => rfl) squeezes_S1x256x4096_S256x4096
  iintro H Hk
  iapply (wp_load_rect 𝒱₀ (c : Thread nD τ) none Set.univ (m := bufM b) (q := q) (f := bigx X b e) hS) $$ H
  iintro H
  iapply Hk $$ %_ [] H
  ipureintro
  rw [← read_slot X b s e, Memref.read_squeeze_slice (hc := shapeCasts_S1x256x4096_S256x4096)]
  rfl

/-- A load of half a slot. -/
theorem load_half {α : Type} {Q : α → sProp 𝕄} (s : ℕ) (t : Bool) (n o : ℕ) (hn : n = s % 3) (ho : o = cond t 0 128) (e : Dev nD) (q : PosShare TreeShare)
    {m : Memref sig .tc .vmem S3x256x4096 .f32} (hm : m = bufM b)
    {inb : ∀ a, (![n, o, 0] : Fin 3 → ℕ) a + S1x128x4096.size a ≤ S3x256x4096.size a}
    {hl : m.view.LoadsAt (Rect.unit (s := S3x256x4096) ![n, o, 0] S1x128x4096.size inb).toLoadRect}
    {k : (S1x128x4096.Idx → Elt F .f32) → Prog (TpuEff nD τ sig (Elt F) Λ₀ .tc) α} :
    (bpts b c (halfM b s t).view.set q (bigx X b e))
      ⊢ iprop((∀ v : S1x128x4096.Idx → Elt F .f32, ⌜shapeCast S128x4096 v shapeCasts_S1x128x4096_S128x4096 = halfX t (X e)⌝
          -∗ bpts b c (halfM b s t).view.set q (bigx X b e) -∗ run (F := F) c (k v) Q)
        -∗ run (F := F) c (.op (.load m (Rect.unit (s := S3x256x4096) ![n, o, 0] S1x128x4096.size inb).toLoadRect hl) k) Q) := by
  subst hn ho hm
  have hS : ((bufM b).access (Rect.unit (s := S3x256x4096) ![s % 3, cond t 0 128, 0] S1x128x4096.size inb)).set ⊆ (halfM b s t).view.set := by
    exact access_sub (bufM b) _ (fun _ => rfl) squeezes_S1x128x4096_S128x4096
  iintro H Hk
  iapply (wp_load_rect 𝒱₀ (c : Thread nD τ) none Set.univ (m := bufM b) (q := q) (f := bigx X b e) hS) $$ H
  iintro H
  iapply Hk $$ %_ [] H
  ipureintro
  rw [← read_half X b s t e, Memref.read_squeeze_slice (hc := shapeCasts_S1x128x4096_S128x4096)]
  rfl

/-! ## The weights, the own row block and the tables -/

abbrev wM : Memref sig .tc .vmem S4096x128 .f32 := Memref.whole cc0_stg1_0
abbrev nbM : Memref sig .tc .smem S2 .i32 := Memref.whole cc0_stg2_0
abbrev o3M : Memref sig .tc .smem S8 .i32 := Memref.whole cc0_stg3_0
abbrev o4M : Memref sig .tc .smem S8 .i32 := Memref.whole cc0_stg4_0
abbrev oM : Memref sig .tc .vmem S4096x128 .f32 := Memref.whole cc0_stg5_0

/-- A device's number as a word. -/
def wd (e : Dev nD) : BitVec 32 := BitVec.ofNat 32 e.val

/-- The table of neighbours, and a direction's table of whose row block each hop brings. -/
def nbT (c : Dev nD) : S2.Idx → BitVec 32 := fun i => if (i 0).val = 0 then wd (lt c) else wd (rt c)
def oT (b : Bool) (c : Dev nD) : S8.Idx → BitVec 32 := fun i => wd (orig b (i 0).val c)

variable (W : Dev nD → (S4096x128.Idx → Elt F .f32))

def wpts (c : Dev nD) : sProp 𝕄 := wM.view.loc (c : Thread nD τ) ↦[Finset.univ]{fullShare} (W c : S4096x128.Idx → Elt F .f32)
def Tab (c : Dev nD) : sProp 𝕄 :=
  iprop((nbM.view.loc (c : Thread nD τ) ↦[Finset.univ]{fullShare} (nbT c : S2.Idx → Elt F .i32))
    ∗ (o3M.view.loc (c : Thread nD τ) ↦[Finset.univ]{fullShare} (oT true c : S8.Idx → Elt F .i32))
    ∗ (o4M.view.loc (c : Thread nD τ) ↦[Finset.univ]{fullShare} (oT false c : S8.Idx → Elt F .i32)) ∗ wpts W c)

theorem load_w {α : Type} {Q : α → sProp 𝕄} {inb : ∀ a, (![0, 0] : Fin 2 → ℕ) a + S4096x128.size a ≤ S4096x128.size a}
    {hl : wM.view.LoadsAt (Rect.unit (s := S4096x128) ![0, 0] S4096x128.size inb).toLoadRect}
    {k : (S4096x128.Idx → Elt F .f32) → Prog (TpuEff nD τ sig (Elt F) Λ₀ .tc) α} :
    Tab W c ⊢ iprop((Tab W c -∗ run (F := F) c (k (W c)) Q)
        -∗ run (F := F) c (.op (.load wM (Rect.unit (s := S4096x128) ![0, 0] S4096x128.size inb).toLoadRect hl) k) Q) := by
  unfold Tab wpts
  have e : ((wM.access (Rect.unit (s := S4096x128) ![0, 0] S4096x128.size inb)).read (Elt F) (W c) : S4096x128.Idx → Elt F .f32) = W c := by
    funext i
    show W c _ = W c i
    refine congrArg (W c) (funext fun a => ?_)
    fin_cases a <;> exact Fin.ext (by show 0 + 1 * _ = _; simp)
  iintro ⟨H1, H2, H3, H4⟩ Hk
  iapply (wp_load_rect 𝒱₀ (c : Thread nD τ) none Set.univ (m := wM) (r := Rect.unit (s := S4096x128) ![0, 0] S4096x128.size inb) (hl := hl) (q := fullShare) (f := (W c : S4096x128.Idx → Elt F .f32)) (Finset.subset_univ _)) $$ H4
  iintro H4
  rw [e]
  iapply Hk
  isplitl [H1]; · iexact H1
  isplitl [H2]; · iexact H2
  isplitl [H3]; · iexact H3
  iexact H4

theorem load_x {α : Type} {Q : α → sProp 𝕄} {q : PosShare TreeShare} {inb : ∀ a, (![0, 0] : Fin 2 → ℕ) a + S256x4096.size a ≤ S256x4096.size a}
    {hl : xM.view.LoadsAt (Rect.unit (s := S256x4096) ![0, 0] S256x4096.size inb).toLoadRect}
    {k : (S256x4096.Idx → Elt F .f32) → Prog (TpuEff nD τ sig (Elt F) Λ₀ .tc) α} :
    xpts X c q ⊢ iprop((xpts X c q -∗ run (F := F) c (k (X c)) Q)
        -∗ run (F := F) c (.op (.load xM (Rect.unit (s := S256x4096) ![0, 0] S256x4096.size inb).toLoadRect hl) k) Q) := by
  have e : ((xM.access (Rect.unit (s := S256x4096) ![0, 0] S256x4096.size inb)).read (Elt F) (X c) : S256x4096.Idx → Elt F .f32) = X c := by
    funext i
    show X c _ = X c i
    refine congrArg (X c) (funext fun a => ?_)
    fin_cases a <;> exact Fin.ext (by show 0 + 1 * _ = _; simp)
  have hS : (xM.access (Rect.unit (s := S256x4096) ![0, 0] S256x4096.size inb)).set ⊆ xM.view.set := View.set_slice_subset (v := xM.view) _
  iintro H Hk
  iapply (wp_load_rect 𝒱₀ (c : Thread nD τ) none Set.univ (m := xM) (r := Rect.unit (s := S256x4096) ![0, 0] S256x4096.size inb) (hl := hl) (q := q) (f := (X c : S256x4096.Idx → Elt F .f32)) hS) $$ H
  iintro H
  rw [e]
  iapply Hk; iexact H

/-- A load of a neighbour's number. -/
theorem load_nb {α : Type} {Q : α → sProp 𝕄} (n : ℕ) {inb : ∀ a, (![n] : Fin 1 → ℕ) a + S1.size a ≤ S2.size a}
    {hl : nbM.view.LoadsAt (Rect.unit (s := S2) ![n] S1.size inb).toLoadRect}
    {k : (S1.Idx → Elt F .i32) → Prog (TpuEff nD τ sig (Elt F) Λ₀ .tc) α} :
    Tab W c ⊢ iprop((Tab W c -∗ run (F := F) c (k fun _ => (if n = 0 then wd (lt c) else wd (rt c) : BitVec 32)) Q)
        -∗ run (F := F) c (.op (.load nbM (Rect.unit (s := S2) ![n] S1.size inb).toLoadRect hl) k) Q) := by
  unfold Tab
  have e : ((nbM.access (Rect.unit (s := S2) ![n] S1.size inb)).read (Elt F) (nbT c : S2.Idx → Elt F .i32) : S1.Idx → BitVec 32)
      = fun _ => if n = 0 then wd (lt c) else wd (rt c) := by
    funext x
    show (if n + 1 * (x 0).val = 0 then _ else _) = _
    have : (x 0).val < 1 := (x 0).isLt
    rw [show n + 1 * (x 0).val = n from by omega]
  iintro ⟨H1, H2⟩ Hk
  iapply (wp_load_rect 𝒱₀ (c : Thread nD τ) none Set.univ (m := nbM) (r := Rect.unit (s := S2) ![n] S1.size inb) (hl := hl) (q := fullShare) (f := (nbT c : S2.Idx → Elt F .i32)) (Finset.subset_univ _)) $$ H1
  iintro H1
  rw [e]
  iapply Hk
  isplitl [H1]; · iexact H1
  iexact H2

/-- A load of whose row block a hop brings. -/
theorem load_o {α : Type} {Q : α → sProp 𝕄} (n : ℕ) {m : Memref sig .tc .smem S8 .i32} (hm : m = cond b o3M o4M) {inb : ∀ a, (![n] : Fin 1 → ℕ) a + S1.size a ≤ S8.size a}
    {hl : m.view.LoadsAt (Rect.unit (s := S8) ![n] S1.size inb).toLoadRect}
    {k : (S1.Idx → Elt F .i32) → Prog (TpuEff nD τ sig (Elt F) Λ₀ .tc) α} :
    Tab W c ⊢ iprop((Tab W c -∗ run (F := F) c (k fun _ => (wd (orig b n c) : BitVec 32)) Q)
        -∗ run (F := F) c (.op (.load m (Rect.unit (s := S8) ![n] S1.size inb).toLoadRect hl) k) Q) := by
  subst hm
  have e : ∀ (x : S1.Idx) (i : S8.Idx), (i 0).val = n + 1 * (x 0).val → oT b c i = wd (orig b n c) := fun x i hi => by
    have : (x 0).val < 1 := (x 0).isLt
    unfold oT; rw [hi, show n + 1 * (x 0).val = n from by omega]
  unfold Tab
  cases b
  · have e' : ((o4M.access (Rect.unit (s := S8) ![n] S1.size inb)).read (Elt F) (oT false c : S8.Idx → Elt F .i32) : S1.Idx → BitVec 32) = fun _ => wd (orig false n c) := funext fun x => e x _ rfl
    iintro ⟨H1, H2, H3, H4⟩ Hk
    iapply (wp_load_rect 𝒱₀ (c : Thread nD τ) none Set.univ (m := o4M) (r := Rect.unit (s := S8) ![n] S1.size inb) (hl := hl) (q := fullShare) (f := (oT false c : S8.Idx → Elt F .i32)) (Finset.subset_univ _)) $$ H3
    iintro H3
    rw [e']
    iapply Hk
    isplitl [H1]; · iexact H1
    isplitl [H2]; · iexact H2
    isplitl [H3]; · iexact H3
    iexact H4
  · have e' : ((o3M.access (Rect.unit (s := S8) ![n] S1.size inb)).read (Elt F) (oT true c : S8.Idx → Elt F .i32) : S1.Idx → BitVec 32) = fun _ => wd (orig true n c) := funext fun x => e x _ rfl
    iintro ⟨H1, H2, H3, H4⟩ Hk
    iapply (wp_load_rect 𝒱₀ (c : Thread nD τ) none Set.univ (m := o3M) (r := Rect.unit (s := S8) ![n] S1.size inb) (hl := hl) (q := fullShare) (f := (oT true c : S8.Idx → Elt F .i32)) (Finset.subset_univ _)) $$ H2
    iintro H2
    rw [e']
    iapply Hk
    isplitl [H1]; · iexact H1
    isplitl [H2]; · iexact H2
    isplitl [H3]; · iexact H3
    iexact H4

/-! ## The output -/

/-- A row block times the weights, negatives cut to zero. -/
def g256 (x : S256x4096.Idx → Elt F .f32) (w : S4096x128.Idx → Elt F .f32) : S256x128.Idx → Elt F .f32 :=
  maximumf (matmul (F := F) dot_S256x4096_S4096x128_S256x128_1_0_0_1_n_n none x w (constant S256x128 .f32 0x00000000#32))
    (broadcast S256x128 (Scalar.ofBits (F := F) .f32 0x00000000#32))
/-- The same of half a row block. -/
def g128 (x : S128x4096.Idx → Elt F .f32) (w : S4096x128.Idx → Elt F .f32) : S128x128.Idx → Elt F .f32 :=
  maximumf (matmul (F := F) dot_S128x4096_S4096x128_S128x128_1_0_0_1_n_n none x w (constant S128x128 .f32 0x00000000#32))
    (broadcast S128x128 (Scalar.ofBits (F := F) .f32 0x00000000#32))

/-- Row `j`, column `q`. -/
def rowIdx {n : ℕ} (j : ℕ) (hj : j < n) (q : Fin 128) : (⟨2, ![n, 128]⟩ : Shape).Idx := fun | 0 => ⟨j, hj⟩ | 1 => q

theorem rowIdx_congr {n j j' : ℕ} {hj : j < n} {hj' : j' < n} {q : Fin 128} (h : j = j') : rowIdx j hj q = rowIdx j' hj' q := by
  subst h; rfl

/-- The result on `c`: of the row block that comes in halves, a product per half; of the others one product. -/
def G (c : Dev nD) : S4096x128.Idx → Elt F .f32 := fun i =>
  let e : Dev nD := ⟨(i 0).val / 256, by have h : (i 0).val < 4096 := (i 0).isLt; show _ < 16; omega⟩
  if e = orig true 7 c then
    g128 (halfX ((i 0).val % 256 < 128) (X e)) (W c) (rowIdx ((i 0).val % 128) (Nat.mod_lt _ (by decide : 0 < 128)) (i 1))
  else g256 (X e) (W c) (rowIdx ((i 0).val % 256) (Nat.mod_lt _ (by decide : 0 < 256)) (i 1))

/-- The output with the half blocks of `T` final. -/
def Out (c : Dev nD) (T : Finset ℕ) : sProp 𝕄 :=
  iprop(∃ f : S4096x128.Idx → Elt F .f32, ⌜∀ i : S4096x128.Idx, (i 0).val / 128 ∈ T → f i = G X W c i⌝
    ∗ (oM.view.loc (c : Thread nD τ) ↦[Finset.univ]{fullShare} f))

/-- A store of rows, of values the result has there. -/
theorem out_store {α : Type} {Q : α → sProp 𝕄} {T T' : Finset ℕ} {n : ℕ} (o : ℕ) {off : Fin 2 → ℕ} (hoff : off = ![o, 0])
    {inb inb' : ∀ a, off a + (⟨2, ![n, 128]⟩ : Shape).size a ≤ S4096x128.size a} {w : (⟨2, ![n, 128]⟩ : Shape).Idx → Elt F .f32}
    {hl : oM.view.LoadsAt (Rect.unit (s := S4096x128) off (⟨2, ![n, 128]⟩ : Shape).size inb).toLoadRect}
    {hx : (oM.access (Rect.unit (s := S4096x128) off (⟨2, ![n, 128]⟩ : Shape).size inb')).Stores Finset.univ}
    {hm : (Finset.univ : Finset (⟨2, ![n, 128]⟩ : Shape).Idx) = Finset.univ ∨ ∀ a, (Rect.unit (s := S4096x128) off (⟨2, ![n, 128]⟩ : Shape).size inb').stride a = 1}
    {k : PUnit → Prog (TpuEff nD τ sig (Elt F) Λ₀ .tc) α}
    (hT : ∀ i : S4096x128.Idx, (i 0).val / 128 ∈ T' → (i 0).val / 128 ∈ T ∨ (o ≤ (i 0).val ∧ (i 0).val < o + n))
    (hw : ∀ i : S4096x128.Idx, ∀ (h : o ≤ (i 0).val ∧ (i 0).val < o + n), w (rowIdx ((i 0).val - o) (by omega) (i 1)) = G X W c i) :
    Out X W c T ⊢ iprop((Out X W c T' -∗ run (F := F) c (k ⟨⟩) Q)
        -∗ run (F := F) c (.op (.load oM (Rect.unit (s := S4096x128) off (⟨2, ![n, 128]⟩ : Shape).size inb).toLoadRect hl) fun _ =>
          .op (.store oM (Rect.unit (s := S4096x128) off (⟨2, ![n, 128]⟩ : Shape).size inb') w Finset.univ hx hm) k) Q) := by
  subst hoff
  unfold Out
  iintro ⟨%f, %hf, H⟩ Hk
  iapply (wp_load_rect 𝒱₀ (c : Thread nD τ) none Set.univ (m := oM) (r := Rect.unit (s := S4096x128) ![o, 0] (⟨2, ![n, 128]⟩ : Shape).size inb) (hl := hl) (q := fullShare) (f := f) (Finset.subset_univ _)) $$ H
  iintro H
  iapply (wp_store 𝒱₀ (c : Thread nD τ) none Set.univ (m := oM) (r := Rect.unit (s := S4096x128) ![o, 0] (⟨2, ![n, 128]⟩ : Shape).size inb') (hx := hx) (hm := hm) (f := f) (Finset.subset_univ _)) $$ H
  iintro H
  iapply Hk
  iexists _
  isplitr [H]
  rotate_left
  · iexact H
  ipureintro
  intro i hi
  by_cases h : o ≤ (i 0).val ∧ (i 0).val < o + n
  · have e : i = (oM.access (Rect.unit (s := S4096x128) ![o, 0] (⟨2, ![n, 128]⟩ : Shape).size inb')).emb
        (rowIdx ((i 0).val - o) (by omega) (i 1)) := by
      funext a
      fin_cases a
      · exact Fin.ext (by show (i 0).val = o + 1 * ((i 0).val - o); omega)
      · exact Fin.ext (by show (i 1).val = 0 + 1 * (i 1).val; omega)
    rw [← hw i h]
    conv_lhs => rw [e]
    exact View.write_emb_of_mem (v := oM.access (Rect.unit (s := S4096x128) ![o, 0] (⟨2, ![n, 128]⟩ : Shape).size inb')) f w (M := Finset.univ)
      (x := (rowIdx ((i 0).val - o) (by omega) (i 1))) (Finset.mem_univ _) |>.trans (cast_eq _ _)
  · rw [View.write_of_not_mem _ _ _ (fun hm => h ?_)]
    · exact hf i ((hT i hi).resolve_right h)
    · obtain ⟨x, -, rfl⟩ := Finset.mem_map.mp hm
      have hx : (x 0).val < n := (x 0).isLt
      show o ≤ o + 1 * (x 0).val ∧ o + 1 * (x 0).val < o + n
      omega

theorem G_full (e : Dev nD) (he : e ≠ orig true 7 c) (i : S4096x128.Idx) (h : 256 * e.val ≤ (i 0).val ∧ (i 0).val < 256 * e.val + 256) :
    g256 (X e) (W c) (rowIdx ((i 0).val - 256 * e.val) (by omega) (i 1)) = G X W c i := by
  have h1 : (⟨(i 0).val / 256, by have h : (i 0).val < 4096 := (i 0).isLt; show _ < 16; omega⟩ : Dev nD) = e := Fin.ext (by show (i 0).val / 256 = e.val; omega)
  unfold G
  dsimp only
  rw [h1, if_neg he]
  have h3 := congrArg Fin.val h1
  dsimp only at h3
  exact congrArg _ (rowIdx_congr (by omega))

theorem G_half (t : Bool) (i : S4096x128.Idx) (h : 256 * (orig true 7 c).val + cond t 0 128 ≤ (i 0).val ∧ (i 0).val < 256 * (orig true 7 c).val + cond t 0 128 + 128) :
    g128 (halfX t (X (orig true 7 c))) (W c) (rowIdx ((i 0).val - (256 * (orig true 7 c).val + cond t 0 128)) (by omega) (i 1)) = G X W c i := by
  have h0 : cond t 0 128 = 0 ∧ t = true ∨ cond t 0 128 = 128 ∧ t = false := by cases t <;> simp
  have h1 : (⟨(i 0).val / 256, by have h : (i 0).val < 4096 := (i 0).isLt; show _ < 16; omega⟩ : Dev nD) = orig true 7 c :=
    Fin.ext (by show (i 0).val / 256 = (orig true 7 c).val; omega)
  have h2 : decide ((i 0).val % 256 < 128) = t := by
    rcases h0 with ⟨h0, rfl⟩ | ⟨h0, rfl⟩
    · exact decide_eq_true (by omega)
    · exact decide_eq_false (by omega)
  unfold G
  dsimp only
  rw [h1, if_pos rfl, h2]
  have h3 := congrArg Fin.val h1
  dsimp only at h3
  exact congrArg _ (rowIdx_congr (by omega))

/-- The half blocks final once the own block and `n` and `m` hops of the two directions are done. -/
def TT (c : Dev nD) (n m : ℕ) : Finset ℕ :=
  (Finset.range 32).filter fun r => r / 2 = c.val ∨ (∃ k, k < n ∧ r / 2 = (orig true k c).val) ∨ ∃ k, k < m ∧ r / 2 = (orig false k c).val

theorem TT_true (n m r : ℕ) (h : r ∈ TT c (n + 1) m) : r ∈ TT c n m ∨ r / 2 = (orig true n c).val := by
  unfold TT at *
  rw [Finset.mem_filter] at *
  obtain ⟨h0, h | ⟨k, hk, h⟩ | h⟩ := h
  · exact .inl ⟨h0, .inl h⟩
  · rcases Nat.lt_succ_iff_lt_or_eq.mp hk with hk | rfl
    · exact .inl ⟨h0, .inr (.inl ⟨k, hk, h⟩)⟩
    · exact .inr h
  · exact .inl ⟨h0, .inr (.inr h)⟩
theorem TT_false (n m r : ℕ) (h : r ∈ TT c n (m + 1)) : r ∈ TT c n m ∨ r / 2 = (orig false m c).val := by
  unfold TT at *
  rw [Finset.mem_filter] at *
  obtain ⟨h0, h | h | ⟨k, hk, h⟩⟩ := h
  · exact .inl ⟨h0, .inl h⟩
  · exact .inl ⟨h0, .inr (.inl h)⟩
  · rcases Nat.lt_succ_iff_lt_or_eq.mp hk with hk | rfl
    · exact .inl ⟨h0, .inr (.inr ⟨k, hk, h⟩)⟩
    · exact .inr h

theorem orig_ne (c : Dev nD) : c ≠ orig true 7 c ∧ ∀ (b : Bool) (k : Fin 7), orig b k.val c ≠ orig true 7 c := by
  revert c; decide
theorem orig_opp (c : Dev nD) : orig false 7 c = orig true 7 c := by revert c; decide
theorem TT_all (c : Dev nD) : ∀ r ∈ Finset.range 32, r ∈ TT c 7 7 ∨ r / 2 = (orig true 7 c).val := by
  have h : ∀ (c e : Dev nD), e = c ∨ (∃ k, k < 7 ∧ e = orig true k c) ∨ e = orig true 7 c ∨ ∃ k, k < 7 ∧ e = orig false k c := by decide
  intro r hr
  have hr' := Finset.mem_range.mp hr
  unfold TT
  rw [Finset.mem_filter]
  have hlt : r / 2 < nD := by show r / 2 < 16; omega
  rcases h c ⟨r / 2, hlt⟩ with h | ⟨k, hk, h⟩ | h | ⟨k, hk, h⟩
  · exact .inl ⟨hr, .inl (congrArg Fin.val h)⟩
  · exact .inl ⟨hr, .inr (.inl ⟨k, hk, congrArg Fin.val h⟩)⟩
  · exact .inr (congrArg Fin.val h)
  · exact .inl ⟨hr, .inr (.inr ⟨k, hk, congrArg Fin.val h⟩)⟩

/-- A store of one whole row block of the result. -/
theorem out_block {α : Type} {Q : α → sProp 𝕄} {T : Finset ℕ} (T' : Finset ℕ) (e : Dev nD) (he : e ≠ orig true 7 c) {off : Fin 2 → ℕ} (hoff : off = ![256 * e.val, 0])
    {inb inb' : ∀ a, off a + S256x128.size a ≤ S4096x128.size a} {w : S256x128.Idx → Elt F .f32}
    {hl : oM.view.LoadsAt (Rect.unit (s := S4096x128) off S256x128.size inb).toLoadRect}
    {hx : (oM.access (Rect.unit (s := S4096x128) off S256x128.size inb')).Stores Finset.univ}
    {hm : (Finset.univ : Finset S256x128.Idx) = Finset.univ ∨ ∀ a, (Rect.unit (s := S4096x128) off S256x128.size inb').stride a = 1}
    {k : PUnit → Prog (TpuEff nD τ sig (Elt F) Λ₀ .tc) α}
    (hT : ∀ r, r ∈ T' → r ∈ T ∨ r / 2 = e.val) (hw : w = g256 (X e) (W c)) :
    Out X W c T ⊢ iprop((Out X W c T' -∗ run (F := F) c (k ⟨⟩) Q)
        -∗ run (F := F) c (.op (.load oM (Rect.unit (s := S4096x128) off S256x128.size inb).toLoadRect hl) fun _ =>
          .op (.store oM (Rect.unit (s := S4096x128) off S256x128.size inb') w Finset.univ hx hm) k) Q) := by
  subst hw
  exact out_store X c W (n := 256) (256 * e.val) hoff (fun i hi => (hT _ hi).imp id fun h => by omega) (fun i h => G_full X c W e he i h)

/-- A store of one half of the row block that comes in halves. -/
theorem out_half {α : Type} {Q : α → sProp 𝕄} {T : Finset ℕ} (T' : Finset ℕ) (t : Bool) {off : Fin 2 → ℕ} (hoff : off = ![256 * (orig true 7 c).val + cond t 0 128, 0])
    {inb inb' : ∀ a, off a + S128x128.size a ≤ S4096x128.size a} {w : S128x128.Idx → Elt F .f32}
    {hl : oM.view.LoadsAt (Rect.unit (s := S4096x128) off S128x128.size inb).toLoadRect}
    {hx : (oM.access (Rect.unit (s := S4096x128) off S128x128.size inb')).Stores Finset.univ}
    {hm : (Finset.univ : Finset S128x128.Idx) = Finset.univ ∨ ∀ a, (Rect.unit (s := S4096x128) off S128x128.size inb').stride a = 1}
    {k : PUnit → Prog (TpuEff nD τ sig (Elt F) Λ₀ .tc) α}
    (hT : ∀ r, r ∈ T' → r ∈ T ∨ r = 2 * (orig true 7 c).val + cond t 0 1) (hw : w = g128 (halfX t (X (orig true 7 c))) (W c)) :
    Out X W c T ⊢ iprop((Out X W c T' -∗ run (F := F) c (k ⟨⟩) Q)
        -∗ run (F := F) c (.op (.load oM (Rect.unit (s := S4096x128) off S128x128.size inb).toLoadRect hl) fun _ =>
          .op (.store oM (Rect.unit (s := S4096x128) off S128x128.size inb') w Finset.univ hx hm) k) Q) := by
  subst hw
  refine out_store X c W (n := 128) (256 * (orig true 7 c).val + cond t 0 128) hoff (fun i hi => (hT _ hi).imp id fun h => ?_) (fun i h => G_half X c W t i h)
  cases t
  · simp only [cond_false] at h ⊢; omega
  · simp only [cond_true] at h ⊢; omega

/-! ## Words -/

theorem dev_wd (e : Dev nD) : k0_dev1 (wd e) = e.val := by revert e; decide
theorem off_wd (e : Dev nD) : k0_off2 (wd e) = ![256 * e.val, 0] := by revert e; decide
theorem off_wd_top (e : Dev nD) : k0_off16 (wd e) = ![256 * e.val + 0, 0] := by revert e; decide
theorem off_wd_bottom (e : Dev nD) : k0_off17 (wd e) = ![256 * e.val + 128, 0] := by revert e; decide
theorem off_own (c : Dev nD) : k0_off1 c = ![256 * c.val, 0] := by revert c; decide
theorem chk1_wd (e : Dev nD) : k0_chk1 (wd e) := by revert e; decide
theorem chk2_wd (e : Dev nD) : k0_chk2 (wd e) := by revert e; decide
theorem chk_wd (e : Dev nD) : k0_chk3 (wd e) := by revert e; decide
theorem chk17_wd (e : Dev nD) : k0_chk17 (wd e) := by revert e; decide
theorem chk18_wd (e : Dev nD) : k0_chk18 (wd e) := by revert e; decide

/-! ## The payloads -/

theorem pay_own (x : S256x4096.Idx → Elt F .f32) (w : S4096x128.Idx → Elt F .f32) : k0_pay3 x w = g256 x w := by
  unfold k0_pay3; rw [shapeCast_self]; rfl
theorem pay_slot {x : S256x4096.Idx → Elt F .f32} {v : S1x256x4096.Idx → Elt F .f32} (hv : shapeCast S256x4096 v shapeCasts_S1x256x4096_S256x4096 = x)
    (w : S4096x128.Idx → Elt F .f32) : k0_pay6 v w = g256 x w := by
  unfold k0_pay6; rw [hv, shapeCast_self]; rfl
theorem pay_half {x : S128x4096.Idx → Elt F .f32} {v : S1x128x4096.Idx → Elt F .f32} (hv : shapeCast S128x4096 v shapeCasts_S1x128x4096_S128x4096 = x)
    (w : S4096x128.Idx → Elt F .f32) : k0_pay1 v w = g128 x w := by
  unfold k0_pay1; rw [hv, shapeCast_self]; rfl

end Cert.KernelIdeal.Ring

end
-- ==== Proof.KernelIdealHops.lean ====
/- The steps of one hop: a landing taken, the copy on and the credits around it, and the products of the landed rows. -/
module

public import proofs.«01_k».proof.Proof.KernelIdealLoads

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (b : Bool) (c : Dev nD)

theorem slotM_eq {s t : ℕ} (h : s % 3 = t % 3) : slotM b s = slotM b t := by
  have e : ∀ (n m : ℕ) (h1 : ∀ a, (![n, 0, 0] : Fin 3 → ℕ) a + S1x256x4096.size a ≤ S3x256x4096.size a)
      (h2 : ∀ a, (![m, 0, 0] : Fin 3 → ℕ) a + S1x256x4096.size a ≤ S3x256x4096.size a), n = m →
      (((bufM b).slice (Rect.unit (s := S3x256x4096) ![n, 0, 0] S1x256x4096.size h1) (fun _ => rfl)).squeeze S256x4096 squeezes_S1x256x4096_S256x4096)
        = (((bufM b).slice (Rect.unit (s := S3x256x4096) ![m, 0, 0] S1x256x4096.size h2) (fun _ => rfl)).squeeze S256x4096 squeezes_S1x256x4096_S256x4096) := by
    rintro n _ h1 h2 rfl; rfl
  exact e _ _ _ _ h

/-- The elements of a slot, and of half a slot. -/
def slotS (k : ℕ) : Finset (bufM b).view.ty.Idx := (slotM b k).view.set
def halfS (k : ℕ) (t : Bool) : Finset (bufM b).view.ty.Idx := (halfM b k t).view.set

theorem slotS_eq {s t : ℕ} (h : s % 3 = t % 3) : slotS b s = slotS b t := by
  have e : ∀ (n m : ℕ) (h1 : ∀ a, (![n, 0, 0] : Fin 3 → ℕ) a + S1x256x4096.size a ≤ S3x256x4096.size a)
      (h2 : ∀ a, (![m, 0, 0] : Fin 3 → ℕ) a + S1x256x4096.size a ≤ S3x256x4096.size a), n = m →
      ((((bufM b).slice (Rect.unit (s := S3x256x4096) ![n, 0, 0] S1x256x4096.size h1) (fun _ => rfl)).squeeze S256x4096 squeezes_S1x256x4096_S256x4096).view.set : Finset (bufM b).view.ty.Idx)
        = (((bufM b).slice (Rect.unit (s := S3x256x4096) ![m, 0, 0] S1x256x4096.size h2) (fun _ => rfl)).squeeze S256x4096 squeezes_S1x256x4096_S256x4096).view.set := by
    rintro n _ h1 h2 rfl; rfl
  exact e _ _ _ _ h

theorem half_sub (k : ℕ) (t : Bool) : halfS b k t ⊆ slotS b k := by
  have e : slotS b k = ((bufM b).view.slice (Rect.unit (s := S3x256x4096) ![k % 3, 0, 0] S1x256x4096.size (slot_inb k))).set := View.set_reshape _ _
  have e' : halfS b k t = ((bufM b).view.slice (Rect.unit (s := S3x256x4096) ![k % 3, cond t 0 128, 0] S1x128x4096.size (half_inb k t))).set := View.set_reshape _ _
  intro i hi
  rw [e'] at hi
  rw [e]
  obtain ⟨x, -, rfl⟩ := Finset.mem_map.mp hi
  have h0 : (x 0).val < 1 := (x 0).isLt
  have h1 : (x 1).val < 128 := (x 1).isLt
  have h2 : (x 2).val < 4096 := (x 2).isLt
  refine Finset.mem_map.mpr ⟨(fun | 0 => ⟨(x 0).val, h0⟩ | 1 => ⟨(x 1).val + cond t 0 128, by show _ < 256; cases t <;> simp <;> omega⟩ | 2 => ⟨(x 2).val, h2⟩ : S1x256x4096.Idx), Finset.mem_univ _, ?_⟩
  refine congrArg (bufM b).view.emb (funext fun a => ?_)
  fin_cases a
  · exact Fin.ext rfl
  · exact Fin.ext (by show 0 + 1 * ((x 1).val + cond t 0 128) = cond t 0 128 + 1 * (x 1).val; omega)
  · exact Fin.ext rfl

/-- Hop `h`'s slot with its rows, at the half kept for the product, and at the half the next copy reads. -/
def Held (h : ℕ) : sProp 𝕄 := bpts b c (slotM b h).view.set fullShare.left (bigx X b (orig b h c))
def Sent (h : ℕ) : sProp 𝕄 := bpts b c (slotM b h).view.set fullShare.right (bigx X b (orig b h c))
/-- The half of slot 1 the last hop does not land on. -/
def Rest : sProp 𝕄 := bany (F := F) b c (slotS b 1 \ halfS b 1 b)
def Kept (h : ℕ) : sProp 𝕄 := if h = 4 then Rest (F := F) b c else iprop(emp)

theorem rcv_split {h : ℕ} (h7 : h < 7) : rcvPay X b h c ⊢ iprop(Held X b c h ∗ Sent X b c h) := by
  unfold rcvPay Held Sent
  rw [lset_slot b (by omega)]
  exact Entails.of_eq (halves _ _)

theorem sent_src {h : ℕ} (h6 : h < 6) : Sent X b c h = bpts b c (sset b h) fullShare.right (bigx X b (orig b h c)) := by
  unfold Sent; rw [sset_slot b (by omega)]

theorem slot_back {h : ℕ} (h6 : h < 6) : iprop(Held X b c h ∗ sndPay X b (h + 1) c) ⊢ bany (F := F) b c (slotS b h) := by
  rw [sndPay_succ, sset_slot b (by omega)]
  unfold Held slotS bany
  rw [← halves]
  iintro H
  iexists _
  iexact H

/-- A slot read and sent on is free for the hop three later. -/
theorem slot_free {h : ℕ} (h5 : h < 5) : iprop(Held X b c h ∗ sndPay X b (h + 1) c) ⊢ iprop(bany (F := F) b c (lset b (h + 3)) ∗ Kept b c h) := by
  refine (slot_back X b c (by omega)).trans ?_
  unfold Kept
  rcases Nat.lt_or_ge h 4 with h4 | h4
  · rw [if_neg (by omega), lset_slot b (by omega), show (slotM b (h + 3)).view.set = slotS b (h + 3) from rfl, slotS_eq b (s := h + 3) (t := h) (by omega)]
    iintro H
    isplitl [H]; · iexact H
    iempintro
  · obtain rfl : h = 4 := by omega
    rw [if_pos rfl, lset_half b, slotS_eq b (s := 4) (t := 1) (by decide)]
    unfold Rest bany
    iintro ⟨%f, H⟩
    ihave ⟨H1, H2⟩ := (pointsTo_split_subset (half_sub b 1 b)).1 $$ H
    isplitl [H1]
    · iexists f; iexact H1
    · iexists f; iexact H2

/-- A landing. -/
theorem recv_step {α : Type} {Q : α → sProp 𝕄} (nr : ℕ) {ns st cr tk k' j' : ℕ} (h : nr < 7) (hst : nr < st) (hcr : nr ≤ cr ∨ 6 ≤ cr) (hk' : nr < k') (hj' : nr ≤ j' ∨ 6 ≤ j')
    {s s' : Shape} {e e' : EltTy} {sp sp' : Space} {sem : DmaSem sig} {src : Memref sig .tc sp' s' e'} {dst : Memref sig .tc sp s e}
    {h1 : src.view.WordExact} {h2 : dst.view.WordExact} {k : PUnit → Prog (TpuEff nD τ sig (Elt F) Λ₀ .tc) α}
    (hsem : sem = rS b nr) (hamt : dst.view.dmaCredit = Nof nr) :
    iprop(recs X K ι ∗ Dir b c nr ns st cr tk ∗ Ow b c st cr k' j')
      ⊢ iprop((iprop(Dir b c (nr + 1) ns st cr tk ∗ Ow b c st cr k' j' ∗ Held X b c nr ∗ Sent X b c nr) -∗ run (F := F) c (k ⟨⟩) Q)
        -∗ run (F := F) c (.op (.waitDma2 sem src dst h1 h2) k) Q) := by
  iintro H Hk
  iapply (move_recv X K ι b c (by omega) hst hcr hk' hj' hsem hamt) $$ H
  iintro ⟨HD, HO, HP⟩
  iapply Hk
  isplitl [HD]; · iexact HD
  isplitl [HO]; · iexact HO
  iapply (rcv_split X b c h) $$ HP

/-- The send of hop `n + 1` awaited, the slot of hop `n` credited, a credit taken, hop `n + 2` started. -/
theorem go_step {α : Type} {Q : α → sProp 𝕄} (n : ℕ) {k' j' : ℕ} (h1n : 1 ≤ n) (hn4 : n ≤ 4) (hk' : n + 1 ≤ k') (hj' : n + 1 ≤ j')
    {s s' : Shape} {e e' : EltTy} {sp sp' : Space} {sem : DmaSem sig} {src : Memref sig .tc sp' s' e'} {dst : Memref sig .tc sp s e}
    {h1 : src.view.WordExact} {h2 : dst.view.WordExact} (hsem : sem = sS b (n + 1)) (hamt : dst.view.dmaCredit = Nof (n + 1))
    {d : Thread nD τ} {cs cs' : Sem sig} {m m' : ℕ} (hd : d = (inn b c : Thread nD τ)) (hcs : cs = cS b) (hm : m = 1) (hcs' : cs' = cS b) (hm' : m' = 1)
    {src' : Memref sig .tc .vmem S256x4096 .f32} {dst' : Memref sig .tc .vmem S256x4096 .f32} {d' : Dev nD} {sd rv : DmaSem sig}
    {hsc : dst'.view.ref.isScScratch = false}
    {h1' : src'.view.WordExact} {h2' : dst'.view.WordExact} {hty : DmaTarget.Typed .vmem (.dma rv) (.remote (d' : Thread nD τ) dst' (.dma sd) hsc)}
    {k : PUnit → Prog (TpuEff nD τ sig (Elt F) Λ₀ .tc) α}
    (hd' : d' = out b c) (hsrc : src' = slotM b (n + 1)) (hdst : dst' = slotM b (n + 2)) (hsd : sd = sS b (n + 2)) (hrv : rv = rS b (n + 2)) :
    iprop(recs X K ι ∗ Dir b c (n + 2) (n + 1) (n + 2) (n + 1) (n + 2) ∗ Ow b c (n + 2) (n + 1) k' j' ∗ Held X b c n ∗ Sent X b c (n + 1))
      ⊢ iprop((iprop(Dir b c (n + 2) (n + 2) (n + 3) (n + 2) (n + 3) ∗ Ow b c (n + 3) (n + 2) k' j' ∗ Kept b c n) -∗ run (F := F) c (k ⟨⟩) Q)
        -∗ run (F := F) c (.op (.waitDma2 sem src dst h1 h2) fun _ => .op (.semSignal d cs m) fun _ => .op (.semWait cs' m') fun _ =>
          .op (.enqueueDma src' (.remote (d' : Thread nD τ) dst' (.dma sd) hsc) (.dma rv) h1' h2' hty) k) Q) := by
  iintro ⟨#HR, HD, HO, HH, HS⟩ Hk
  iapply (move_send X K ι b c (ns := n + 1) (st := n + 2) (by omega) (by omega) hsem hamt) $$ [HD HO]
  · isplitr; · iexact HR
    isplitl [HD]; · iexact HD
    iexact HO
  iintro ⟨HD, HO, HP⟩
  ihave ⟨HF, HK⟩ := (slot_free X b c (h := n) (by omega)) $$ [HH HP]
  · isplitl [HH] <;> iassumption
  iapply (move_credit X K ι b c (cr := n + 1) (nr := n + 2) (by omega) (by omega) (by omega) hd hcs hm) $$ [HD HO HF]
  · isplitr; · iexact HR
    isplitl [HD]; · iexact HD
    isplitl [HO]; · iexact HO
    iexact HF
  iintro ⟨HD, HO⟩
  iapply (move_take X K ι b c (tk := n + 2) (st := n + 2) (cr := n + 2) (k' := k') (j' := j') (by omega) (by omega) (by omega) (by omega) (by omega) (by omega) (by omega) hcs' hm') $$ [HD HO]
  · isplitr; · iexact HR
    isplitl [HD]; · iexact HD
    iexact HO
  iintro ⟨HD, HO⟩
  ihave HS := (Entails.of_eq (sent_src X b c (h := n + 1) (by omega))) $$ HS
  iapply (start_mid X K ι b c (n + 1) (ns := n + 2) (tk := n + 3) (by omega) (by omega) (by omega) (by omega) hd' hsrc hdst hsd hrv) $$ [HD HO HS]
  · isplitr; · iexact HR
    isplitl [HD]; · iexact HD
    isplitl [HO]; · iexact HO
    iexact HS
  iintro ⟨HD, HO⟩
  iapply Hk
  isplitl [HD]; · iexact HD
  isplitl [HO]; · iexact HO
  iexact HK

/-- The same at the first hop, where no credit is awaited. -/
theorem go_first {α : Type} {Q : α → sProp 𝕄} {k' j' : ℕ}
    {s s' : Shape} {e e' : EltTy} {sp sp' : Space} {sem : DmaSem sig} {src : Memref sig .tc sp' s' e'} {dst : Memref sig .tc sp s e}
    {h1 : src.view.WordExact} {h2 : dst.view.WordExact} (hsem : sem = sS b 1) (hamt : dst.view.dmaCredit = Nof 1)
    {d : Thread nD τ} {cs : Sem sig} {m : ℕ} (hd : d = (inn b c : Thread nD τ)) (hcs : cs = cS b) (hm : m = 1)
    {src' : Memref sig .tc .vmem S256x4096 .f32} {dst' : Memref sig .tc .vmem S256x4096 .f32} {d' : Dev nD} {sd rv : DmaSem sig}
    {hsc : dst'.view.ref.isScScratch = false}
    {h1' : src'.view.WordExact} {h2' : dst'.view.WordExact} {hty : DmaTarget.Typed .vmem (.dma rv) (.remote (d' : Thread nD τ) dst' (.dma sd) hsc)}
    {k : PUnit → Prog (TpuEff nD τ sig (Elt F) Λ₀ .tc) α}
    (hd' : d' = out b c) (hsrc : src' = slotM b 1) (hdst : dst' = slotM b 2) (hsd : sd = sS b 2) (hrv : rv = rS b 2) :
    iprop(recs X K ι ∗ Dir b c 2 1 2 1 3 ∗ Ow b c 2 1 k' j' ∗ Held X b c 0 ∗ Sent X b c 1)
      ⊢ iprop((iprop(Dir b c 2 2 3 2 3 ∗ Ow b c 3 2 k' j') -∗ run (F := F) c (k ⟨⟩) Q)
        -∗ run (F := F) c (.op (.waitDma2 sem src dst h1 h2) fun _ => .op (.semSignal d cs m) fun _ =>
          .op (.enqueueDma src' (.remote (d' : Thread nD τ) dst' (.dma sd) hsc) (.dma rv) h1' h2' hty) k) Q) := by
  iintro ⟨#HR, HD, HO, HH, HS⟩ Hk
  iapply (move_send X K ι b c (ns := 1) (st := 2) (by omega) (by omega) hsem hamt) $$ [HD HO]
  · isplitr; · iexact HR
    isplitl [HD]; · iexact HD
    iexact HO
  iintro ⟨HD, HO, HP⟩
  ihave ⟨HF, -⟩ := (slot_free X b c (h := 0) (by omega)) $$ [HH HP]
  · isplitl [HH] <;> iassumption
  iapply (move_credit X K ι b c (cr := 1) (nr := 2) (by omega) (by omega) (by omega) hd hcs hm) $$ [HD HO HF]
  · isplitr; · iexact HR
    isplitl [HD]; · iexact HD
    isplitl [HO]; · iexact HO
    iexact HF
  iintro ⟨HD, HO⟩
  ihave HS := (Entails.of_eq (sent_src X b c (h := 1) (by omega))) $$ HS
  iapply (start_mid X K ι b c 1 (ns := 2) (tk := 3) (by omega) (by omega) (by omega) (by omega) hd' hsrc hdst hsd hrv) $$ [HD HO HS]
  · isplitr; · iexact HR
    isplitl [HD]; · iexact HD
    isplitl [HO]; · iexact HO
    iexact HS
  iexact Hk

/-- The landed rows read, the number of their block, and the weights. -/
theorem fetch {α : Type} {Q : α → sProp 𝕄} (h n : ℕ) (hn : n = h % 3) (P : BitVec 32 → Prop) (hP : ∀ e, P (wd e)) {x : S1.Idx} {dP : ∀ f : S1.Idx → Elt F .i32, Decidable (P (f x))}
    {mb : Memref sig .tc .vmem S3x256x4096 .f32} (hmb : mb = bufM b)
    {inb1 : ∀ a, (![n, 0, 0] : Fin 3 → ℕ) a + S1x256x4096.size a ≤ S3x256x4096.size a}
    {hl1 : mb.view.LoadsAt (Rect.unit (s := S3x256x4096) ![n, 0, 0] S1x256x4096.size inb1).toLoadRect}
    {m : Memref sig .tc .smem S8 .i32} (hm : m = cond b o3M o4M) {inb2 : ∀ a, (![h] : Fin 1 → ℕ) a + S1.size a ≤ S8.size a}
    {hl2 : m.view.LoadsAt (Rect.unit (s := S8) ![h] S1.size inb2).toLoadRect}
    {inb3 : ∀ a, (![0, 0] : Fin 2 → ℕ) a + S4096x128.size a ≤ S4096x128.size a}
    {hl3 : wM.view.LoadsAt (Rect.unit (s := S4096x128) ![0, 0] S4096x128.size inb3).toLoadRect}
    {k : (S1x256x4096.Idx → Elt F .f32) → (f : S1.Idx → Elt F .i32) → PLift (P (f x)) → (S4096x128.Idx → Elt F .f32) → Prog (TpuEff nD τ sig (Elt F) Λ₀ .tc) α} :
    iprop(Held X b c h ∗ Tab W c)
      ⊢ iprop((∀ v : S1x256x4096.Idx → Elt F .f32, ⌜shapeCast S256x4096 v shapeCasts_S1x256x4096_S256x4096 = X (orig b h c)⌝
          -∗ iprop(Held X b c h ∗ Tab W c) -∗ run (F := F) c (k v (fun _ => wd (orig b h c)) ⟨hP (orig b h c)⟩ (W c)) Q)
        -∗ run (F := F) c (.op (.load mb (Rect.unit (s := S3x256x4096) ![n, 0, 0] S1x256x4096.size inb1).toLoadRect hl1) fun v =>
          .op (.load m (Rect.unit (s := S8) ![h] S1.size inb2).toLoadRect hl2) fun f =>
          .op (.assume (P (f x)) (dP f)) fun hp =>
          .op (.load wM (Rect.unit (s := S4096x128) ![0, 0] S4096x128.size inb3).toLoadRect hl3) fun w => k v f hp w) Q) := by
  iintro ⟨HH, HT⟩ Hk
  unfold Held
  iapply (load_slot X b c h n hn (orig b h c) fullShare.left hmb) $$ HH
  iintro %v %hv HH
  iapply (load_o b c W h hm) $$ HT
  iintro HT
  iapply (wp_assume 𝒱₀ (c : Thread nD τ) none Set.univ (hP (orig b h c)))
  iapply (load_w c W) $$ HT
  iintro HT
  iapply Hk $$ %v
  · ipureintro; exact hv
  isplitl [HH]; · iexact HH
  iexact HT

/-- A rule applied under what else is held. -/
theorem use_rule {Γ H P A B : sProp 𝕄} (h1 : Entails' Γ iprop(H ∗ (P -∗ A))) (h : H ⊢ iprop((P -∗ A) -∗ B)) : Entails' Γ B := by
  refine BIBase.Entails.trans h1 ?_
  iintro ⟨HH, HA⟩
  iapply h $$ HH
  iexact HA

theorem use_fetch {ν : Type} {Γ H B : sProp 𝕄} {R : ν → sProp 𝕄} {φ : ν → Prop}
    (h1 : Entails' Γ iprop(H ∗ ∀ v, ⌜φ v⌝ -∗ R v)) (h : H ⊢ iprop((∀ v, ⌜φ v⌝ -∗ R v) -∗ B)) : Entails' Γ B := by
  refine BIBase.Entails.trans h1 ?_
  iintro ⟨HH, HA⟩
  iapply h $$ HH
  iexact HA

theorem run_ret {α : Type} {Q : α → sProp 𝕄} {a : α} : Q a ⊢ run (F := F) c (.ret a) Q := by
  refine BIBase.Entails.trans ?_ (Entails.of_eq (wp_ret _ _ _ _ _).symm)
  iintro H
  imodintro
  iexact H

theorem mk_dev {e : Dev nD} {v : BitVec 32} (hv : v = wd e) (h : k0_dev1 v < nD) : (⟨k0_dev1 v, h⟩ : Dev nD) = e :=
  Fin.ext (by subst hv; exact dev_wd e)

/-- The product of hop `n`'s rows put in its place. -/
theorem out_hop {α : Type} {Q : α → sProp 𝕄} (n : ℕ) (h7 : n < 7) {off : Fin 2 → ℕ} (hoff : off = ![256 * (orig b n c).val, 0])
    {inb inb' : ∀ a, off a + S256x128.size a ≤ S4096x128.size a} {w : S256x128.Idx → Elt F .f32}
    {hl : oM.view.LoadsAt (Rect.unit (s := S4096x128) off S256x128.size inb).toLoadRect}
    {hx : (oM.access (Rect.unit (s := S4096x128) off S256x128.size inb')).Stores Finset.univ}
    {hm : (Finset.univ : Finset S256x128.Idx) = Finset.univ ∨ ∀ a, (Rect.unit (s := S4096x128) off S256x128.size inb').stride a = 1}
    {k : PUnit → Prog (TpuEff nD τ sig (Elt F) Λ₀ .tc) α} (hw : w = g256 (X (orig b n c)) (W c)) :
    Out X W c (TT c (cond b n (n + 1)) n) ⊢ iprop((Out X W c (TT c (n + 1) (cond b n (n + 1))) -∗ run (F := F) c (k ⟨⟩) Q)
        -∗ run (F := F) c (.op (.load oM (Rect.unit (s := S4096x128) off S256x128.size inb).toLoadRect hl) fun _ =>
          .op (.store oM (Rect.unit (s := S4096x128) off S256x128.size inb') w Finset.univ hx hm) k) Q) := by
  refine out_block X c W _ (orig b n c) ((orig_ne c).2 b ⟨n, h7⟩) hoff (fun r hr => ?_) hw
  cases b
  · exact TT_false c (n + 1) n r hr
  · exact TT_true c n n r hr

end Cert.KernelIdeal.Ring

end
-- ==== Proof.KernelIdealMid.lean ====
/- The middle hops: the body's parts 5 to 19. -/
module

public import proofs.«01_k».proof.Proof.KernelIdealHops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (c : Dev nD)

/-- A part of the body on the body's own operands. -/
abbrev onArgs {β : Type 1} (f : ∀ (a0 : Memref sig .tc .vmem S256x4096 .f32), a0.IsWhole → ∀ (a1 : Memref sig .tc .vmem S4096x128 .f32), a1.IsWhole →
    ∀ (a2 : Memref sig .tc .smem S2 .i32), a2.IsWhole → ∀ (a3 : Memref sig .tc .smem S8 .i32), a3.IsWhole → ∀ (a4 : Memref sig .tc .smem S8 .i32), a4.IsWhole →
    ∀ (a5 : Memref sig .tc .vmem S4096x128 .f32), a5.IsWhole → ∀ (a6 : Memref sig .tc .vmem S3x256x4096 .f32), a6.IsWhole → ∀ (a7 : Memref sig .tc .vmem S3x256x4096 .f32), a7.IsWhole →
    DmaSems sig S3 → DmaSems sig S3 → DmaSems sig S3 → DmaSems sig S3 → Sems sig S_ → Sems sig S_ → β) : β :=
  f xM (Memref.isWhole_whole _) wM (Memref.isWhole_whole _) nbM (Memref.isWhole_whole _) o3M (Memref.isWhole_whole _) o4M (Memref.isWhole_whole _) oM (Memref.isWhole_whole _)
    (bufM true) (Memref.isWhole_whole _) (bufM false) (Memref.isWhole_whole _) cc0_scratch2 cc0_scratch3 cc0_scratch4 cc0_scratch5 cc0_scratch6 cc0_scratch7

/-- The product's start, all zero. -/
abbrev z0 : FVec F S256x128 .f32 := constant S256x128 .f32 0x00000000#32

theorem part5 {Q : PUnit → sProp 𝕄} :
    iprop(recs X K ι ∗ Dir true c 1 1 2 1 3 ∗ Ow true c 2 1 2 1 ∗ Held X true c 0)
      ⊢ iprop((iprop(Dir true c 2 2 3 2 3 ∗ Ow true c 3 2 2 1 ∗ Held X true c 1) -∗ Q ⟨⟩)
        -∗ run (F := F) c ((onArgs (k0_part5 (F := F)) :) (wd (lt c)) (chk1_wd _) (wd (rt c)) (chk2_wd _)) Q) := by
  iintro ⟨#HR, HD, HO, HH⟩ Hk
  simp only [onArgs, k0_part5_eq_skeleton]
  unfold k0_part5_skel
  simp only [semSignalWord, semWaitWord, smemLoad, smemLoadElt, Prog.lift, Prog.bind_op, Prog.bind_ret, Prog.pure_eq_ret, Prog.bind_assoc]
  refine use_rule ?_ (recv_step X K ι true c 1 (ns := 1) (st := 2) (cr := 1) (tk := 3) (k' := 2) (j' := 1) (by decide) (by decide) (by decide) (by decide) (by decide) ?_ ?_)
  isplitl [HD HO]
  · isplitr; · iexact HR
    isplitl [HD]; · iexact HD
    iexact HO
  iintro ⟨HD, HO, Hh, Hs⟩
  refine use_rule ?_ (go_first X K ι true c (k' := 2) (j' := 1) ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO⟩
  iapply (run_ret c)
  iapply Hk
  isplitl [HD]; · iexact HD
  isplitl [HO]; · iexact HO
  iexact Hh
  all_goals first | rfl | exact mk_dev rfl _ | exact congrArg Dev.tc (mk_dev rfl _) | exact off_wd _ | exact pay_slot (by assumption) _

theorem part6 {Q : (Σ' (_ : FVec F S256x4096 .f32) (v : Elt F .i32) (_ : k0_chk5 v) (_ : FVec F S4096x128 .f32), FVec F S256x128 .f32) → sProp 𝕄} :
    iprop(recs X K ι ∗ Dir false c 1 1 2 1 3 ∗ Ow true c 3 2 2 1 ∗ Held X false c 0 ∗ Held X true c 1 ∗ Tab W c)
      ⊢ iprop((iprop(Dir false c 2 2 3 2 3 ∗ Ow true c 3 2 3 2 ∗ Held X false c 1 ∗ Held X true c 1 ∗ Tab W c) -∗ Q ⟨X (orig true 1 c), wd (orig true 1 c), chk_wd _, W c, z0⟩)
        -∗ run (F := F) c ((onArgs (k0_part6 (F := F)) :) (wd (lt c)) (chk1_wd _) (wd (rt c)) (chk2_wd _)) Q) := by
  iintro ⟨#HR, HD, HO, HH, HT, HW⟩ Hk
  simp only [onArgs, k0_part6_eq_skeleton]
  unfold k0_part6_skel
  simp only [semSignalWord, semWaitWord, smemLoad, smemLoadElt, Prog.lift, Prog.bind_op, Prog.bind_ret, Prog.pure_eq_ret, Prog.bind_assoc]
  ihave HO := (Entails.of_eq (Ow_swap true c 3 2 2 1)) $$ HO
  refine use_rule ?_ (recv_step X K ι false c 1 (ns := 1) (st := 2) (cr := 1) (tk := 3) (k' := 3) (j' := 2) (by decide) (by decide) (by decide) (by decide) (by decide) ?_ ?_)
  isplitl [HD HO]
  · isplitr; · iexact HR
    isplitl [HD]; · iexact HD
    iexact HO
  iintro ⟨HD, HO, Hh, Hs⟩
  refine use_rule ?_ (go_first X K ι false c (k' := 3) (j' := 2) ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO⟩
  ihave HO := (Entails.of_eq (Ow_swap false c 3 2 3 2)) $$ HO
  refine use_fetch ?_ (fetch X W true c 1 1 rfl k0_chk5 chk_wd ?_ ?_)
  isplitl [HT HW]
  · isplitl [HT]; · iexact HT
    iexact HW
  iintro %v %hv ⟨HT, HW⟩
  iapply (run_ret c)
  have e : k0_pay7 v = X (orig true 1 c) := hv
  have e' : k0_pay8 (W c) = W c := shapeCast_self _ _
  show Entails' _ (Q ⟨k0_pay7 v, wd (orig true 1 c), chk_wd _, k0_pay8 (W c), z0⟩)
  rw [e, e']
  iapply Hk
  isplitl [HD]; · iexact HD
  isplitl [HO]; · iexact HO
  isplitl [Hh]; · iexact Hh
  isplitl [HT]; · iexact HT
  iexact HW
  all_goals first | rfl | exact mk_dev rfl _ | exact congrArg Dev.tc (mk_dev rfl _) | exact off_wd _ | exact pay_slot (by assumption) _

theorem part7 {Q : PUnit → sProp 𝕄} :
    iprop(recs X K ι ∗ Dir true c 2 2 3 2 3 ∗ Ow true c 3 2 3 2 ∗ Held X false c 1 ∗ Tab W c ∗ Out X W c (TT c 1 1))
      ⊢ iprop((iprop(Dir true c 3 2 3 2 3 ∗ Ow true c 3 2 3 2 ∗ Held X true c 2 ∗ Sent X true c 2 ∗ Held X false c 1 ∗ Tab W c ∗ Out X W c (TT c 2 2)) -∗ Q ⟨⟩)
        -∗ run (F := F) c ((onArgs (k0_part7 (F := F)) :) (wd (rt c)) (X (orig true 1 c)) (wd (orig true 1 c)) (chk_wd _) (W c) z0) Q) := by
  iintro ⟨#HR, HD, HO, HH, HW, HX⟩ Hk
  simp only [onArgs, k0_part7_eq_skeleton]
  unfold k0_part7_skel
  simp only [semSignalWord, semWaitWord, smemLoad, smemLoadElt, Prog.lift, Prog.bind_op, Prog.bind_ret, Prog.pure_eq_ret, Prog.bind_assoc]
  refine use_rule ?_ (out_hop X W true c 1 (by decide) ?_ ?_)
  isplitl [HX]; · iexact HX
  iintro HX
  refine use_fetch ?_ (fetch X W false c 1 1 rfl k0_chk6 chk_wd ?_ ?_)
  isplitl [HH HW]
  · isplitl [HH]; · iexact HH
    iexact HW
  iintro %v %hv ⟨HH, HW⟩
  refine use_rule ?_ (out_hop X W false c 1 (by decide) ?_ ?_)
  isplitl [HX]; · iexact HX
  iintro HX
  refine use_rule ?_ (recv_step X K ι true c 2 (ns := 2) (st := 3) (cr := 2) (tk := 3) (k' := 3) (j' := 2) (by decide) (by decide) (by decide) (by decide) (by decide) ?_ ?_)
  isplitl [HD HO]
  · isplitr; · iexact HR
    isplitl [HD]; · iexact HD
    iexact HO
  iintro ⟨HD, HO, Hh, Hs⟩
  iapply (run_ret c)
  iapply Hk
  isplitl [HD]; · iexact HD
  isplitl [HO]; · iexact HO
  isplitl [Hh]; · iexact Hh
  isplitl [Hs]; · iexact Hs
  isplitl [HH]; · iexact HH
  isplitl [HW]; · iexact HW
  iexact HX
  all_goals first | rfl | exact mk_dev rfl _ | exact congrArg Dev.tc (mk_dev rfl _) | exact off_wd _ | exact pay_slot (by assumption) _

theorem part8 {Q : PUnit → sProp 𝕄} :
    iprop(recs X K ι ∗ Dir true c 3 2 3 2 3 ∗ Ow true c 3 2 3 2 ∗ Held X true c 1 ∗ Sent X true c 2)
      ⊢ iprop((iprop(Dir true c 3 3 4 3 4 ∗ Ow true c 4 3 3 2) -∗ Q ⟨⟩)
        -∗ run (F := F) c ((onArgs (k0_part8 (F := F)) :) (wd (lt c)) (chk1_wd _) (wd (rt c)) (chk2_wd _)) Q) := by
  iintro ⟨#HR, HD, HO, HH, HS⟩ Hk
  simp only [onArgs, k0_part8_eq_skeleton]
  unfold k0_part8_skel
  simp only [semSignalWord, semWaitWord, smemLoad, smemLoadElt, Prog.lift, Prog.bind_op, Prog.bind_ret, Prog.pure_eq_ret, Prog.bind_assoc]
  refine use_rule ?_ (go_step X K ι true c 1 (k' := 3) (j' := 2) (by decide) (by decide) (by decide) (by decide) ?_ ?_ ?_ ?_ ?_ ?_ ?_ ?_ ?_ ?_ ?_ ?_)
  isplitl [HD HO HH HS]
  · isplitr; · iexact HR
    isplitl [HD]; · iexact HD
    isplitl [HO]; · iexact HO
    isplitl [HH]; · iexact HH
    iexact HS
  iintro ⟨HD, HO, -⟩
  iapply (run_ret c)
  iapply Hk
  isplitl [HD]; · iexact HD
  iexact HO
  all_goals first | rfl | exact mk_dev rfl _ | exact congrArg Dev.tc (mk_dev rfl _) | exact off_wd _ | exact pay_slot (by assumption) _

theorem part9 {Q : (Σ' (_ : FVec F S256x4096 .f32) (v : Elt F .i32) (_ : k0_chk7 v) (_ : FVec F S4096x128 .f32), FVec F S256x128 .f32) → sProp 𝕄} :
    iprop(recs X K ι ∗ Dir false c 2 2 3 2 3 ∗ Ow true c 4 3 3 2 ∗ Held X false c 1 ∗ Held X true c 2 ∗ Tab W c)
      ⊢ iprop((iprop(Dir false c 3 3 4 3 4 ∗ Ow true c 4 3 4 3 ∗ Held X false c 2 ∗ Held X true c 2 ∗ Tab W c) -∗ Q ⟨X (orig true 2 c), wd (orig true 2 c), chk_wd _, W c, z0⟩)
        -∗ run (F := F) c ((onArgs (k0_part9 (F := F)) :) (wd (lt c)) (chk1_wd _) (wd (rt c)) (chk2_wd _)) Q) := by
  iintro ⟨#HR, HD, HO, HH, HT, HW⟩ Hk
  simp only [onArgs, k0_part9_eq_skeleton]
  unfold k0_part9_skel
  simp only [semSignalWord, semWaitWord, smemLoad, smemLoadElt, Prog.lift, Prog.bind_op, Prog.bind_ret, Prog.pure_eq_ret, Prog.bind_assoc]
  ihave HO := (Entails.of_eq (Ow_swap true c 4 3 3 2)) $$ HO
  refine use_rule ?_ (recv_step X K ι false c 2 (ns := 2) (st := 3) (cr := 2) (tk := 3) (k' := 4) (j' := 3) (by decide) (by decide) (by decide) (by decide) (by decide) ?_ ?_)
  isplitl [HD HO]
  · isplitr; · iexact HR
    isplitl [HD]; · iexact HD
    iexact HO
  iintro ⟨HD, HO, Hh, Hs⟩
  refine use_rule ?_ (go_step X K ι false c 1 (k' := 4) (j' := 3) (by decide) (by decide) (by decide) (by decide) ?_ ?_ ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO, -⟩
  ihave HO := (Entails.of_eq (Ow_swap false c 4 3 4 3)) $$ HO
  refine use_fetch ?_ (fetch X W true c 2 2 rfl k0_chk7 chk_wd ?_ ?_)
  isplitl [HT HW]
  · isplitl [HT]; · iexact HT
    iexact HW
  iintro %v %hv ⟨HT, HW⟩
  iapply (run_ret c)
  have e : k0_pay11 v = X (orig true 2 c) := hv
  have e' : k0_pay12 (W c) = W c := shapeCast_self _ _
  show Entails' _ (Q ⟨k0_pay11 v, wd (orig true 2 c), chk_wd _, k0_pay12 (W c), z0⟩)
  rw [e, e']
  iapply Hk
  isplitl [HD]; · iexact HD
  isplitl [HO]; · iexact HO
  isplitl [Hh]; · iexact Hh
  isplitl [HT]; · iexact HT
  iexact HW
  all_goals first | rfl | exact mk_dev rfl _ | exact congrArg Dev.tc (mk_dev rfl _) | exact off_wd _ | exact pay_slot (by assumption) _

theorem part10 {Q : PUnit → sProp 𝕄} :
    iprop(recs X K ι ∗ Dir true c 3 3 4 3 4 ∗ Ow true c 4 3 4 3 ∗ Held X false c 2 ∗ Tab W c ∗ Out X W c (TT c 2 2))
      ⊢ iprop((iprop(Dir true c 4 3 4 3 4 ∗ Ow true c 4 3 4 3 ∗ Held X true c 3 ∗ Sent X true c 3 ∗ Held X false c 2 ∗ Tab W c ∗ Out X W c (TT c 3 3)) -∗ Q ⟨⟩)
        -∗ run (F := F) c ((onArgs (k0_part10 (F := F)) :) (wd (rt c)) (X (orig true 2 c)) (wd (orig true 2 c)) (chk_wd _) (W c) z0) Q) := by
  iintro ⟨#HR, HD, HO, HH, HW, HX⟩ Hk
  simp only [onArgs, k0_part10_eq_skeleton]
  unfold k0_part10_skel
  simp only [semSignalWord, semWaitWord, smemLoad, smemLoadElt, Prog.lift, Prog.bind_op, Prog.bind_ret, Prog.pure_eq_ret, Prog.bind_assoc]
  refine use_rule ?_ (out_hop X W true c 2 (by decide) ?_ ?_)
  isplitl [HX]; · iexact HX
  iintro HX
  refine use_fetch ?_ (fetch X W false c 2 2 rfl k0_chk8 chk_wd ?_ ?_)
  isplitl [HH HW]
  · isplitl [HH]; · iexact HH
    iexact HW
  iintro %v %hv ⟨HH, HW⟩
  refine use_rule ?_ (out_hop X W false c 2 (by decide) ?_ ?_)
  isplitl [HX]; · iexact HX
  iintro HX
  refine use_rule ?_ (recv_step X K ι true c 3 (ns := 3) (st := 4) (cr := 3) (tk := 4) (k' := 4) (j' := 3) (by decide) (by decide) (by decide) (by decide) (by decide) ?_ ?_)
  isplitl [HD HO]
  · isplitr; · iexact HR
    isplitl [HD]; · iexact HD
    iexact HO
  iintro ⟨HD, HO, Hh, Hs⟩
  iapply (run_ret c)
  iapply Hk
  isplitl [HD]; · iexact HD
  isplitl [HO]; · iexact HO
  isplitl [Hh]; · iexact Hh
  isplitl [Hs]; · iexact Hs
  isplitl [HH]; · iexact HH
  isplitl [HW]; · iexact HW
  iexact HX
  all_goals first | rfl | exact mk_dev rfl _ | exact congrArg Dev.tc (mk_dev rfl _) | exact off_wd _ | exact pay_slot (by assumption) _

theorem part11 {Q : PUnit → sProp 𝕄} :
    iprop(recs X K ι ∗ Dir true c 4 3 4 3 4 ∗ Ow true c 4 3 4 3 ∗ Held X true c 2 ∗ Sent X true c 3)
      ⊢ iprop((iprop(Dir true c 4 4 5 4 5 ∗ Ow true c 5 4 4 3) -∗ Q ⟨⟩)
        -∗ run (F := F) c ((onArgs (k0_part11 (F := F)) :) (wd (lt c)) (chk1_wd _) (wd (rt c)) (chk2_wd _)) Q) := by
  iintro ⟨#HR, HD, HO, HH, HS⟩ Hk
  simp only [onArgs, k0_part11_eq_skeleton]
  unfold k0_part11_skel
  simp only [semSignalWord, semWaitWord, smemLoad, smemLoadElt, Prog.lift, Prog.bind_op, Prog.bind_ret, Prog.pure_eq_ret, Prog.bind_assoc]
  refine use_rule ?_ (go_step X K ι true c 2 (k' := 4) (j' := 3) (by decide) (by decide) (by decide) (by decide) ?_ ?_ ?_ ?_ ?_ ?_ ?_ ?_ ?_ ?_ ?_ ?_)
  isplitl [HD HO HH HS]
  · isplitr; · iexact HR
    isplitl [HD]; · iexact HD
    isplitl [HO]; · iexact HO
    isplitl [HH]; · iexact HH
    iexact HS
  iintro ⟨HD, HO, -⟩
  iapply (run_ret c)
  iapply Hk
  isplitl [HD]; · iexact HD
  iexact HO
  all_goals first | rfl | exact mk_dev rfl _ | exact congrArg Dev.tc (mk_dev rfl _) | exact off_wd _ | exact pay_slot (by assumption) _

theorem part12 {Q : (Σ' (_ : FVec F S256x4096 .f32) (v : Elt F .i32) (_ : k0_chk9 v) (_ : FVec F S4096x128 .f32), FVec F S256x128 .f32) → sProp 𝕄} :
    iprop(recs X K ι ∗ Dir false c 3 3 4 3 4 ∗ Ow true c 5 4 4 3 ∗ Held X false c 2 ∗ Held X true c 3 ∗ Tab W c)
      ⊢ iprop((iprop(Dir false c 4 4 5 4 5 ∗ Ow true c 5 4 5 4 ∗ Held X false c 3 ∗ Held X true c 3 ∗ Tab W c) -∗ Q ⟨X (orig true 3 c), wd (orig true 3 c), chk_wd _, W c, z0⟩)
        -∗ run (F := F) c ((onArgs (k0_part12 (F := F)) :) (wd (lt c)) (chk1_wd _) (wd (rt c)) (chk2_wd _)) Q) := by
  iintro ⟨#HR, HD, HO, HH, HT, HW⟩ Hk
  simp only [onArgs, k0_part12_eq_skeleton]
  unfold k0_part12_skel
  simp only [semSignalWord, semWaitWord, smemLoad, smemLoadElt, Prog.lift, Prog.bind_op, Prog.bind_ret, Prog.pure_eq_ret, Prog.bind_assoc]
  ihave HO := (Entails.of_eq (Ow_swap true c 5 4 4 3)) $$ HO
  refine use_rule ?_ (recv_step X K ι false c 3 (ns := 3) (st := 4) (cr := 3) (tk := 4) (k' := 5) (j' := 4) (by decide) (by decide) (by decide) (by decide) (by decide) ?_ ?_)
  isplitl [HD HO]
  · isplitr; · iexact HR
    isplitl [HD]; · iexact HD
    iexact HO
  iintro ⟨HD, HO, Hh, Hs⟩
  refine use_rule ?_ (go_step X K ι false c 2 (k' := 5) (j' := 4) (by decide) (by decide) (by decide) (by decide) ?_ ?_ ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO, -⟩
  ihave HO := (Entails.of_eq (Ow_swap false c 5 4 5 4)) $$ HO
  refine use_fetch ?_ (fetch X W true c 3 0 rfl k0_chk9 chk_wd ?_ ?_)
  isplitl [HT HW]
  · isplitl [HT]; · iexact HT
    iexact HW
  iintro %v %hv ⟨HT, HW⟩
  iapply (run_ret c)
  have e : k0_pay15 v = X (orig true 3 c) := hv
  have e' : k0_pay16 (W c) = W c := shapeCast_self _ _
  show Entails' _ (Q ⟨k0_pay15 v, wd (orig true 3 c), chk_wd _, k0_pay16 (W c), z0⟩)
  rw [e, e']
  iapply Hk
  isplitl [HD]; · iexact HD
  isplitl [HO]; · iexact HO
  isplitl [Hh]; · iexact Hh
  isplitl [HT]; · iexact HT
  iexact HW
  all_goals first | rfl | exact mk_dev rfl _ | exact congrArg Dev.tc (mk_dev rfl _) | exact off_wd _ | exact pay_slot (by assumption) _

theorem part13 {Q : PUnit → sProp 𝕄} :
    iprop(recs X K ι ∗ Dir true c 4 4 5 4 5 ∗ Ow true c 5 4 5 4 ∗ Held X false c 3 ∗ Tab W c ∗ Out X W c (TT c 3 3))
      ⊢ iprop((iprop(Dir true c 5 4 5 4 5 ∗ Ow true c 5 4 5 4 ∗ Held X true c 4 ∗ Sent X true c 4 ∗ Held X false c 3 ∗ Tab W c ∗ Out X W c (TT c 4 4)) -∗ Q ⟨⟩)
        -∗ run (F := F) c ((onArgs (k0_part13 (F := F)) :) (wd (rt c)) (X (orig true 3 c)) (wd (orig true 3 c)) (chk_wd _) (W c) z0) Q) := by
  iintro ⟨#HR, HD, HO, HH, HW, HX⟩ Hk
  simp only [onArgs, k0_part13_eq_skeleton]
  unfold k0_part13_skel
  simp only [semSignalWord, semWaitWord, smemLoad, smemLoadElt, Prog.lift, Prog.bind_op, Prog.bind_ret, Prog.pure_eq_ret, Prog.bind_assoc]
  refine use_rule ?_ (out_hop X W true c 3 (by decide) ?_ ?_)
  isplitl [HX]; · iexact HX
  iintro HX
  refine use_fetch ?_ (fetch X W false c 3 0 rfl k0_chk10 chk_wd ?_ ?_)
  isplitl [HH HW]
  · isplitl [HH]; · iexact HH
    iexact HW
  iintro %v %hv ⟨HH, HW⟩
  refine use_rule ?_ (out_hop X W false c 3 (by decide) ?_ ?_)
  isplitl [HX]; · iexact HX
  iintro HX
  refine use_rule ?_ (recv_step X K ι true c 4 (ns := 4) (st := 5) (cr := 4) (tk := 5) (k' := 5) (j' := 4) (by decide) (by decide) (by decide) (by decide) (by decide) ?_ ?_)
  isplitl [HD HO]
  · isplitr; · iexact HR
    isplitl [HD]; · iexact HD
    iexact HO
  iintro ⟨HD, HO, Hh, Hs⟩
  iapply (run_ret c)
  iapply Hk
  isplitl [HD]; · iexact HD
  isplitl [HO]; · iexact HO
  isplitl [Hh]; · iexact Hh
  isplitl [Hs]; · iexact Hs
  isplitl [HH]; · iexact HH
  isplitl [HW]; · iexact HW
  iexact HX
  all_goals first | rfl | exact mk_dev rfl _ | exact congrArg Dev.tc (mk_dev rfl _) | exact off_wd _ | exact pay_slot (by assumption) _

theorem part14 {Q : PUnit → sProp 𝕄} :
    iprop(recs X K ι ∗ Dir true c 5 4 5 4 5 ∗ Ow true c 5 4 5 4 ∗ Held X true c 3 ∗ Sent X true c 4)
      ⊢ iprop((iprop(Dir true c 5 5 6 5 6 ∗ Ow true c 6 5 5 4) -∗ Q ⟨⟩)
        -∗ run (F := F) c ((onArgs (k0_part14 (F := F)) :) (wd (lt c)) (chk1_wd _) (wd (rt c)) (chk2_wd _)) Q) := by
  iintro ⟨#HR, HD, HO, HH, HS⟩ Hk
  simp only [onArgs, k0_part14_eq_skeleton]
  unfold k0_part14_skel
  simp only [semSignalWord, semWaitWord, smemLoad, smemLoadElt, Prog.lift, Prog.bind_op, Prog.bind_ret, Prog.pure_eq_ret, Prog.bind_assoc]
  refine use_rule ?_ (go_step X K ι true c 3 (k' := 5) (j' := 4) (by decide) (by decide) (by decide) (by decide) ?_ ?_ ?_ ?_ ?_ ?_ ?_ ?_ ?_ ?_ ?_ ?_)
  isplitl [HD HO HH HS]
  · isplitr; · iexact HR
    isplitl [HD]; · iexact HD
    isplitl [HO]; · iexact HO
    isplitl [HH]; · iexact HH
    iexact HS
  iintro ⟨HD, HO, -⟩
  iapply (run_ret c)
  iapply Hk
  isplitl [HD]; · iexact HD
  iexact HO
  all_goals first | rfl | exact mk_dev rfl _ | exact congrArg Dev.tc (mk_dev rfl _) | exact off_wd _ | exact pay_slot (by assumption) _

theorem part15 {Q : (Σ' (_ : FVec F S256x4096 .f32) (v : Elt F .i32) (_ : k0_chk11 v) (_ : FVec F S4096x128 .f32), FVec F S256x128 .f32) → sProp 𝕄} :
    iprop(recs X K ι ∗ Dir false c 4 4 5 4 5 ∗ Ow true c 6 5 5 4 ∗ Held X false c 3 ∗ Held X true c 4 ∗ Tab W c)
      ⊢ iprop((iprop(Dir false c 5 5 6 5 6 ∗ Ow true c 6 5 6 5 ∗ Held X false c 4 ∗ Held X true c 4 ∗ Tab W c) -∗ Q ⟨X (orig true 4 c), wd (orig true 4 c), chk_wd _, W c, z0⟩)
        -∗ run (F := F) c ((onArgs (k0_part15 (F := F)) :) (wd (lt c)) (chk1_wd _) (wd (rt c)) (chk2_wd _)) Q) := by
  iintro ⟨#HR, HD, HO, HH, HT, HW⟩ Hk
  simp only [onArgs, k0_part15_eq_skeleton]
  unfold k0_part15_skel
  simp only [semSignalWord, semWaitWord, smemLoad, smemLoadElt, Prog.lift, Prog.bind_op, Prog.bind_ret, Prog.pure_eq_ret, Prog.bind_assoc]
  ihave HO := (Entails.of_eq (Ow_swap true c 6 5 5 4)) $$ HO
  refine use_rule ?_ (recv_step X K ι false c 4 (ns := 4) (st := 5) (cr := 4) (tk := 5) (k' := 6) (j' := 5) (by decide) (by decide) (by decide) (by decide) (by decide) ?_ ?_)
  isplitl [HD HO]
  · isplitr; · iexact HR
    isplitl [HD]; · iexact HD
    iexact HO
  iintro ⟨HD, HO, Hh, Hs⟩
  refine use_rule ?_ (go_step X K ι false c 3 (k' := 6) (j' := 5) (by decide) (by decide) (by decide) (by decide) ?_ ?_ ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO, -⟩
  ihave HO := (Entails.of_eq (Ow_swap false c 6 5 6 5)) $$ HO
  refine use_fetch ?_ (fetch X W true c 4 1 rfl k0_chk11 chk_wd ?_ ?_)
  isplitl [HT HW]
  · isplitl [HT]; · iexact HT
    iexact HW
  iintro %v %hv ⟨HT, HW⟩
  iapply (run_ret c)
  have e : k0_pay19 v = X (orig true 4 c) := hv
  have e' : k0_pay20 (W c) = W c := shapeCast_self _ _
  show Entails' _ (Q ⟨k0_pay19 v, wd (orig true 4 c), chk_wd _, k0_pay20 (W c), z0⟩)
  rw [e, e']
  iapply Hk
  isplitl [HD]; · iexact HD
  isplitl [HO]; · iexact HO
  isplitl [Hh]; · iexact Hh
  isplitl [HT]; · iexact HT
  iexact HW
  all_goals first | rfl | exact mk_dev rfl _ | exact congrArg Dev.tc (mk_dev rfl _) | exact off_wd _ | exact pay_slot (by assumption) _

theorem part16 {Q : PUnit → sProp 𝕄} :
    iprop(recs X K ι ∗ Dir true c 5 5 6 5 6 ∗ Ow true c 6 5 6 5 ∗ Held X false c 4 ∗ Tab W c ∗ Out X W c (TT c 4 4))
      ⊢ iprop((iprop(Dir true c 6 5 6 5 6 ∗ Ow true c 6 5 6 5 ∗ Held X true c 5 ∗ Sent X true c 5 ∗ Held X false c 4 ∗ Tab W c ∗ Out X W c (TT c 5 5)) -∗ Q ⟨⟩)
        -∗ run (F := F) c ((onArgs (k0_part16 (F := F)) :) (wd (rt c)) (X (orig true 4 c)) (wd (orig true 4 c)) (chk_wd _) (W c) z0) Q) := by
  iintro ⟨#HR, HD, HO, HH, HW, HX⟩ Hk
  simp only [onArgs, k0_part16_eq_skeleton]
  unfold k0_part16_skel
  simp only [semSignalWord, semWaitWord, smemLoad, smemLoadElt, Prog.lift, Prog.bind_op, Prog.bind_ret, Prog.pure_eq_ret, Prog.bind_assoc]
  refine use_rule ?_ (out_hop X W true c 4 (by decide) ?_ ?_)
  isplitl [HX]; · iexact HX
  iintro HX
  refine use_fetch ?_ (fetch X W false c 4 1 rfl k0_chk12 chk_wd ?_ ?_)
  isplitl [HH HW]
  · isplitl [HH]; · iexact HH
    iexact HW
  iintro %v %hv ⟨HH, HW⟩
  refine use_rule ?_ (out_hop X W false c 4 (by decide) ?_ ?_)
  isplitl [HX]; · iexact HX
  iintro HX
  refine use_rule ?_ (recv_step X K ι true c 5 (ns := 5) (st := 6) (cr := 5) (tk := 6) (k' := 6) (j' := 5) (by decide) (by decide) (by decide) (by decide) (by decide) ?_ ?_)
  isplitl [HD HO]
  · isplitr; · iexact HR
    isplitl [HD]; · iexact HD
    iexact HO
  iintro ⟨HD, HO, Hh, Hs⟩
  iapply (run_ret c)
  iapply Hk
  isplitl [HD]; · iexact HD
  isplitl [HO]; · iexact HO
  isplitl [Hh]; · iexact Hh
  isplitl [Hs]; · iexact Hs
  isplitl [HH]; · iexact HH
  isplitl [HW]; · iexact HW
  iexact HX
  all_goals first | rfl | exact mk_dev rfl _ | exact congrArg Dev.tc (mk_dev rfl _) | exact off_wd _ | exact pay_slot (by assumption) _

theorem part17 {Q : PUnit → sProp 𝕄} :
    iprop(recs X K ι ∗ Dir true c 6 5 6 5 6 ∗ Ow true c 6 5 6 5 ∗ Held X true c 4 ∗ Sent X true c 5)
      ⊢ iprop((iprop(Dir true c 6 6 7 6 7 ∗ Ow true c 7 6 6 5 ∗ Kept (F := F) true c 4) -∗ Q ⟨⟩)
        -∗ run (F := F) c ((onArgs (k0_part17 (F := F)) :) (wd (lt c)) (chk1_wd _) (wd (rt c)) (chk2_wd _)) Q) := by
  iintro ⟨#HR, HD, HO, HH, HS⟩ Hk
  simp only [onArgs, k0_part17_eq_skeleton]
  unfold k0_part17_skel
  simp only [semSignalWord, semWaitWord, smemLoad, smemLoadElt, Prog.lift, Prog.bind_op, Prog.bind_ret, Prog.pure_eq_ret, Prog.bind_assoc]
  refine use_rule ?_ (go_step X K ι true c 4 (k' := 6) (j' := 5) (by decide) (by decide) (by decide) (by decide) ?_ ?_ ?_ ?_ ?_ ?_ ?_ ?_ ?_ ?_ ?_ ?_)
  isplitl [HD HO HH HS]
  · isplitr; · iexact HR
    isplitl [HD]; · iexact HD
    isplitl [HO]; · iexact HO
    isplitl [HH]; · iexact HH
    iexact HS
  iintro ⟨HD, HO, HK⟩
  iapply (run_ret c)
  iapply Hk
  isplitl [HD]; · iexact HD
  isplitl [HO]; · iexact HO
  iexact HK
  all_goals first | rfl | exact mk_dev rfl _ | exact congrArg Dev.tc (mk_dev rfl _) | exact off_wd _ | exact pay_slot (by assumption) _

theorem part18 {Q : (Σ' (_ : FVec F S256x4096 .f32) (v : Elt F .i32) (_ : k0_chk13 v) (_ : FVec F S4096x128 .f32), FVec F S256x128 .f32) → sProp 𝕄} :
    iprop(recs X K ι ∗ Dir false c 5 5 6 5 6 ∗ Ow true c 7 6 6 5 ∗ Held X false c 4 ∗ Held X true c 5 ∗ Tab W c)
      ⊢ iprop((iprop(Dir false c 6 6 7 6 7 ∗ Ow true c 7 6 7 6 ∗ Held X false c 5 ∗ Held X true c 5 ∗ Tab W c ∗ Kept (F := F) false c 4) -∗ Q ⟨X (orig true 5 c), wd (orig true 5 c), chk_wd _, W c, z0⟩)
        -∗ run (F := F) c ((onArgs (k0_part18 (F := F)) :) (wd (lt c)) (chk1_wd _) (wd (rt c)) (chk2_wd _)) Q) := by
  iintro ⟨#HR, HD, HO, HH, HT, HW⟩ Hk
  simp only [onArgs, k0_part18_eq_skeleton]
  unfold k0_part18_skel
  simp only [semSignalWord, semWaitWord, smemLoad, smemLoadElt, Prog.lift, Prog.bind_op, Prog.bind_ret, Prog.pure_eq_ret, Prog.bind_assoc]
  ihave HO := (Entails.of_eq (Ow_swap true c 7 6 6 5)) $$ HO
  refine use_rule ?_ (recv_step X K ι false c 5 (ns := 5) (st := 6) (cr := 5) (tk := 6) (k' := 7) (j' := 6) (by decide) (by decide) (by decide) (by decide) (by decide) ?_ ?_)
  isplitl [HD HO]
  · isplitr; · iexact HR
    isplitl [HD]; · iexact HD
    iexact HO
  iintro ⟨HD, HO, Hh, Hs⟩
  refine use_rule ?_ (go_step X K ι false c 4 (k' := 7) (j' := 6) (by decide) (by decide) (by decide) (by decide) ?_ ?_ ?_ ?_ ?_ ?_ ?_ ?_ ?_ ?_ ?_ ?_)
  isplitl [HD HO HH Hs]
  · isplitr; · iexact HR
    isplitl [HD]; · iexact HD
    isplitl [HO]; · iexact HO
    isplitl [HH]; · iexact HH
    iexact Hs
  iintro ⟨HD, HO, HK⟩
  ihave HO := (Entails.of_eq (Ow_swap false c 7 6 7 6)) $$ HO
  refine use_fetch ?_ (fetch X W true c 5 2 rfl k0_chk13 chk_wd ?_ ?_)
  isplitl [HT HW]
  · isplitl [HT]; · iexact HT
    iexact HW
  iintro %v %hv ⟨HT, HW⟩
  iapply (run_ret c)
  have e : k0_pay23 v = X (orig true 5 c) := hv
  have e' : k0_pay24 (W c) = W c := shapeCast_self _ _
  show Entails' _ (Q ⟨k0_pay23 v, wd (orig true 5 c), chk_wd _, k0_pay24 (W c), z0⟩)
  rw [e, e']
  iapply Hk
  isplitl [HD]; · iexact HD
  isplitl [HO]; · iexact HO
  isplitl [Hh]; · iexact Hh
  isplitl [HT]; · iexact HT
  isplitl [HW]; · iexact HW
  iexact HK
  all_goals first | rfl | exact mk_dev rfl _ | exact congrArg Dev.tc (mk_dev rfl _) | exact off_wd _ | exact pay_slot (by assumption) _

theorem part19 {Q : PUnit → sProp 𝕄} :
    iprop(recs X K ι ∗ Dir true c 6 6 7 6 7 ∗ Ow true c 7 6 7 6 ∗ Held X false c 5 ∗ Tab W c ∗ Out X W c (TT c 5 5))
      ⊢ iprop((iprop(Dir true c 7 6 7 6 7 ∗ Ow true c 7 6 7 6 ∗ Held X true c 6 ∗ Sent X true c 6 ∗ Held X false c 5 ∗ Tab W c ∗ Out X W c (TT c 6 6)) -∗ Q ⟨⟩)
        -∗ run (F := F) c ((onArgs (k0_part19 (F := F)) :) (wd (rt c)) (X (orig true 5 c)) (wd (orig true 5 c)) (chk_wd _) (W c) z0) Q) := by
  iintro ⟨#HR, HD, HO, HH, HW, HX⟩ Hk
  simp only [onArgs, k0_part19_eq_skeleton]
  unfold k0_part19_skel
  simp only [semSignalWord, semWaitWord, smemLoad, smemLoadElt, Prog.lift, Prog.bind_op, Prog.bind_ret, Prog.pure_eq_ret, Prog.bind_assoc]
  refine use_rule ?_ (out_hop X W true c 5 (by decide) ?_ ?_)
  isplitl [HX]; · iexact HX
  iintro HX
  refine use_fetch ?_ (fetch X W false c 5 2 rfl k0_chk14 chk_wd ?_ ?_)
  isplitl [HH HW]
  · isplitl [HH]; · iexact HH
    iexact HW
  iintro %v %hv ⟨HH, HW⟩
  refine use_rule ?_ (out_hop X W false c 5 (by decide) ?_ ?_)
  isplitl [HX]; · iexact HX
  iintro HX
  refine use_rule ?_ (recv_step X K ι true c 6 (ns := 6) (st := 7) (cr := 6) (tk := 7) (k' := 7) (j' := 6) (by decide) (by decide) (by decide) (by decide) (by decide) ?_ ?_)
  isplitl [HD HO]
  · isplitr; · iexact HR
    isplitl [HD]; · iexact HD
    iexact HO
  iintro ⟨HD, HO, Hh, Hs⟩
  iapply (run_ret c)
  iapply Hk
  isplitl [HD]; · iexact HD
  isplitl [HO]; · iexact HO
  isplitl [Hh]; · iexact Hh
  isplitl [Hs]; · iexact Hs
  isplitl [HH]; · iexact HH
  isplitl [HW]; · iexact HW
  iexact HX
  all_goals first | rfl | exact mk_dev rfl _ | exact congrArg Dev.tc (mk_dev rfl _) | exact off_wd _ | exact pay_slot (by assumption) _

end Cert.KernelIdeal.Ring

end
-- ==== Proof.KernelIdealEnds.lean ====
/- The first and the last hops: the body's parts 2 to 4 and 20 to 23. -/
module

public import proofs.«01_k».proof.Proof.KernelIdealMid

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (b : Bool) (c : Dev nD)

/-- What the last copy does not read of the slot it is copied from. -/
def Over : sProp 𝕄 := bpts b c (slotS b 0 \ halfS b 0 b) fullShare.right (bigx X b (orig b 6 c))

theorem sent_last : Sent X b c 6 ⊢ iprop(bpts b c (sset b 6) fullShare.right (bigx X b (orig b 6 c)) ∗ Over X b c) := by
  unfold Sent Over
  rw [sset_half b, show (slotM b 6).view.set = slotS b 6 from rfl, slotS_eq b (s := 6) (t := 0) (by decide)]
  exact (pointsTo_split_subset (half_sub b 0 b)).1

/-- The last send awaited but one, the last credit taken, the last copy started. -/
theorem go_last {α : Type} {Q : α → sProp 𝕄} {k' j' : ℕ} (hk' : 7 ≤ k') (hj' : 6 ≤ j')
    {s s' : Shape} {e e' : EltTy} {sp sp' : Space} {sem : DmaSem sig} {src : Memref sig .tc sp' s' e'} {dst : Memref sig .tc sp s e}
    {h1 : src.view.WordExact} {h2 : dst.view.WordExact} (hsem : sem = sS b 6) (hamt : dst.view.dmaCredit = Nof 6)
    {cs' : Sem sig} {m' : ℕ} (hcs' : cs' = cS b) (hm' : m' = 1)
    {src' : Memref sig .tc .vmem S128x4096 .f32} {dst' : Memref sig .tc .vmem S128x4096 .f32} {d' : Dev nD} {sd rv : DmaSem sig}
    {hsc : dst'.view.ref.isScScratch = false}
    {h1' : src'.view.WordExact} {h2' : dst'.view.WordExact} {hty : DmaTarget.Typed .vmem (.dma rv) (.remote (d' : Thread nD τ) dst' (.dma sd) hsc)}
    {k : PUnit → Prog (TpuEff nD τ sig (Elt F) Λ₀ .tc) α}
    (hd' : d' = out b c) (hsrc : src' = halfM b 0 b) (hdst : dst' = halfM b 1 b) (hsd : sd = sS b 7) (hrv : rv = rS b 7) :
    iprop(recs X K ι ∗ Dir b c 7 6 7 6 7 ∗ Ow b c 7 6 k' j' ∗ Sent X b c 6)
      ⊢ iprop((iprop(Dir b c 7 7 8 6 8 ∗ Ow b c 8 6 k' j' ∗ sndPay X b 6 c ∗ Over X b c) -∗ run (F := F) c (k ⟨⟩) Q)
        -∗ run (F := F) c (.op (.waitDma2 sem src dst h1 h2) fun _ => .op (.semWait cs' m') fun _ =>
          .op (.enqueueDma src' (.remote (d' : Thread nD τ) dst' (.dma sd) hsc) (.dma rv) h1' h2' hty) k) Q) := by
  iintro ⟨#HR, HD, HO, HS⟩ Hk
  iapply (move_send X K ι b c (ns := 6) (st := 7) (by omega) (by omega) hsem hamt) $$ [HD HO]
  · isplitr; · iexact HR
    isplitl [HD]; · iexact HD
    iexact HO
  iintro ⟨HD, HO, HP⟩
  iapply (move_take X K ι b c (tk := 7) (st := 7) (cr := 6) (k' := k') (j' := j') (by omega) (by omega) (by omega) (by omega) (by omega) (by omega) (by omega) hcs' hm') $$ [HD HO]
  · isplitr; · iexact HR
    isplitl [HD]; · iexact HD
    iexact HO
  iintro ⟨HD, HO⟩
  ihave ⟨HS, HV⟩ := (sent_last X b c) $$ HS
  iapply (start_last X K ι b c (ns := 7) (tk := 8) (by omega) (by omega) (by omega) hd' hsrc hdst hsd hrv) $$ [HD HO HS]
  · isplitr; · iexact HR
    isplitl [HD]; · iexact HD
    isplitl [HO]; · iexact HO
    iexact HS
  iintro ⟨HD, HO⟩
  iapply Hk
  isplitl [HD]; · iexact HD
  isplitl [HO]; · iexact HO
  isplitl [HP]; · iexact HP
  iexact HV

/-- The last landing's rows read, the number of their block, and the weights. -/
theorem fetch_last {α : Type} {Q : α → sProp 𝕄} (o : ℕ) (ho : o = cond b 0 128) (P : BitVec 32 → Prop) (hP : ∀ e, P (wd e)) {x : S1.Idx} {dP : ∀ f : S1.Idx → Elt F .i32, Decidable (P (f x))}
    {mb : Memref sig .tc .vmem S3x256x4096 .f32} (hmb : mb = bufM b)
    {inb1 : ∀ a, (![1, o, 0] : Fin 3 → ℕ) a + S1x128x4096.size a ≤ S3x256x4096.size a}
    {hl1 : mb.view.LoadsAt (Rect.unit (s := S3x256x4096) ![1, o, 0] S1x128x4096.size inb1).toLoadRect}
    {m : Memref sig .tc .smem S8 .i32} (hm : m = cond b o3M o4M) {inb2 : ∀ a, (![7] : Fin 1 → ℕ) a + S1.size a ≤ S8.size a}
    {hl2 : m.view.LoadsAt (Rect.unit (s := S8) ![7] S1.size inb2).toLoadRect}
    {inb3 : ∀ a, (![0, 0] : Fin 2 → ℕ) a + S4096x128.size a ≤ S4096x128.size a}
    {hl3 : wM.view.LoadsAt (Rect.unit (s := S4096x128) ![0, 0] S4096x128.size inb3).toLoadRect}
    {k : (S1x128x4096.Idx → Elt F .f32) → (f : S1.Idx → Elt F .i32) → PLift (P (f x)) → (S4096x128.Idx → Elt F .f32) → Prog (TpuEff nD τ sig (Elt F) Λ₀ .tc) α} :
    iprop(rcvPay X b 7 c ∗ Tab W c)
      ⊢ iprop((∀ v : S1x128x4096.Idx → Elt F .f32, ⌜shapeCast S128x4096 v shapeCasts_S1x128x4096_S128x4096 = halfX b (X (orig true 7 c))⌝
          -∗ iprop(rcvPay X b 7 c ∗ Tab W c) -∗ run (F := F) c (k v (fun _ => wd (orig true 7 c)) ⟨hP (orig true 7 c)⟩ (W c)) Q)
        -∗ run (F := F) c (.op (.load mb (Rect.unit (s := S3x256x4096) ![1, o, 0] S1x128x4096.size inb1).toLoadRect hl1) fun v =>
          .op (.load m (Rect.unit (s := S8) ![7] S1.size inb2).toLoadRect hl2) fun f =>
          .op (.assume (P (f x)) (dP f)) fun hp =>
          .op (.load wM (Rect.unit (s := S4096x128) ![0, 0] S4096x128.size inb3).toLoadRect hl3) fun w => k v f hp w) Q) := by
  have e : orig b 7 c = orig true 7 c := by cases b; exact orig_opp c; rfl
  rw [← e]
  iintro ⟨HH, HT⟩ Hk
  unfold rcvPay
  rw [lset_half b]
  iapply (load_half X b c 1 b 1 o rfl ho (orig b 7 c) fullShare hmb) $$ HH
  iintro %v %hv HH
  iapply (load_o b c W 7 hm) $$ HT
  iintro HT
  iapply (wp_assume 𝒱₀ (c : Thread nD τ) none Set.univ (hP (orig b 7 c)))
  iapply (load_w c W) $$ HT
  iintro HT
  iapply Hk $$ %v
  · ipureintro; exact hv
  isplitl [HH]; · iexact HH
  iexact HT

theorem out_own {α : Type} {Q : α → sProp 𝕄} {off : Fin 2 → ℕ} (hoff : off = ![256 * c.val, 0])
    {inb inb' : ∀ a, off a + S256x128.size a ≤ S4096x128.size a} {w : S256x128.Idx → Elt F .f32}
    {hl : oM.view.LoadsAt (Rect.unit (s := S4096x128) off S256x128.size inb).toLoadRect}
    {hx : (oM.access (Rect.unit (s := S4096x128) off S256x128.size inb')).Stores Finset.univ}
    {hm : (Finset.univ : Finset S256x128.Idx) = Finset.univ ∨ ∀ a, (Rect.unit (s := S4096x128) off S256x128.size inb').stride a = 1}
    {k : PUnit → Prog (TpuEff nD τ sig (Elt F) Λ₀ .tc) α} (hw : w = g256 (X c) (W c)) :
    Out X W c ∅ ⊢ iprop((Out X W c (TT c 0 0) -∗ run (F := F) c (k ⟨⟩) Q)
        -∗ run (F := F) c (.op (.load oM (Rect.unit (s := S4096x128) off S256x128.size inb).toLoadRect hl) fun _ =>
          .op (.store oM (Rect.unit (s := S4096x128) off S256x128.size inb') w Finset.univ hx hm) k) Q) := by
  refine out_block X c W _ c (orig_ne c).1 hoff (fun r hr => .inr ?_) hw
  unfold TT at hr
  rw [Finset.mem_filter] at hr
  obtain ⟨-, h | ⟨k, hk, -⟩ | ⟨k, hk, -⟩⟩ := hr
  · exact h
  · omega
  · omega

theorem part2 {Q : PUnit → sProp 𝕄} :
    iprop(recs X K ι ∗ Dir true c 0 0 1 1 3 ∗ Ow true c 1 1 1 1 ∗ Tab W c ∗ Out X W c ∅)
      ⊢ iprop((iprop(Dir true c 1 1 1 1 3 ∗ Ow true c 1 1 1 1 ∗ Held X true c 0 ∗ Sent X true c 0 ∗ sndPay X true 0 c ∗ Tab W c ∗ Out X W c (TT c 0 0)) -∗ Q ⟨⟩)
        -∗ run (F := F) c ((onArgs (k0_part2 (F := F)) :) (wd (rt c)) (X c) c (Dev.word c)) Q) := by
  iintro ⟨#HR, HD, HO, HW, HX⟩ Hk
  simp only [onArgs, k0_part2_eq_skeleton]
  unfold k0_part2_skel
  simp only [semSignalWord, semWaitWord, smemLoad, smemLoadElt, Prog.lift, Prog.bind_op, Prog.bind_ret, Prog.pure_eq_ret, Prog.bind_assoc]
  refine use_rule ?_ (load_w c W)
  isplitl [HW]; · iexact HW
  iintro HW
  refine use_rule ?_ (out_own X W c ?_ ?_)
  isplitl [HX]; · iexact HX
  iintro HX
  refine use_rule ?_ (recv_step X K ι true c 0 (ns := 0) (st := 1) (cr := 1) (tk := 3) (k' := 1) (j' := 1) (by decide) (by decide) (by decide) (by decide) (by decide) ?_ ?_)
  isplitl [HD HO]
  · isplitr; · iexact HR
    isplitl [HD]; · iexact HD
    iexact HO
  iintro ⟨HD, HO, Hh, Hs⟩
  refine use_rule ?_ (move_send X K ι true c (ns := 0) (nr := 1) (st := 1) (cr := 1) (tk := 3) (k' := 1) (j' := 1) (by decide) (by decide) ?_ ?_)
  isplitl [HD HO]
  · isplitr; · iexact HR
    isplitl [HD]; · iexact HD
    iexact HO
  iintro ⟨HD, HO, HP⟩
  iapply (run_ret c)
  iapply Hk
  isplitl [HD]; · iexact HD
  isplitl [HO]; · iexact HO
  isplitl [Hh]; · iexact Hh
  isplitl [Hs]; · iexact Hs
  isplitl [HP]; · iexact HP
  isplitl [HW]; · iexact HW
  iexact HX
  all_goals first | exact off_own c | exact pay_own _ _ | rfl | exact mk_dev rfl _ | exact congrArg Dev.tc (mk_dev rfl _) | exact off_wd _ | exact pay_slot (by assumption) _ | exact pay_own _ _ | exact pay_half (by assumption) _

theorem part3 {Q : (Σ' (_ : FVec F S256x4096 .f32), Elt F .i32) → sProp 𝕄} :
    iprop(recs X K ι ∗ Dir true c 1 1 1 1 3 ∗ Dir false c 0 0 1 1 3 ∗ Ow true c 1 1 1 1 ∗ Held X true c 0 ∗ Sent X true c 0 ∗ Tab W c)
      ⊢ iprop((iprop(Dir true c 1 1 2 1 3 ∗ Dir false c 1 1 2 1 3 ∗ Ow true c 2 1 2 1 ∗ Held X true c 0 ∗ Held X false c 0 ∗ sndPay X false 0 c ∗ Tab W c) -∗ Q ⟨X (orig true 0 c), wd (orig true 0 c)⟩)
        -∗ run (F := F) c ((onArgs (k0_part3 (F := F)) :) (wd (lt c)) (chk1_wd _) (wd (rt c)) (chk2_wd _)) Q) := by
  iintro ⟨#HR, HD, HE, HO, HH, HS, HW⟩ Hk
  simp only [onArgs, k0_part3_eq_skeleton]
  unfold k0_part3_skel
  simp only [semSignalWord, semWaitWord, smemLoad, smemLoadElt, Prog.lift, Prog.bind_op, Prog.bind_ret, Prog.pure_eq_ret, Prog.bind_assoc]
  ihave HS := (Entails.of_eq (sent_src X true c (h := 0) (by decide))) $$ HS
  refine use_rule ?_ (start_mid X K ι true c 0 (nr := 1) (ns := 1) (cr := 1) (tk := 3) (k' := 1) (j' := 1) (by decide) (by decide) (by decide) (by decide) ?_ ?_ ?_ ?_ ?_)
  isplitl [HD HO HS]
  · isplitr; · iexact HR
    isplitl [HD]; · iexact HD
    isplitl [HO]; · iexact HO
    iexact HS
  iintro ⟨HD, HO⟩
  ihave HO := (Entails.of_eq (Ow_swap true c 2 1 1 1)) $$ HO
  refine use_rule ?_ (recv_step X K ι false c 0 (ns := 0) (st := 1) (cr := 1) (tk := 3) (k' := 2) (j' := 1) (by decide) (by decide) (by decide) (by decide) (by decide) ?_ ?_)
  isplitl [HE HO]
  · isplitr; · iexact HR
    isplitl [HE]; · iexact HE
    iexact HO
  iintro ⟨HE, HO, Hh, Hs⟩
  refine use_rule ?_ (move_send X K ι false c (ns := 0) (nr := 1) (st := 1) (cr := 1) (tk := 3) (k' := 2) (j' := 1) (by decide) (by decide) ?_ ?_)
  isplitl [HE HO]
  · isplitr; · iexact HR
    isplitl [HE]; · iexact HE
    iexact HO
  iintro ⟨HE, HO, HP⟩
  ihave Hs := (Entails.of_eq (sent_src X false c (h := 0) (by decide))) $$ Hs
  refine use_rule ?_ (start_mid X K ι false c 0 (nr := 1) (ns := 1) (cr := 1) (tk := 3) (k' := 2) (j' := 1) (by decide) (by decide) (by decide) (by decide) ?_ ?_ ?_ ?_ ?_)
  isplitl [HE HO Hs]
  · isplitr; · iexact HR
    isplitl [HE]; · iexact HE
    isplitl [HO]; · iexact HO
    iexact Hs
  iintro ⟨HE, HO⟩
  ihave HO := (Entails.of_eq (Ow_swap false c 2 1 2 1)) $$ HO
  unfold Held
  refine use_fetch ?_ (load_slot X true c 0 0 rfl (orig true 0 c) fullShare.left rfl)
  isplitl [HH]; · iexact HH
  iintro %v %hv HH
  refine use_rule ?_ (load_o true c W 0 rfl)
  isplitl [HW]; · iexact HW
  iintro HW
  iapply (run_ret c)
  have e : k0_pay4 v = X (orig true 0 c) := hv
  show Entails' _ (Q ⟨k0_pay4 v, wd (orig true 0 c)⟩)
  rw [e]
  iapply Hk
  isplitl [HD]; · iexact HD
  isplitl [HE]; · iexact HE
  isplitl [HO]; · iexact HO
  isplitl [HH]; · iexact HH
  isplitl [Hh]; · iexact Hh
  isplitl [HP]; · iexact HP
  iexact HW
  all_goals first | rfl | exact mk_dev rfl _ | exact congrArg Dev.tc (mk_dev rfl _) | exact off_wd _ | exact pay_slot (by assumption) _ | exact pay_own _ _ | exact pay_half (by assumption) _

theorem part4 {Q : PUnit → sProp 𝕄} :
    iprop(recs X K ι ∗ Held X false c 0 ∗ Tab W c ∗ Out X W c (TT c 0 0))
      ⊢ iprop((iprop(Held X false c 0 ∗ Tab W c ∗ Out X W c (TT c 1 1)) -∗ Q ⟨⟩)
        -∗ run (F := F) c ((onArgs (k0_part4 (F := F)) :) (wd (rt c)) (X (orig true 0 c)) (wd (orig true 0 c))) Q) := by
  iintro ⟨#HR, HH, HW, HX⟩ Hk
  simp only [onArgs, k0_part4_eq_skeleton]
  unfold k0_part4_skel
  simp only [semSignalWord, semWaitWord, smemLoad, smemLoadElt, Prog.lift, Prog.bind_op, Prog.bind_ret, Prog.pure_eq_ret, Prog.bind_assoc]
  iapply (wp_assume 𝒱₀ (c : Thread nD τ) none Set.univ (chk_wd (orig true 0 c)))
  refine use_rule ?_ (load_w c W)
  isplitl [HW]; · iexact HW
  iintro HW
  refine use_rule ?_ (out_hop X W true c 0 (by decide) ?_ ?_)
  isplitl [HX]; · iexact HX
  iintro HX
  refine use_fetch ?_ (fetch X W false c 0 0 rfl k0_chk4 chk_wd ?_ ?_)
  isplitl [HH HW]
  · isplitl [HH]; · iexact HH
    iexact HW
  iintro %v %hv ⟨HH, HW⟩
  refine use_rule ?_ (out_hop X W false c 0 (by decide) ?_ ?_)
  isplitl [HX]; · iexact HX
  iintro HX
  iapply (run_ret c)
  iapply Hk
  isplitl [HH]; · iexact HH
  isplitl [HW]; · iexact HW
  iexact HX
  all_goals first | rfl | exact mk_dev rfl _ | exact congrArg Dev.tc (mk_dev rfl _) | exact off_wd _ | exact pay_slot (by assumption) _ | exact pay_own _ _ | exact pay_half (by assumption) _

theorem part20 {Q : PUnit → sProp 𝕄} :
    iprop(recs X K ι ∗ Dir true c 7 6 7 6 7 ∗ Dir false c 6 6 7 6 7 ∗ Ow true c 7 6 7 6 ∗ Sent X true c 6)
      ⊢ iprop((iprop(Dir true c 7 7 8 6 8 ∗ Dir false c 7 6 7 6 7 ∗ Ow true c 8 6 7 6 ∗ sndPay X true 6 c ∗ Over X true c ∗ Held X false c 6 ∗ Sent X false c 6) -∗ Q ⟨⟩)
        -∗ run (F := F) c ((onArgs (k0_part20 (F := F)) :) (wd (lt c)) (wd (rt c)) (chk2_wd _)) Q) := by
  iintro ⟨#HR, HD, HE, HO, HS⟩ Hk
  simp only [onArgs, k0_part20_eq_skeleton]
  unfold k0_part20_skel
  simp only [semSignalWord, semWaitWord, smemLoad, smemLoadElt, Prog.lift, Prog.bind_op, Prog.bind_ret, Prog.pure_eq_ret, Prog.bind_assoc]
  refine use_rule ?_ (go_last X K ι true c (k' := 7) (j' := 6) (by decide) (by decide) ?_ ?_ ?_ ?_ ?_ ?_ ?_ ?_ ?_)
  isplitl [HD HO HS]
  · isplitr; · iexact HR
    isplitl [HD]; · iexact HD
    isplitl [HO]; · iexact HO
    iexact HS
  iintro ⟨HD, HO, HP, HV⟩
  ihave HO := (Entails.of_eq (Ow_swap true c 8 6 7 6)) $$ HO
  refine use_rule ?_ (recv_step X K ι false c 6 (ns := 6) (st := 7) (cr := 6) (tk := 7) (k' := 8) (j' := 6) (by decide) (by decide) (by decide) (by decide) (by decide) ?_ ?_)
  isplitl [HE HO]
  · isplitr; · iexact HR
    isplitl [HE]; · iexact HE
    iexact HO
  iintro ⟨HE, HO, Hh, Hs⟩
  ihave HO := (Entails.of_eq (Ow_swap false c 7 6 8 6)) $$ HO
  iapply (run_ret c)
  iapply Hk
  isplitl [HD]; · iexact HD
  isplitl [HE]; · iexact HE
  isplitl [HO]; · iexact HO
  isplitl [HP]; · iexact HP
  isplitl [HV]; · iexact HV
  isplitl [Hh]; · iexact Hh
  iexact Hs
  all_goals first | rfl | exact mk_dev rfl _ | exact congrArg Dev.tc (mk_dev rfl _) | exact off_wd _ | exact pay_slot (by assumption) _ | exact pay_own _ _ | exact pay_half (by assumption) _

theorem part21 {Q : PUnit → sProp 𝕄} :
    iprop(recs X K ι ∗ Dir false c 7 6 7 6 7 ∗ Ow true c 8 6 7 6 ∗ Sent X false c 6 ∗ Held X true c 6 ∗ Tab W c ∗ Out X W c (TT c 6 6))
      ⊢ iprop((iprop(Dir false c 7 7 8 6 8 ∗ Ow true c 8 6 8 6 ∗ sndPay X false 6 c ∗ Over X false c ∗ Held X true c 6 ∗ Tab W c ∗ Out X W c (TT c 7 6)) -∗ Q ⟨⟩)
        -∗ run (F := F) c ((onArgs (k0_part21 (F := F)) :) (wd (lt c)) (chk1_wd _)) Q) := by
  iintro ⟨#HR, HE, HO, HS, HH, HW, HX⟩ Hk
  simp only [onArgs, k0_part21_eq_skeleton]
  unfold k0_part21_skel
  simp only [semSignalWord, semWaitWord, smemLoad, smemLoadElt, Prog.lift, Prog.bind_op, Prog.bind_ret, Prog.pure_eq_ret, Prog.bind_assoc]
  ihave HO := (Entails.of_eq (Ow_swap true c 8 6 7 6)) $$ HO
  refine use_rule ?_ (go_last X K ι false c (k' := 8) (j' := 6) (by decide) (by decide) ?_ ?_ ?_ ?_ ?_ ?_ ?_ ?_ ?_)
  isplitl [HE HO HS]
  · isplitr; · iexact HR
    isplitl [HE]; · iexact HE
    isplitl [HO]; · iexact HO
    iexact HS
  iintro ⟨HE, HO, HP, HV⟩
  ihave HO := (Entails.of_eq (Ow_swap false c 8 6 8 6)) $$ HO
  refine use_fetch ?_ (fetch X W true c 6 0 rfl k0_chk15 chk_wd ?_ ?_)
  isplitl [HH HW]
  · isplitl [HH]; · iexact HH
    iexact HW
  iintro %v %hv ⟨HH, HW⟩
  refine use_rule ?_ (out_hop X W true c 6 (by decide) ?_ ?_)
  isplitl [HX]; · iexact HX
  iintro HX
  iapply (run_ret c)
  iapply Hk
  isplitl [HE]; · iexact HE
  isplitl [HO]; · iexact HO
  isplitl [HP]; · iexact HP
  isplitl [HV]; · iexact HV
  isplitl [HH]; · iexact HH
  isplitl [HW]; · iexact HW
  iexact HX
  all_goals first | rfl | exact mk_dev rfl _ | exact congrArg Dev.tc (mk_dev rfl _) | exact off_wd _ | exact pay_slot (by assumption) _ | exact pay_own _ _ | exact pay_half (by assumption) _

theorem part22 {Q : PUnit → sProp 𝕄} :
    iprop(recs X K ι ∗ Dir true c 7 7 8 6 8 ∗ Ow true c 8 6 8 6 ∗ Held X false c 6 ∗ Tab W c ∗ Out X W c (TT c 7 6))
      ⊢ iprop((iprop(Dir true c 8 8 8 6 8 ∗ Ow true c 8 6 8 6 ∗ rcvPay X true 7 c ∗ sndPay X true 7 c ∗ Held X false c 6 ∗ Tab W c ∗ Out X W c (TT c 7 7)) -∗ Q ⟨⟩)
        -∗ run (F := F) c ((onArgs (k0_part22 (F := F)) :) (wd (rt c))) Q) := by
  iintro ⟨#HR, HD, HO, HH, HW, HX⟩ Hk
  simp only [onArgs, k0_part22_eq_skeleton]
  unfold k0_part22_skel
  simp only [semSignalWord, semWaitWord, smemLoad, smemLoadElt, Prog.lift, Prog.bind_op, Prog.bind_ret, Prog.pure_eq_ret, Prog.bind_assoc]
  refine use_fetch ?_ (fetch X W false c 6 0 rfl k0_chk16 chk_wd ?_ ?_)
  isplitl [HH HW]
  · isplitl [HH]; · iexact HH
    iexact HW
  iintro %v %hv ⟨HH, HW⟩
  refine use_rule ?_ (out_hop X W false c 6 (by decide) ?_ ?_)
  isplitl [HX]; · iexact HX
  iintro HX
  refine use_rule ?_ (move_recv X K ι true c (nr := 7) (ns := 7) (st := 8) (cr := 6) (tk := 8) (k' := 8) (j' := 6) (by decide) (by decide) (by decide) (by decide) (by decide) ?_ ?_)
  isplitl [HD HO]
  · isplitr; · iexact HR
    isplitl [HD]; · iexact HD
    iexact HO
  iintro ⟨HD, HO, Hh⟩
  refine use_rule ?_ (move_send X K ι true c (ns := 7) (nr := 8) (st := 8) (cr := 6) (tk := 8) (k' := 8) (j' := 6) (by decide) (by decide) ?_ ?_)
  isplitl [HD HO]
  · isplitr; · iexact HR
    isplitl [HD]; · iexact HD
    iexact HO
  iintro ⟨HD, HO, HP⟩
  iapply (run_ret c)
  iapply Hk
  isplitl [HD]; · iexact HD
  isplitl [HO]; · iexact HO
  isplitl [Hh]; · iexact Hh
  isplitl [HP]; · iexact HP
  isplitl [HH]; · iexact HH
  isplitl [HW]; · iexact HW
  iexact HX
  all_goals first | rfl | exact mk_dev rfl _ | exact congrArg Dev.tc (mk_dev rfl _) | exact off_wd _ | exact pay_slot (by assumption) _ | exact pay_own _ _ | exact pay_half (by assumption) _

theorem part23 {Q : PUnit → sProp 𝕄} :
    iprop(recs X K ι ∗ Dir false c 7 7 8 6 8 ∗ Ow true c 8 6 8 6 ∗ rcvPay X true 7 c ∗ Tab W c ∗ Out X W c (TT c 7 7))
      ⊢ iprop((iprop(Dir false c 8 8 8 6 8 ∗ Ow true c 8 6 8 6 ∗ rcvPay X true 7 c ∗ rcvPay X false 7 c ∗ sndPay X false 7 c ∗ Tab W c ∗ Out X W c (TT c 7 7 ∪ {2 * (orig true 7 c).val})) -∗ Q ⟨⟩)
        -∗ run (F := F) c ((onArgs (k0_part23 (F := F)) :) (wd (lt c))) Q) := by
  iintro ⟨#HR, HD, HO, HH, HW, HX⟩ Hk
  simp only [onArgs, k0_part23_eq_skeleton]
  unfold k0_part23_skel
  simp only [semSignalWord, semWaitWord, smemLoad, smemLoadElt, Prog.lift, Prog.bind_op, Prog.bind_ret, Prog.pure_eq_ret, Prog.bind_assoc]
  ihave HO := (Entails.of_eq (Ow_swap true c 8 6 8 6)) $$ HO
  refine use_rule ?_ (move_recv X K ι false c (nr := 7) (ns := 7) (st := 8) (cr := 6) (tk := 8) (k' := 8) (j' := 6) (by decide) (by decide) (by decide) (by decide) (by decide) ?_ ?_)
  isplitl [HD HO]
  · isplitr; · iexact HR
    isplitl [HD]; · iexact HD
    iexact HO
  iintro ⟨HD, HO, Hh⟩
  refine use_rule ?_ (move_send X K ι false c (ns := 7) (nr := 8) (st := 8) (cr := 6) (tk := 8) (k' := 8) (j' := 6) (by decide) (by decide) ?_ ?_)
  isplitl [HD HO]
  · isplitr; · iexact HR
    isplitl [HD]; · iexact HD
    iexact HO
  iintro ⟨HD, HO, HP⟩
  ihave HO := (Entails.of_eq (Ow_swap false c 8 6 8 6)) $$ HO
  refine use_fetch ?_ (fetch_last X W true c 0 rfl k0_chk17 chk17_wd ?_ ?_)
  isplitl [HH HW]
  · isplitl [HH]; · iexact HH
    iexact HW
  iintro %v %hv ⟨HH, HW⟩
  refine use_rule ?_ (out_half X c W (T := TT c 7 7) (TT c 7 7 ∪ {2 * (orig true 7 c).val}) true ?_ (fun r hr => by simpa [or_comm] using hr) ?_)
  isplitl [HX]; · iexact HX
  iintro HX
  iapply (run_ret c)
  iapply Hk
  isplitl [HD]; · iexact HD
  isplitl [HO]; · iexact HO
  isplitl [HH]; · iexact HH
  isplitl [Hh]; · iexact Hh
  isplitl [HP]; · iexact HP
  isplitl [HW]; · iexact HW
  iexact HX
  all_goals first | rfl | exact mk_dev rfl _ | exact congrArg Dev.tc (mk_dev rfl _) | exact off_wd _ | exact pay_slot (by assumption) _ | exact pay_own _ _ | exact pay_half (by assumption) _

end Cert.KernelIdeal.Ring

end
-- ==== Proof.KernelIdealStart.lean ====
/- The barrier and the first two copies: the body's part 1. -/
module

public import proofs.«01_k».proof.Proof.KernelIdealEnds

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (b : Bool) (c : Dev nD)

/-- Direction `b` before the barrier: nothing started, the neighbour's landings not yet in hand. -/
def Dir0 : sProp 𝕄 :=
  iprop(pos (rcell b c) 0 ∗ rchd (rcell b c) 0 ∗ credR b c 0 ∗ pos (scell b c) 0 ∗ rchd (scell b c) 0
    ∗ tokS b c 0 ∗ tokC b c 1 ∗ tokT b c 3 ∗ posC b c 3 ∗ reached (D := ℕ) ER (ccell b c) 0)

/-- A device's own three landing slots of direction `b`, free. -/
def Slots : sProp 𝕄 := bigSep (Finset.Ico 0 3) (fun k => bany (F := F) b c (lset b k))

/-- What the barrier takes: the own position, its credit, and the tokens of the two signals. -/
def Bar0 : sProp 𝕄 :=
  iprop(atPos ER (barCell c) 0 (∅ : Finset ℕ) 0 ∗ cred (tallyAt (barCell c) 0 2)
    ∗ (dutyTok ER (barCell (lt c)) 0 (0 : ℕ) ∗ reached (D := ℕ) ER (barCell (lt c)) 0)
    ∗ (dutyTok ER (barCell (rt c)) 0 (1 : ℕ) ∗ reached (D := ℕ) ER (barCell (rt c)) 0))

/-- What a device signals the neighbour that copies onto it. -/
theorem bar_pay : iprop(Slots b c ∗ rchd (rcell b c) 0 ∗ reached (D := ℕ) ER (ccell (!b) c) 0) ⊢ (barPay b (inn b c) : sProp 𝕄) := by
  unfold barPay Slots rchd land
  rw [out_inn, bigSep_sep']
  have h1 : (bigSep (Finset.range (0 + 3)) (fun k => reached (D := ℕ) ER (rcell b c k) (k / 3)) : sProp 𝕄)
      ⊢ bigSep (Finset.Ico 0 3) (fun k => reached (D := ℕ) ER (rcell b c k) (k / 3)) := bigSep_subset (fun i hi => by
    rw [Finset.mem_Ico] at hi; rw [Finset.mem_range]; omega)
  iintro ⟨HS, HR, HC⟩
  isplitr [HC]
  · isplitl [HS]; · iexact HS
    iapply h1; iexact HR
  iexact HC

theorem bar_take : (barPay b c : sProp 𝕄) ⊢ iprop(lands b c 0 3 ∗ reached (D := ℕ) ER (ccell (!b) (inn (!b) c)) 0) := by
  have e : out b c = inn (!b) c := by cases b <;> rfl
  unfold barPay lands
  rw [e]

/-- Direction `b` after the barrier. -/
theorem dir_start : iprop(Dir0 b c ∗ lands b c 0 3 ∗ reached (D := ℕ) ER (ccell b (inn b c)) 0) ⊢ (Dir b c 0 0 0 1 3 : sProp 𝕄) := by
  unfold Dir0 Dir credS freed
  iintro ⟨⟨H1, H2, H3, H4, H5, H6, H7, H8, H9, -⟩, HL, HC⟩
  isplitl [H1]; · iexact H1
  isplitl [H2]; · iexact H2
  isplitl [H3]; · iexact H3
  isplitl [H4]; · iexact H4
  isplitl [H5]; · iexact H5
  isplitr
  · rw [Finset.Ico_self, bigSep_empty]; iempintro
  isplitl [H6]; · iexact H6
  isplitl [HL]; · iexact HL
  isplitl [H7]; · iexact H7
  isplitr
  · rw [Finset.Ico_self, bigSep_empty]; iempintro
  isplitl [HC]; · iexact HC
  isplitl [H8]; · iexact H8
  iexact H9

theorem dir0_facts : (Dir0 b c : sProp 𝕄) ⊢ iprop(rchd (rcell b c) 0 ∗ reached (D := ℕ) ER (ccell b c) 0) := by
  unfold Dir0
  iintro ⟨-, H, -, -, -, -, -, -, -, HC⟩
  isplitl [H] <;> iassumption

theorem bar_rest : (bigSep ((Rd X).duties (barCell c) 0 \ ∅) (fun d => (Rd X).payload (barCell c) 0 d) : sProp 𝕄)
    ⊢ iprop(barPay true c ∗ barPay false c) := by
  rw [Finset.sdiff_empty, duties_bar, bigSep_insert (by decide), bigSep_singleton, payload_bar, payload_bar]
  exact Entails.of_eq rfl

/-- The barrier: both neighbours are told, and both are waited for. -/
theorem barrier_step {α : Type} {Q : α → sProp 𝕄} {d1 d2 : Dev nD} {s1 s2 s3 : Sem sig} {n1 n2 n3 : ℕ}
    {k : PUnit → Prog (TpuEff nD τ sig (Elt F) Λ₀ .tc) α}
    (h1 : d1 = lt c) (h2 : d2 = rt c) (e1 : s1 = barrier0) (e2 : s2 = barrier0) (e3 : s3 = barrier0) (m1 : n1 = 1) (m2 : n2 = 1) (m3 : n3 = 2) :
    iprop(recs X K ι ∗ Dir0 true c ∗ Dir0 false c ∗ Bar0 c ∗ Slots true c ∗ Slots false c ∗ ∃ Wt, owes (c : Thread nD τ) (O₀ c) Wt)
      ⊢ iprop((iprop(Dir true c 0 0 0 1 3 ∗ Dir false c 0 0 0 1 3 ∗ Ow true c 0 1 0 1 ∗ atPos ER (barCell c) 1 (∅ : Finset ℕ) 0) -∗ run (F := F) c (k ⟨⟩) Q)
        -∗ run (F := F) c (.op (.semSignal (d1 : Thread nD τ) s1 n1) fun _ => .op (.semSignal (d2 : Thread nD τ) s2 n2) fun _ =>
          .op (.semWait s3 n3) k) Q) := by
  subst h1 h2 e1 e2 e3 m1 m2 m3
  unfold Bar0
  iintro ⟨#HR, HT, HF, ⟨Hat, Hc, ⟨Ht1, #Hr1⟩, Ht2, #Hr2⟩, HST, HSF, %Wt, HO⟩ Hk
  ihave #⟨HTr, HTc⟩ := (dir0_facts true c) $$ HT
  ihave #⟨HFr, HFc⟩ := (dir0_facts false c) $$ HF
  ihave #Hi1 := (recs_cell X K ι (barCell (lt c)) (mem_bar (lt c))) $$ HR
  ihave #Hi2 := (recs_cell X K ι (barCell (rt c)) (mem_bar (rt c))) $$ HR
  ihave #Hi := (recs_cell X K ι (barCell c) (mem_bar c)) $$ HR
  ihave HP1 := (bar_pay true c) $$ [HST]
  · isplitl [HST]; · iexact HST
    isplitr; · iexact HTr
    iexact HFc
  ihave HP2 := (bar_pay false c) $$ [HSF]
  · isplitl [HSF]; · iexact HSF
    isplitr; · iexact HFr
    iexact HTc
  iapply (Rounds.wp_signal 𝒱₀ ER (Rd X) (c : Thread nD τ) none (κ := K (barCell (lt c))) (r := 0) (d := 0)
      (by rw [duties_bar]; decide) (amount_bar X (lt c) 0) 0
      (O₀ := O₀ c) (O := Odir true c 0 1 + Odir false c 0 1 + tallyAt (barCell (rt c)) 0 1) rfl) $$ [HO Ht1 HP1]
  · isplitr; · iexact Hi1
    isplitl [HO]; · iexact HO
    isplitl [Ht1]; · iexact Ht1
    isplitl [HP1]; · rw [payload_bar]; iexact HP1
    iexact Hr1
  iintro HO
  iapply (Rounds.wp_signal 𝒱₀ ER (Rd X) (c : Thread nD τ) none (κ := K (barCell (rt c))) (r := 0) (d := 1)
      (by rw [duties_bar]; decide) (amount_bar X (rt c) 1) 0
      (O₀ := Odir true c 0 1 + Odir false c 0 1 + tallyAt (barCell (rt c)) 0 1) (O := Odir true c 0 1 + Odir false c 0 1) rfl) $$ [HO Ht2 HP2]
  · isplitr; · iexact Hi2
    isplitl [HO]; · iexact HO
    isplitl [Ht2]; · iexact Ht2
    isplitl [HP2]; · rw [payload_bar]; iexact HP2
    iexact Hr2
  iintro HO
  ihave Hw := ((recs_levels X K ι).trans (may_wait true false c (.reg barrier0) 0 1 (by decide) (le_of_eq (lv_bar c 0))
    (k := 0) (j := 1) (k' := 0) (j' := 1) (by decide) (by decide) (by decide) (by decide))) $$ HR
  iapply (Rounds.wp_wait_rest_token 𝒱₀ ER (Rd X) (c : Thread nD τ) none (κ := K (barCell c))
      (wpE_semWait_eq 𝒱₀ (c : Thread nD τ) none Set.univ) (Set.mem_univ _) 0 (R := 0) (m := 0) (T := ∅)
      ((Nat.zero_add _).trans (expect_bar X c).symm)) $$ [Hc HO Hat Hw]
  · isplitr; · iexact Hi
    isplitl [Hc]; · iexact Hc
    isplitl [HO]; · iexact HO
    isplitl [Hw]; · iexact Hw
    iexact Hat
  iintro ⟨HO, Hat, -, Hpay⟩
  ihave ⟨HPT, HPF⟩ := (bar_rest X c) $$ Hpay
  ihave ⟨HLT, #HrF⟩ := (bar_take true c) $$ HPT
  ihave ⟨HLF, #HrT⟩ := (bar_take false c) $$ HPF
  iapply Hk
  isplitl [HT HLT]
  · iapply (dir_start true c)
    isplitl [HT]; · iexact HT
    isplitl [HLT]; · iexact HLT
    iexact HrT
  isplitl [HF HLF]
  · iapply (dir_start false c)
    isplitl [HF]; · iexact HF
    isplitl [HLF]; · iexact HLF
    iexact HrF
  isplitl [HO]; · unfold Ow; iexists _; iexact HO
  iexact Hat

theorem assume_step {α : Type} {Q : α → sProp 𝕄} {Γ : sProp 𝕄} {P : Prop} {dP : Decidable P} {k : PLift P → Prog (TpuEff nD τ sig (Elt F) Λ₀ .tc) α} (h : P)
    (hw : Entails' Γ (run (F := F) c (k ⟨h⟩) Q)) : Entails' Γ (run (F := F) c (.op (.assume P dP) k) Q) :=
  BIBase.Entails.trans hw (wp_assume 𝒱₀ (c : Thread nD τ) none Set.univ h)

theorem deviceId_step {α : Type} {Q : α → sProp 𝕄} {Γ : sProp 𝕄} {k : Dev nD → Prog (TpuEff nD τ sig (Elt F) Λ₀ .tc) α}
    (hw : Entails' Γ (run (F := F) c (k c) Q)) : Entails' Γ (run (F := F) c (.op .deviceId k) Q) :=
  BIBase.Entails.trans hw (Entails.of_eq (wp_deviceId 𝒱₀ (c : Thread nD τ) none Set.univ).symm)

theorem part1 {Q : (Σ' (v0 : Elt F .i32) (_ : k0_chk1 v0) (v1 : Elt F .i32) (_ : k0_chk2 v1) (_ : FVec F S256x4096 .f32) (_ : Dev nD), BitVec 32) → sProp 𝕄} :
    iprop(recs X K ι ∗ Dir0 true c ∗ Dir0 false c ∗ Bar0 c ∗ Slots true c ∗ Slots false c ∗ (∃ Wt, owes (c : Thread nD τ) (O₀ c) Wt)
        ∗ xpts X c (xq true) ∗ xpts X c (xq false) ∗ xpts X c fullShare.right.right ∗ Tab W c)
      ⊢ iprop((iprop(Dir true c 0 0 1 1 3 ∗ Dir false c 0 0 1 1 3 ∗ Ow true c 1 1 1 1 ∗ atPos ER (barCell c) 1 (∅ : Finset ℕ) 0
          ∗ xpts X c fullShare.right.right ∗ Tab W c) -∗ Q ⟨wd (lt c), chk1_wd _, wd (rt c), chk2_wd _, X c, c, Dev.word c⟩)
        -∗ run (F := F) c ((onArgs (k0_part1 (F := F)) :)) Q) := by
  iintro ⟨#HR, HDT, HDF, HB, HST, HSF, HO, HxT, HxF, Hx, HW⟩ Hk
  simp only [onArgs, k0_part1_eq_skeleton]
  unfold k0_part1_skel
  simp only [semSignalWord, semWaitWord, smemLoad, smemLoadElt, Prog.lift, Prog.bind_op, Prog.bind_ret, Prog.pure_eq_ret, Prog.bind_assoc]
  refine use_rule ?_ (load_nb c W 0)
  isplitl [HW]; · iexact HW
  iintro HW
  refine assume_step c (chk1_wd _) ?_
  refine use_rule ?_ (load_nb c W 1)
  isplitl [HW]; · iexact HW
  iintro HW
  refine assume_step c (chk2_wd _) ?_
  refine use_rule ?_ (barrier_step X K ι c ?_ ?_ ?_ ?_ ?_ ?_ ?_ ?_)
  isplitl [HDT HDF HB HST HSF HO]
  · isplitr; · iexact HR
    isplitl [HDT]; · iexact HDT
    isplitl [HDF]; · iexact HDF
    isplitl [HB]; · iexact HB
    isplitl [HST]; · iexact HST
    isplitl [HSF]; · iexact HSF
    iexact HO
  iintro ⟨HDT, HDF, HO, Hat⟩
  refine use_rule ?_ (start_first X K ι true c (nr := 0) (ns := 0) (cr := 1) (tk := 3) (k' := 0) (j' := 1) (by decide) (by decide) ?_ ?_ ?_ ?_ ?_)
  isplitl [HDT HO HxT]
  · isplitr; · iexact HR
    isplitl [HDT]; · iexact HDT
    isplitl [HO]; · iexact HO
    iexact HxT
  iintro ⟨HDT, HO⟩
  ihave HO := (Entails.of_eq (Ow_swap true c 1 1 0 1)) $$ HO
  refine use_rule ?_ (start_first X K ι false c (nr := 0) (ns := 0) (cr := 1) (tk := 3) (k' := 1) (j' := 1) (by decide) (by decide) ?_ ?_ ?_ ?_ ?_)
  isplitl [HDF HO HxF]
  · isplitr; · iexact HR
    isplitl [HDF]; · iexact HDF
    isplitl [HO]; · iexact HO
    iexact HxF
  iintro ⟨HDF, HO⟩
  ihave HO := (Entails.of_eq (Ow_swap false c 1 1 1 1)) $$ HO
  refine use_rule ?_ (load_x X c (q := fullShare.right.right))
  isplitl [Hx]; · iexact Hx
  iintro Hx
  refine deviceId_step c ?_
  iapply (run_ret c)
  show Entails' _ (Q ⟨wd (lt c), _, wd (rt c), _, k0_pay2 (X c), c, Dev.word c⟩)
  rw [show k0_pay2 (X c) = X c from shapeCast_self _ _]
  iapply Hk
  isplitl [HDT]; · iexact HDT
  isplitl [HDF]; · iexact HDF
  isplitl [HO]; · iexact HO
  isplitl [Hat]; · iexact Hat
  isplitl [Hx]; · iexact Hx
  iexact HW
  all_goals first | rfl | exact mk_dev rfl _ | exact congrArg Dev.tc (mk_dev rfl _)

end Cert.KernelIdeal.Ring

end
-- ==== Proof.KernelIdealClose.lean ====
/- The end of the kernel: the buffers whole again and every counter back at zero. -/
module

public import proofs.«01_k».proof.Proof.KernelIdealStart

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (b : Bool) (c : Dev nD)

/-! ## A direction's buffer as its three slots -/

/-- The slot an element lies in. -/
def slotNo : (b : Bool) → (bufM b).view.ty.Idx → ℕ
  | true => fun (i : S3x256x4096.Idx) => (i 0).val
  | false => fun (i : S3x256x4096.Idx) => (i 0).val

theorem slotNo_lt (i : (bufM b).view.ty.Idx) : slotNo b i < 3 := by
  cases b
  · exact ((show S3x256x4096.Idx from i) 0).isLt
  · exact ((show S3x256x4096.Idx from i) 0).isLt

theorem mem_slotS (k : ℕ) (i : (bufM b).view.ty.Idx) : i ∈ slotS b k ↔ slotNo b i = k % 3 := by
  have e : slotS b k = ((bufM b).view.slice (Rect.unit (s := S3x256x4096) ![k % 3, 0, 0] S1x256x4096.size (slot_inb k))).set := View.set_reshape _ _
  rw [e]
  constructor
  · intro hi
    obtain ⟨x, -, rfl⟩ := Finset.mem_map.mp hi
    have h0 : (x 0).val < 1 := (x 0).isLt
    cases b
    · show k % 3 + 1 * (x 0).val = _; omega
    · show k % 3 + 1 * (x 0).val = _; omega
  · intro hi
    cases b
    all_goals
      have h1 : ((show S3x256x4096.Idx from i) 1).val < 256 := ((show S3x256x4096.Idx from i) 1).isLt
      have h2 : ((show S3x256x4096.Idx from i) 2).val < 4096 := ((show S3x256x4096.Idx from i) 2).isLt
      refine Finset.mem_map.mpr ⟨(fun | 0 => ⟨0, Nat.one_pos⟩ | 1 => ⟨_, h1⟩ | 2 => ⟨_, h2⟩ : S1x256x4096.Idx), Finset.mem_univ _, ?_⟩
      refine funext fun (a : Fin 3) => ?_
      fin_cases a
      · exact Fin.ext (by show k % 3 + 1 * 0 = slotNo _ i; rw [hi, Nat.mul_zero, Nat.add_zero])
      · exact Fin.ext (by show 0 + 1 * _ = _; rw [Nat.zero_add, Nat.one_mul]; rfl)
      · exact Fin.ext (by show 0 + 1 * _ = _; rw [Nat.zero_add, Nat.one_mul]; rfl)

theorem slots_disj {s t : ℕ} (h : s % 3 ≠ t % 3) : Disjoint (slotS b s) (slotS b t) := by
  rw [Finset.disjoint_left]
  intro i h1 h2
  exact h (((mem_slotS b s i).mp h1).symm.trans ((mem_slotS b t i).mp h2))

theorem slots_univ : slotS b 0 ∪ (slotS b 1 ∪ slotS b 2) = Finset.univ := by
  ext i
  rw [Finset.mem_union, Finset.mem_union, mem_slotS, mem_slotS, mem_slotS]
  have := slotNo_lt b i
  simp only [Finset.mem_univ, iff_true]
  omega

theorem slots_disj' : Disjoint (slotS b 0) (slotS b 1 ∪ slotS b 2) :=
  Finset.disjoint_union_right.mpr ⟨slots_disj b (by decide), slots_disj b (by decide)⟩

theorem slots_split : (bany b c Finset.univ : sProp 𝕄) ⊢ Slots b c := by
  unfold Slots bany
  rw [show Finset.Ico 0 3 = {0, 1, 2} from rfl, bigSep_insert (by decide), bigSep_insert (by decide), bigSep_singleton,
    lset_slot b (by decide), lset_slot b (by decide), lset_slot b (by decide), ← slots_univ b]
  show _ ⊢ iprop(_ ∗ _ ∗ _)
  iintro ⟨%f, H⟩
  ihave ⟨H0, H⟩ := (pointsTo_union (slots_disj' b)).1 $$ H
  ihave ⟨H1, H2⟩ := (pointsTo_union (slots_disj b (s := 1) (t := 2) (by decide))).1 $$ H
  isplitl [H0]; · iexists f; iexact H0
  isplitl [H1]; · iexists f; iexact H1
  iexists f; iexact H2

theorem slots_join : iprop(bany b c (slotS b 0) ∗ bany b c (slotS b 1) ∗ bany b c (slotS b 2)) ⊢ (bany (F := F) b c Finset.univ : sProp 𝕄) := by
  unfold bany
  rw [← slots_univ b]
  iintro ⟨⟨%f, H0⟩, ⟨%g, H1⟩, ⟨%h, H2⟩⟩
  ihave H := (pointsTo_join (ℓ := (bufM b).view.loc (c : Thread nD τ)) (slots_disj b (s := 1) (t := 2) (by decide))) $$ [H1 H2]
  · isplitl [H1] <;> iassumption
  ihave H := (pointsTo_join (ℓ := (bufM b).view.loc (c : Thread nD τ)) (slots_disj' b)) $$ [H0 H]
  · isplitl [H0] <;> iassumption
  iexists _; iexact H

/-- What is left of a direction after its last hop is its whole buffer. -/
theorem buf_back : iprop(Held X b c 5 ∗ sndPay X b 6 c ∗ Held X b c 6 ∗ Over X b c ∗ sndPay X b 7 c ∗ rcvPay X b 7 c ∗ Rest b c)
    ⊢ (bany (F := F) b c Finset.univ : sProp 𝕄) := by
  iintro ⟨H5, HP6, H6, HOv, HP7, HR7, HRest⟩
  ihave H2 := (slot_back X b c (h := 5) (by decide)) $$ [H5 HP6]
  · isplitl [H5] <;> iassumption
  have e0 : iprop(Held X b c 6 ∗ Over X b c ∗ sndPay X b 7 c) ⊢ (bany (F := F) b c (slotS b 0) : sProp 𝕄) := by
    have h7 : sndPay X b 7 c = bpts b c (halfS b 0 b) fullShare.right (bigx X b (orig b 6 c)) := by
      rw [sndPay_succ X b c (k := 6), sset_half b]; rfl
    rw [h7]
    unfold Held Over bany
    rw [show (slotM b 6).view.set = slotS b 6 from rfl, slotS_eq b (s := 6) (t := 0) (by decide)]
    iintro ⟨H1, H2, H3⟩
    ihave HR := (pointsTo_split_subset (ℓ := (bufM b).view.loc (c : Thread nD τ)) (half_sub b 0 b)).2 $$ [H2 H3]
    · isplitl [H3] <;> iassumption
    iexists _
    iapply (Entails.of_eq (halves fullShare (bigx X b (orig b 6 c))).symm)
    isplitl [H1] <;> iassumption
  have e1 : iprop(rcvPay X b 7 c ∗ Rest b c) ⊢ (bany (F := F) b c (slotS b 1) : sProp 𝕄) := by
    have h7 : rcvPay X b 7 c = bpts b c (halfS b 1 b) fullShare (bigx X b (orig b 7 c)) := by
      unfold rcvPay; rw [lset_half b]; rfl
    rw [h7]
    unfold Rest bany
    iintro ⟨H1, ⟨%f, H2⟩⟩
    ihave H := (pointsTo_join_subset (ℓ := (bufM b).view.loc (c : Thread nD τ)) (half_sub b 1 b)) $$ [H1 H2]
    · isplitl [H1] <;> iassumption
    iexists _; iexact H
  ihave H0 := e0 $$ [H6 HOv HP7]
  · isplitl [H6]; · iexact H6
    isplitl [HOv] <;> iassumption
  ihave H1 := e1 $$ [HR7 HRest]
  · isplitl [HR7] <;> iassumption
  iapply (slots_join b c)
  isplitl [H0]; · iexact H0
  isplitl [H1]; · iexact H1
  have e2 : (bany (F := F) b c (slotS b 5) : sProp 𝕄) ⊢ bany b c (slotS b 2) := Entails.of_eq (by rw [slotS_eq b (s := 5) (t := 2) (by decide)])
  iapply e2; iexact H2

/-! ## The counters, closed -/

theorem three (Φ : ℕ → sProp 𝕄) : bigSep (Finset.range 3) Φ = iprop(Φ 0 ∗ Φ 1 ∗ Φ 2) := by
  rw [show Finset.range 3 = {0, 1, 2} from rfl, bigSep_insert (by decide), bigSep_insert (by decide), bigSep_singleton]
  rfl

theorem pos_close (g : ℕ → GSem nD τ sig) (hm : ∀ s, g s ∈ cells) (hl : ∀ s R, 8 ≤ 3 * R + s % 3 → ∀ r, R ≤ r → (Rd X).duties (g s) r = ∅) :
    iprop(recs X K ι ∗ pos g 8) ⊢ (|={Set.univ}=> bigSep (Finset.range 3) (fun s => semVal (g s) 0) : sProp 𝕄) := by
  unfold pos
  rw [three, three]
  iintro ⟨#HR, H0, H1, H2⟩
  ihave #I0 := (recs_cell X K ι (g 0) (hm 0)) $$ HR
  ihave #I1 := (recs_cell X K ι (g 1) (hm 1)) $$ HR
  ihave #I2 := (recs_cell X K ι (g 2) (hm 2)) $$ HR
  imod (Rounds.cell_close ER (Rd X) (Set.mem_univ (K (g 0))) id (hl 0 3 (by decide))) $$ [H0] with H0
  · isplitr; · iexact I0
    iexact H0
  imod (Rounds.cell_close ER (Rd X) (Set.mem_univ (K (g 1))) id (hl 1 3 (by decide))) $$ [H1] with H1
  · isplitr; · iexact I1
    iexact H1
  imod (Rounds.cell_close ER (Rd X) (Set.mem_univ (K (g 2))) id (hl 2 2 (by decide))) $$ [H2] with H2
  · isplitr; · iexact I2
    iexact H2
  imodintro
  isplitl [H0]; · iexact H0
  isplitl [H1] <;> iassumption

theorem crd_close : iprop(recs X K ι ∗ posC b c 8) ⊢ (|={Set.univ}=> semVal (ccell b c) 0 : sProp 𝕄) := by
  unfold posC
  iintro ⟨#HR, %T, %hT, H, -⟩
  ihave #I := (recs_cell X K ι (ccell b c) (mem_crd b c)) $$ HR
  imod (Rounds.fupd_skip ER (Rd X) (g := ccell b c) (R := 0) (m := 5) (T := T)
      (by rw [duties_crd, Finset.eq_of_subset_of_card_le hT.1 (by rw [Nat.card_Icc]; omega)])
      (expect_crd X b c).symm (Set.mem_univ (K (ccell b c)))) $$ [H] with ⟨H, -⟩
  · isplitr; · iexact I
    iexact H
  imod (Rounds.cell_close ER (Rd X) (Set.mem_univ (K (ccell b c))) id (later_crd X b c)) $$ [H] with H
  · isplitr; · iexact I
    iexact H
  imodintro
  iexact H

/-- A direction's seven counters at zero. -/
def Sems : sProp 𝕄 :=
  iprop(semVal (ccell b c) 0 ∗ bigSep (Finset.range 3) (fun s => semVal (scell b c s) 0) ∗ bigSep (Finset.range 3) (fun s => semVal (rcell b c s) 0))

theorem dir_close : iprop(recs X K ι ∗ Dir b c 8 8 8 6 8) ⊢ (|={Set.univ}=> Sems b c : sProp 𝕄) := by
  unfold Dir Sems
  iintro ⟨#HR, Hr, -, -, Hs, -, -, -, -, -, -, -, -, Hc⟩
  imod (pos_close X K ι (rcell b c) (mem_rcv b c) (later_rcv X b c)) $$ [Hr] with Hr
  · isplitr; · iexact HR
    iexact Hr
  imod (pos_close X K ι (scell b c) (mem_snd b c) (later_snd X b c)) $$ [Hs] with Hs
  · isplitr; · iexact HR
    iexact Hs
  imod (crd_close X K ι b c) $$ [Hc] with Hc
  · isplitr; · iexact HR
    iexact Hc
  imodintro
  isplitl [Hc]; · iexact Hc
  isplitl [Hs] <;> iassumption

theorem bar_close : iprop(recs X K ι ∗ atPos ER (barCell c) 1 (∅ : Finset ℕ) 0) ⊢ (|={Set.univ}=> semVal (barCell c) 0 : sProp 𝕄) := by
  iintro ⟨#HR, H⟩
  ihave #I := (recs_cell X K ι (barCell c) (mem_bar c)) $$ HR
  imod (Rounds.cell_close ER (Rd X) (Set.mem_univ (K (barCell c))) id (later_bar X c)) $$ [H] with H
  · isplitr; · iexact I
    iexact H
  imodintro
  iexact H

theorem ow_done : (Ow true c 8 6 8 6 : sProp 𝕄) ⊢ iprop(∃ Wt, owes (c : Thread nD τ) (0 : CellTallies nD τ sig ℕ) Wt) := by
  unfold Ow
  rw [Odir_done, show (!true) = false from rfl, Odir_done, add_zero]

/-- The own row block's three shares are the whole. -/
theorem x_shares : (xpts X c fullShare : sProp 𝕄) = iprop(xpts X c (xq true) ∗ xpts X c (xq false) ∗ xpts X c fullShare.right.right) := by
  unfold xpts xq
  rw [halves fullShare, halves fullShare.right]

theorem out_all : Out X W c (TT c 7 7 ∪ {2 * (orig true 7 c).val} ∪ {2 * (orig true 7 c).val + 1})
    ⊢ (oM.view.loc (c : Thread nD τ) ↦[Finset.univ]{fullShare} (G X W c) : sProp 𝕄) := by
  unfold Out
  iintro ⟨%f, %h, H⟩
  obtain rfl : f = G X W c := funext fun i => h i (by
    have h0 : (i 0).val < 4096 := (i 0).isLt
    have := TT_all c ((i 0).val / 128) (Finset.mem_range.mpr (by omega))
    rw [Finset.mem_union, Finset.mem_union, Finset.mem_singleton, Finset.mem_singleton]
    rcases this with h | h
    · exact .inl (.inl h)
    · omega)
  iexact H

end Cert.KernelIdeal.Ring

end
-- ==== Proof.KernelIdealBody.lean ====
/- The whole kernel on one device. -/
module

public import proofs.«01_k».proof.Proof.KernelIdealClose

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (W : Dev nD → (S4096x128.Idx → Elt F .f32)) (K : GSem nD τ sig → ℕ) (ι : Key → ℕ)
variable (c : Dev nD)

theorem kept_last (b : Bool) : (Kept (F := F) b c 4 : sProp 𝕄) = Rest b c := by unfold Kept; exact if_pos rfl

theorem sndPay_zero (b : Bool) : (sndPay X b 0 c : sProp 𝕄) = xpts X c (xq b) := rfl

/-- The first part of a program, run for what the rest of it needs. -/
theorem run_bind {α β : Type} {Q : β → sProp 𝕄} {Γ : sProp 𝕄} {p : Prog (TpuEff nD τ sig (Elt F) Λ₀ .tc) α}
    {k : α → Prog (TpuEff nD τ sig (Elt F) Λ₀ .tc) β} (h : Entails' Γ (run (F := F) c p fun x => run (F := F) c (k x) Q)) : Entails' Γ (run (F := F) c (p >>= k) Q) :=
  BIBase.Entails.trans h (Entails.of_eq (wp_bind _ _ _ _ _ _).symm)

/-- What a device brings to the kernel of the protocol. -/
def Ini : sProp 𝕄 := iprop(Dir0 true c ∗ Dir0 false c ∗ Bar0 c)

/-- The kernel's own operands and buffers, the result at contents not chosen. -/
def Bufs : sProp 𝕄 :=
  iprop(bany (F := F) true c Finset.univ ∗ bany (F := F) false c Finset.univ ∗ xpts X c fullShare ∗ Tab W c
    ∗ ∃ f : S4096x128.Idx → Elt F .f32, (oM.view.loc (c : Thread nD τ) ↦[Finset.univ]{fullShare} f))

/-- The same after the kernel, the result in place. -/
def Bufs' : sProp 𝕄 :=
  iprop(bany (F := F) true c Finset.univ ∗ bany (F := F) false c Finset.univ ∗ xpts X c fullShare ∗ Tab W c
    ∗ (oM.view.loc (c : Thread nD τ) ↦[Finset.univ]{fullShare} (G X W c)))

/-- Every counter back at zero. -/
def Zero : sProp 𝕄 := iprop(semVal (barCell c) 0 ∗ Sems true c ∗ Sems false c)

theorem run_ret_fupd {α : Type} {Q : α → sProp 𝕄} {a : α} : (|={Set.univ}=> Q a : sProp 𝕄) ⊢ run (F := F) c (.ret a) Q :=
  Entails.of_eq (wp_ret _ _ _ _ _).symm

set_option maxHeartbeats 1000000 in
/-- The kernel on device `c`. -/
theorem body_run {Q : PUnit → sProp 𝕄} :
    iprop(recs X K ι ∗ Ini c ∗ Bufs X W c ∗ ∃ Wt, owes (c : Thread nD τ) (O₀ c) Wt)
      ⊢ iprop((iprop(Zero c ∗ Bufs' X W c ∗ ∃ Wt, owes (c : Thread nD τ) (0 : CellTallies nD τ sig ℕ) Wt) -∗ Q ⟨⟩)
        -∗ run (F := F) c ((onArgs (cc0_body (F := F)) :)) Q) := by
  unfold Ini Bufs
  iintro ⟨#HR, ⟨HDT, HDF, HB⟩, ⟨HbT, HbF, Hx, HW, ⟨%f, Hf⟩⟩, HO⟩ Hk
  ihave HST := (slots_split true c) $$ HbT
  ihave HSF := (slots_split false c) $$ HbF
  ihave ⟨HxT, HxF, Hx⟩ := (Entails.of_eq (x_shares X c)) $$ Hx
  ihave HY := (show (oM.view.loc (c : Thread nD τ) ↦[Finset.univ]{fullShare} f : sProp 𝕄) ⊢ Out X W c ∅ from by
    unfold Out
    iintro H
    iexists f
    isplitr; · ipureintro; exact fun i h => absurd h (Finset.notMem_empty _)
    iexact H) $$ Hf
  simp only [onArgs, cc0_body_eq_skeleton]
  unfold cc0_body_skel
  refine run_bind c ?_
  refine use_rule ?_ (part1 X W K ι c)
  isplitl [HDT HDF HB HST HSF HO HxT HxF Hx HW]
  · isplitr; · iexact HR
    isplitl [HDT]; · iexact HDT
    isplitl [HDF]; · iexact HDF
    isplitl [HB]; · iexact HB
    isplitl [HST]; · iexact HST
    isplitl [HSF]; · iexact HSF
    isplitl [HO]; · iexact HO
    isplitl [HxT]; · iexact HxT
    isplitl [HxF]; · iexact HxF
    isplitl [Hx]; · iexact Hx
    iexact HW
  iintro ⟨HDT, HDF, HO, HB, Hx, HW⟩
  refine run_bind c ?_
  refine use_rule ?_ (part2 X W K ι c)
  isplitl [HDT HO HW HY]
  · isplitr; · iexact HR
    isplitl [HDT]; · iexact HDT
    isplitl [HO]; · iexact HO
    isplitl [HW]; · iexact HW
    iexact HY
  iintro ⟨HDT, HO, HHT0, HST0, HxT, HW, HY⟩
  refine run_bind c ?_
  refine use_rule ?_ (part3 X W K ι c)
  isplitl [HDT HDF HO HHT0 HST0 HW]
  · isplitr; · iexact HR
    isplitl [HDT]; · iexact HDT
    isplitl [HDF]; · iexact HDF
    isplitl [HO]; · iexact HO
    isplitl [HHT0]; · iexact HHT0
    isplitl [HST0]; · iexact HST0
    iexact HW
  iintro ⟨HDT, HDF, HO, HHT0, HHF0, HxF, HW⟩
  refine run_bind c ?_
  refine use_rule ?_ (part4 X W K ι c)
  isplitl [HHF0 HW HY]
  · isplitr; · iexact HR
    isplitl [HHF0]; · iexact HHF0
    isplitl [HW]; · iexact HW
    iexact HY
  iintro ⟨HHF0, HW, HY⟩
  refine run_bind c ?_
  refine use_rule ?_ (part5 X K ι c)
  isplitl [HDT HO HHT0]
  · isplitr; · iexact HR
    isplitl [HDT]; · iexact HDT
    isplitl [HO]; · iexact HO
    iexact HHT0
  iintro ⟨HDT, HO, HHT1⟩
  refine run_bind c ?_
  refine use_rule ?_ (part6 X W K ι c)
  isplitl [HDF HO HHF0 HHT1 HW]
  · isplitr; · iexact HR
    isplitl [HDF]; · iexact HDF
    isplitl [HO]; · iexact HO
    isplitl [HHF0]; · iexact HHF0
    isplitl [HHT1]; · iexact HHT1
    iexact HW
  iintro ⟨HDF, HO, HHF1, HHT1, HW⟩
  refine run_bind c ?_
  refine use_rule ?_ (part7 X W K ι c)
  isplitl [HDT HO HHF1 HW HY]
  · isplitr; · iexact HR
    isplitl [HDT]; · iexact HDT
    isplitl [HO]; · iexact HO
    isplitl [HHF1]; · iexact HHF1
    isplitl [HW]; · iexact HW
    iexact HY
  iintro ⟨HDT, HO, HHT2, HST2, HHF1, HW, HY⟩
  refine run_bind c ?_
  refine use_rule ?_ (part8 X K ι c)
  isplitl [HDT HO HHT1 HST2]
  · isplitr; · iexact HR
    isplitl [HDT]; · iexact HDT
    isplitl [HO]; · iexact HO
    isplitl [HHT1]; · iexact HHT1
    iexact HST2
  iintro ⟨HDT, HO⟩
  refine run_bind c ?_
  refine use_rule ?_ (part9 X W K ι c)
  isplitl [HDF HO HHF1 HHT2 HW]
  · isplitr; · iexact HR
    isplitl [HDF]; · iexact HDF
    isplitl [HO]; · iexact HO
    isplitl [HHF1]; · iexact HHF1
    isplitl [HHT2]; · iexact HHT2
    iexact HW
  iintro ⟨HDF, HO, HHF2, HHT2, HW⟩
  refine run_bind c ?_
  refine use_rule ?_ (part10 X W K ι c)
  isplitl [HDT HO HHF2 HW HY]
  · isplitr; · iexact HR
    isplitl [HDT]; · iexact HDT
    isplitl [HO]; · iexact HO
    isplitl [HHF2]; · iexact HHF2
    isplitl [HW]; · iexact HW
    iexact HY
  iintro ⟨HDT, HO, HHT3, HST3, HHF2, HW, HY⟩
  refine run_bind c ?_
  refine use_rule ?_ (part11 X K ι c)
  isplitl [HDT HO HHT2 HST3]
  · isplitr; · iexact HR
    isplitl [HDT]; · iexact HDT
    isplitl [HO]; · iexact HO
    isplitl [HHT2]; · iexact HHT2
    iexact HST3
  iintro ⟨HDT, HO⟩
  refine run_bind c ?_
  refine use_rule ?_ (part12 X W K ι c)
  isplitl [HDF HO HHF2 HHT3 HW]
  · isplitr; · iexact HR
    isplitl [HDF]; · iexact HDF
    isplitl [HO]; · iexact HO
    isplitl [HHF2]; · iexact HHF2
    isplitl [HHT3]; · iexact HHT3
    iexact HW
  iintro ⟨HDF, HO, HHF3, HHT3, HW⟩
  refine run_bind c ?_
  refine use_rule ?_ (part13 X W K ι c)
  isplitl [HDT HO HHF3 HW HY]
  · isplitr; · iexact HR
    isplitl [HDT]; · iexact HDT
    isplitl [HO]; · iexact HO
    isplitl [HHF3]; · iexact HHF3
    isplitl [HW]; · iexact HW
    iexact HY
  iintro ⟨HDT, HO, HHT4, HST4, HHF3, HW, HY⟩
  refine run_bind c ?_
  refine use_rule ?_ (part14 X K ι c)
  isplitl [HDT HO HHT3 HST4]
  · isplitr; · iexact HR
    isplitl [HDT]; · iexact HDT
    isplitl [HO]; · iexact HO
    isplitl [HHT3]; · iexact HHT3
    iexact HST4
  iintro ⟨HDT, HO⟩
  refine run_bind c ?_
  refine use_rule ?_ (part15 X W K ι c)
  isplitl [HDF HO HHF3 HHT4 HW]
  · isplitr; · iexact HR
    isplitl [HDF]; · iexact HDF
    isplitl [HO]; · iexact HO
    isplitl [HHF3]; · iexact HHF3
    isplitl [HHT4]; · iexact HHT4
    iexact HW
  iintro ⟨HDF, HO, HHF4, HHT4, HW⟩
  refine run_bind c ?_
  refine use_rule ?_ (part16 X W K ι c)
  isplitl [HDT HO HHF4 HW HY]
  · isplitr; · iexact HR
    isplitl [HDT]; · iexact HDT
    isplitl [HO]; · iexact HO
    isplitl [HHF4]; · iexact HHF4
    isplitl [HW]; · iexact HW
    iexact HY
  iintro ⟨HDT, HO, HHT5, HST5, HHF4, HW, HY⟩
  refine run_bind c ?_
  refine use_rule ?_ (part17 X K ι c)
  isplitl [HDT HO HHT4 HST5]
  · isplitr; · iexact HR
    isplitl [HDT]; · iexact HDT
    isplitl [HO]; · iexact HO
    isplitl [HHT4]; · iexact HHT4
    iexact HST5
  iintro ⟨HDT, HO, HKT⟩
  refine run_bind c ?_
  refine use_rule ?_ (part18 X W K ι c)
  isplitl [HDF HO HHF4 HHT5 HW]
  · isplitr; · iexact HR
    isplitl [HDF]; · iexact HDF
    isplitl [HO]; · iexact HO
    isplitl [HHF4]; · iexact HHF4
    isplitl [HHT5]; · iexact HHT5
    iexact HW
  iintro ⟨HDF, HO, HHF5, HHT5, HW, HKF⟩
  refine run_bind c ?_
  refine use_rule ?_ (part19 X W K ι c)
  isplitl [HDT HO HHF5 HW HY]
  · isplitr; · iexact HR
    isplitl [HDT]; · iexact HDT
    isplitl [HO]; · iexact HO
    isplitl [HHF5]; · iexact HHF5
    isplitl [HW]; · iexact HW
    iexact HY
  iintro ⟨HDT, HO, HHT6, HST6, HHF5, HW, HY⟩
  refine run_bind c ?_
  refine use_rule ?_ (part20 X K ι c)
  isplitl [HDT HDF HO HST6]
  · isplitr; · iexact HR
    isplitl [HDT]; · iexact HDT
    isplitl [HDF]; · iexact HDF
    isplitl [HO]; · iexact HO
    iexact HST6
  iintro ⟨HDT, HDF, HO, HPT6, HOT, HHF6, HSF6⟩
  refine run_bind c ?_
  refine use_rule ?_ (part21 X W K ι c)
  isplitl [HDF HO HSF6 HHT6 HW HY]
  · isplitr; · iexact HR
    isplitl [HDF]; · iexact HDF
    isplitl [HO]; · iexact HO
    isplitl [HSF6]; · iexact HSF6
    isplitl [HHT6]; · iexact HHT6
    isplitl [HW]; · iexact HW
    iexact HY
  iintro ⟨HDF, HO, HPF6, HOF, HHT6, HW, HY⟩
  refine run_bind c ?_
  refine use_rule ?_ (part22 X W K ι c)
  isplitl [HDT HO HHF6 HW HY]
  · isplitr; · iexact HR
    isplitl [HDT]; · iexact HDT
    isplitl [HO]; · iexact HO
    isplitl [HHF6]; · iexact HHF6
    isplitl [HW]; · iexact HW
    iexact HY
  iintro ⟨HDT, HO, HRT7, HPT7, HHF6, HW, HY⟩
  refine run_bind c ?_
  refine use_rule ?_ (part23 X W K ι c)
  isplitl [HDF HO HRT7 HW HY]
  · isplitr; · iexact HR
    isplitl [HDF]; · iexact HDF
    isplitl [HO]; · iexact HO
    isplitl [HRT7]; · iexact HRT7
    isplitl [HW]; · iexact HW
    iexact HY
  iintro ⟨HDF, HO, HRT7, HRF7, HPF7, HW, HY⟩
  simp only [semSignalWord, semWaitWord, smemLoad, smemLoadElt, Prog.lift, Prog.bind_op, Prog.bind_ret, Prog.pure_eq_ret, Prog.bind_assoc]
  refine use_fetch ?_ (fetch_last X W false c 128 rfl k0_chk18 chk18_wd ?_ ?_)
  isplitl [HRF7 HW]
  · isplitl [HRF7]; · iexact HRF7
    iexact HW
  iintro %v %hv ⟨HRF7, HW⟩
  refine use_rule ?_ (out_half X c W (T := TT c 7 7 ∪ {2 * (orig true 7 c).val}) (TT c 7 7 ∪ {2 * (orig true 7 c).val} ∪ {2 * (orig true 7 c).val + 1}) false ?_
    (fun r hr => (Finset.mem_union.mp hr).imp id fun h => Finset.mem_singleton.mp h) ?_)
  isplitl [HY]; · iexact HY
  iintro HY
  iapply (run_ret_fupd c)
  imod (bar_close X K ι c) $$ [HB] with HB
  · isplitr; · iexact HR
    iexact HB
  imod (dir_close X K ι true c) $$ [HDT] with HDT
  · isplitr; · iexact HR
    iexact HDT
  imod (dir_close X K ι false c) $$ [HDF] with HDF
  · isplitr; · iexact HR
    iexact HDF
  imodintro
  iapply Hk
  unfold Zero Bufs'
  isplitl [HB HDT HDF]
  · isplitl [HB]; · iexact HB
    isplitl [HDT] <;> iassumption
  isplitr [HO]
  · isplitl [HHT5 HPT6 HHT6 HOT HPT7 HRT7 HKT]
    · iapply (buf_back X true c)
      isplitl [HHT5]; · iexact HHT5
      isplitl [HPT6]; · iexact HPT6
      isplitl [HHT6]; · iexact HHT6
      isplitl [HOT]; · iexact HOT
      isplitl [HPT7]; · iexact HPT7
      isplitl [HRT7]; · iexact HRT7
      iapply (Entails.of_eq (kept_last c true)); iexact HKT
    isplitl [HHF5 HPF6 HHF6 HOF HPF7 HRF7 HKF]
    · iapply (buf_back X false c)
      isplitl [HHF5]; · iexact HHF5
      isplitl [HPF6]; · iexact HPF6
      isplitl [HHF6]; · iexact HHF6
      isplitl [HOF]; · iexact HOF
      isplitl [HPF7]; · iexact HPF7
      isplitl [HRF7]; · iexact HRF7
      iapply (Entails.of_eq (kept_last c false)); iexact HKF
    isplitl [HxT HxF Hx]
    · iapply (Entails.of_eq (x_shares X c).symm)
      isplitl [HxT]; · iapply (Entails.of_eq (sndPay_zero X c true)); iexact HxT
      isplitl [HxF]; · iapply (Entails.of_eq (sndPay_zero X c false)); iexact HxF
      iexact Hx
    isplitl [HW]; · iexact HW
    iapply (out_all X W c); iexact HY
  iapply (ow_done c); iexact HO
  all_goals first | rfl | exact off_wd_bottom _ | exact pay_half (by assumption) _

end Cert.KernelIdeal.Ring

end
-- ==== Proof.KernelIdealOpen.lean ====
/- Opening the counters of the kernel's own at its start. -/
module

public import proofs.«01_k».proof.Proof.KernelIdealBody

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (K : GSem nD τ sig → ℕ) (ι : Key → ℕ)

/-! ## Opening the kernel's own counters -/

/-- Direction `b`'s rights before the counters open. -/
def Raw (b : Bool) (c : Dev nD) : sProp 𝕄 := iprop(credR b c 0 ∗ tokS b c 0 ∗ tokC b c 1 ∗ tokT b c 3)
/-- The rights to open. -/
def Opens (c : Dev nD) : sProp 𝕄 := bigSep Finset.univ fun j : Fin 14 => openTok (D := ℕ) ER ((c : Thread nD τ), osem j)
def Raws (c : Dev nD) : sProp 𝕄 := iprop(Raw true c ∗ Raw false c ∗ Bar0 c ∗ Opens c)

theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ

theorem bigSep_three (Φ : ℕ → sProp 𝕄) : bigSep (Finset.range 3) Φ = iprop(Φ 0 ∗ Φ 1 ∗ Φ 2) :=
  by rw [show Finset.range 3 = {0, 1, 2} from by decide, bigSep_insert (by decide), bigSep_insert (by decide), bigSep_singleton]; rfl

theorem pos_zero (g : ℕ → GSem nD τ sig) :
    iprop(atPos ER (g 0) 0 (∅ : Finset ℕ) 0 ∗ atPos ER (g 1) 0 (∅ : Finset ℕ) 0 ∗ atPos ER (g 2) 0 (∅ : Finset ℕ) 0) ⊢ (pos g 0 : sProp 𝕄) := by
  unfold pos; rw [bigSep_three]

theorem rchd_zero (g : ℕ → GSem nD τ sig) :
    iprop(reached (D := ℕ) ER (g 0) 0 ∗ reached (D := ℕ) ER (g 1) 0 ∗ reached (D := ℕ) ER (g 2) 0) ⊢ (rchd g 0 : sProp 𝕄) := by
  unfold rchd; rw [bigSep_three]

theorem posC_zero (b : Bool) (c : Dev nD) : (atPos ER (ccell b c) 0 (∅ : Finset ℕ) 0 : sProp 𝕄) ⊢ posC b c 3 := by
  unfold posC
  iintro H
  iexists ∅
  isplitr; · ipureintro; exact ⟨Finset.empty_subset _, Nat.le_refl 0⟩
  isplitl [H]; · iexact H
  rw [bigSep_empty]; iempintro

/-- Every counter of the kernel's own, opened. -/
theorem open_all (c : Dev nD) : iprop(recs X K ι ∗ Opens c ∗ Pipeline.ownSems0 osem c)
    ⊢ (|={Set.univ}=> bigSep Finset.univ fun j : Fin 14 =>
        iprop(atPos ER ((c : Thread nD τ), osem j) 0 (∅ : Finset ℕ) 0 ∗ reached (D := ℕ) ER ((c : Thread nD τ), osem j) 0) : sProp 𝕄) := by
  have h1 (j : Fin 14) (_ : j ∈ (Finset.univ : Finset (Fin 14))) :
      iprop(recs X K ι ∗ iprop(openTok (D := ℕ) ER ((c : Thread nD τ), osem j) ∗ semVal ((c : Thread nD τ), osem j) 0))
      ⊢ (|={Set.univ}=> iprop(atPos ER ((c : Thread nD τ), osem j) 0 (∅ : Finset ℕ) 0 ∗ reached (D := ℕ) ER ((c : Thread nD τ), osem j) 0) : sProp 𝕄) := by
    iintro ⟨HR, Ho, Hv⟩
    ihave HI := (recs_cell X K ι _ (mem_sc c j (osem j) rfl)) $$ HR
    iapply (Rounds.cell_open ER (Rd X) (g := ((c : Thread nD τ), osem j)) (Set.mem_univ (K ((c : Thread nD τ), osem j))))
    isplitl [HI]; · iexact HI
    isplitl [Ho] <;> iassumption
  unfold Opens Pipeline.ownSems0
  refine BIBase.Entails.trans ?_ (bigSep_fupd _ _)
  refine BIBase.Entails.trans ?_ (bigSep_with_persistent (R := recs X K ι) h1)
  rw [bigSep_sep']

/-- A direction's rights, its counters open. -/
theorem dir_open (b : Bool) (c : Dev nD) :
    iprop(Raw b c
      ∗ (atPos ER (rcell b c 0) 0 (∅ : Finset ℕ) 0 ∗ atPos ER (rcell b c 1) 0 (∅ : Finset ℕ) 0 ∗ atPos ER (rcell b c 2) 0 (∅ : Finset ℕ) 0)
      ∗ (reached (D := ℕ) ER (rcell b c 0) 0 ∗ reached (D := ℕ) ER (rcell b c 1) 0 ∗ reached (D := ℕ) ER (rcell b c 2) 0)
      ∗ (atPos ER (scell b c 0) 0 (∅ : Finset ℕ) 0 ∗ atPos ER (scell b c 1) 0 (∅ : Finset ℕ) 0 ∗ atPos ER (scell b c 2) 0 (∅ : Finset ℕ) 0)
      ∗ (reached (D := ℕ) ER (scell b c 0) 0 ∗ reached (D := ℕ) ER (scell b c 1) 0 ∗ reached (D := ℕ) ER (scell b c 2) 0)
      ∗ atPos ER (ccell b c) 0 (∅ : Finset ℕ) 0 ∗ reached (D := ℕ) ER (ccell b c) 0)
    ⊢ (Dir0 b c : sProp 𝕄) := by
  unfold Raw Dir0
  iintro ⟨⟨HcR, HtS, HtC, HtT⟩, HaR, HrR, HaS, HrS, HaC, HrC⟩
  isplitl [HaR]; · iapply (pos_zero (rcell b c)); iexact HaR
  isplitl [HrR]; · iapply (rchd_zero (rcell b c)); iexact HrR
  isplitl [HcR]; · iexact HcR
  isplitl [HaS]; · iapply (pos_zero (scell b c)); iexact HaS
  isplitl [HrS]; · iapply (rchd_zero (scell b c)); iexact HrS
  isplitl [HtS]; · iexact HtS
  isplitl [HtC]; · iexact HtC
  isplitl [HtT]; · iexact HtT
  isplitl [HaC]; · iapply (posC_zero b c); iexact HaC
  iexact HrC

/-- The kernel's start, from what the launch left and the counters at zero. -/
theorem ini_open (c : Dev nD) : iprop(recs X K ι ∗ Raws c ∗ Pipeline.ownSems0 osem c) ⊢ (|={Set.univ}=> Ini c : sProp 𝕄) := by
  unfold Raws
  iintro ⟨HR, ⟨HT, HF, HB, HO⟩, Hv⟩
  imod (open_all X K ι c) $$ [HR HO Hv] with H
  · isplitl [HR]; · iexact HR
    isplitl [HO] <;> iassumption
  imodintro
  ihave H' := (Entails.of_eq (bigSep_sep' _ _ _)) $$ H
  icases H' with ⟨HA, HR⟩
  ihave HA := (Entails.of_eq (bigSep_fin14 _)) $$ HA
  ihave HR := (Entails.of_eq (bigSep_fin14 _)) $$ HR
  icases HA with ⟨A0, A1, A2, A3, A4, A5, A6, A7, A8, A9, A10, A11, A12, A13⟩
  icases HR with ⟨R0, R1, R2, R3, R4, R5, R6, R7, R8, R9, R10, R11, R12, R13⟩
  unfold Ini
  isplitl [HT A5 A6 A7 R5 R6 R7 A2 A3 A4 R2 R3 R4 A0 R0]
  · iapply (dir_open true c)
    isplitl [HT]; · iexact HT
    isplitl [A5 A6 A7]
    · isplitl [A5]; · iexact A5
      isplitl [A6]; · iexact A6
      iexact A7
    isplitl [R5 R6 R7]
    · isplitl [R5]; · iexact R5
      isplitl [R6]; · iexact R6
      iexact R7
    isplitl [A2 A3 A4]
    · isplitl [A2]; · iexact A2
      isplitl [A3]; · iexact A3
      iexact A4
    isplitl [R2 R3 R4]
    · isplitl [R2]; · iexact R2
      isplitl [R3]; · iexact R3
      iexact R4
    isplitl [A0]; · iexact A0
    iexact R0
  isplitr [HB]
  · iapply (dir_open false c)
    isplitl [HF]; · iexact HF
    isplitl [A11 A12 A13]
    · isplitl [A11]; · iexact A11
      isplitl [A12]; · iexact A12
      iexact A13
    isplitl [R11 R12 R13]
    · isplitl [R11]; · iexact R11
      isplitl [R12]; · iexact R12
      iexact R13
    isplitl [A8 A9 A10]
    · isplitl [A8]; · iexact A8
      isplitl [A9]; · iexact A9
      iexact A10
    isplitl [R8 R9 R10]
    · isplitl [R8]; · iexact R8
      isplitl [R9]; · iexact R9
      iexact R10
    isplitl [A1]; · iexact A1
    iexact R1
  iexact HB

/-- The kernel's own counters back, from both directions'. -/
theorem sems_own (c : Dev nD) : iprop(Sems true c ∗ Sems false c) ⊢ (Pipeline.ownSems0 osem c : sProp 𝕄) := by
  unfold Sems Pipeline.ownSems0
  rw [bigSep_fin14, bigSep_three, bigSep_three, bigSep_three, bigSep_three]
  iintro ⟨⟨C0, ⟨S2, S3, S4⟩, R5, R6, R7⟩, C1, ⟨S8, S9, S10⟩, R11, R12, R13⟩
  isplitl [C0]; · iexact C0
  isplitl [C1]; · iexact C1
  isplitl [S2]; · iexact S2
  isplitl [S3]; · iexact S3
  isplitl [S4]; · iexact S4
  isplitl [R5]; · iexact R5
  isplitl [R6]; · iexact R6
  isplitl [R7]; · iexact R7
  isplitl [S8]; · iexact S8
  isplitl [S9]; · iexact S9
  isplitl [S10]; · iexact S10
  isplitl [R11]; · iexact R11
  isplitl [R12]; · iexact R12
  iexact R13

end Cert.KernelIdeal.Ring

end
-- ==== Proof.KernelIdealFund.lean ====
/- The protocol at launch: every device's rights, credits and records. -/
module

public import proofs.«01_k».proof.Proof.KernelIdealOpen

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → (S256x4096.Idx → Elt F .f32)) (K : GSem nD τ sig → ℕ) (ι : Key → ℕ)

/-! ## The rights to pay, all of them, by cell and round -/

theorem sS_inj (b : Bool) {k k' : ℕ} (h : sS b k = sS b k') (h' : k / 3 = k' / 3) : k = k' := by
  have e : (sS b k).val = (sS b k').val := congrArg Fin.val h
  unfold sS at e; simp only at e; omega
theorem rS_inj (b : Bool) {k k' : ℕ} (h : rS b k = rS b k') (h' : k / 3 = k' / 3) : k = k' := by
  have e : (rS b k).val = (rS b k').val := congrArg Fin.val h
  unfold rS at e; simp only at e; omega

/-- A family over pairs, one first component after the other. -/
theorem bigSep_times {I J : Type} [DecidableEq I] [DecidableEq J] (s : Finset I) (t : Finset J) (Φ : I × J → sProp 𝕄) :
    bigSep (s ×ˢ t) Φ = bigSep s fun i => bigSep t fun j => Φ (i, j) := by
  refine Finset.induction_on s rfl fun a r ha ih => ?_
  have e : insert a r ×ˢ t = t.map ⟨fun j => (a, j), fun _ _ h => congrArg Prod.snd h⟩ ∪ r ×ˢ t := by
    ext x
    simp only [Finset.mem_product, Finset.mem_insert, Finset.mem_union, Finset.mem_map, Function.Embedding.coeFn_mk]
    constructor
    · rintro ⟨h | h, h'⟩
      · exact Or.inl ⟨x.2, h', Prod.ext h.symm rfl⟩
      · exact Or.inr ⟨h, h'⟩
    · rintro (⟨j, hj, rfl⟩ | ⟨h, h'⟩)
      · exact ⟨Or.inl rfl, hj⟩
      · exact ⟨Or.inr h, h'⟩
  have hd : Disjoint (t.map ⟨fun j => (a, j), fun _ _ h => congrArg Prod.snd h⟩) (r ×ˢ t) := by
    rw [Finset.disjoint_left]
    intro x hx hx'
    obtain ⟨j, -, rfl⟩ := Finset.mem_map.mp hx
    exact ha (Finset.mem_product.mp hx').1
  rw [e, bigSep_union hd, bigSep_map, ih, bigSep_insert ha]
  rfl

def sndEmb (b : Bool) : ℕ ↪ SemLoc sig × ℕ × ℕ := ⟨fun k => (.dma (sS b k), k / 3, 0), fun k k' h => by
  obtain ⟨h1, h2⟩ := Prod.mk.injEq .. ▸ h; exact sS_inj b (SemLoc.dma.inj h1) (congrArg Prod.fst h2)⟩
def rcvEmb (b : Bool) : ℕ ↪ SemLoc sig × ℕ × ℕ := ⟨fun k => (.dma (rS b k), k / 3, 0), fun k k' h => by
  obtain ⟨h1, h2⟩ := Prod.mk.injEq .. ▸ h; exact rS_inj b (SemLoc.dma.inj h1) (congrArg Prod.fst h2)⟩
def crdEmb (b : Bool) : ℕ ↪ SemLoc sig × ℕ × ℕ := ⟨fun j => (.reg (cS b), 0, j), fun _ _ h => congrArg (fun x => x.2.2) h⟩
def bardEmb : ℕ ↪ SemLoc sig × ℕ × ℕ := ⟨fun d => (.reg barrier0, 0, d), fun _ _ h => congrArg (fun x => x.2.2) h⟩

def dutySet : Finset (SemLoc sig × ℕ × ℕ) :=
  (Finset.range 2).map bardEmb ∪ ((Finset.Ico 1 6).map (crdEmb true) ∪ ((Finset.Ico 1 6).map (crdEmb false) ∪
    ((Finset.Ico 0 8).map (sndEmb true) ∪ ((Finset.Ico 0 8).map (rcvEmb true) ∪ ((Finset.Ico 0 8).map (sndEmb false) ∪ (Finset.Ico 0 8).map (rcvEmb false))))))
def dutyEmb : Dev nD × (SemLoc sig × ℕ × ℕ) ↪ GSem nD τ sig × ℕ × ℕ :=
  ⟨fun x => (((x.1 : Thread nD τ), x.2.1), x.2.2), fun _ _ h => Prod.ext (congrArg (fun y => y.1.1.1) h)
    (Prod.ext (congrArg (fun y : GSem nD τ sig × ℕ × ℕ => y.1.2) h) (congrArg (fun y : GSem nD τ sig × ℕ × ℕ => y.2) h))⟩
def allToks : Finset (GSem nD τ sig × ℕ × ℕ) := (Finset.univ ×ˢ dutySet).map dutyEmb

/-- The rights to pay a device's own counters. -/
def barT (c : Dev nD) (d : ℕ) : sProp 𝕄 := dutyTok ER (barCell c) 0 d
def crdT (b : Bool) (c : Dev nD) : sProp 𝕄 := bigSep (Finset.Ico 1 6) fun j => dutyTok ER (ccell b c) 0 (j : ℕ)
def sndT (b : Bool) (c : Dev nD) : sProp 𝕄 := bigSep (Finset.Ico 0 8) fun k => dutyTok ER (scell b c k) (k / 3) (0 : ℕ)
def rcvT (b : Bool) (c : Dev nD) : sProp 𝕄 := bigSep (Finset.Ico 0 8) fun k => dutyTok ER (rcell b c k) (k / 3) (0 : ℕ)

theorem toks_own : (bigSep allToks fun x => (dutyTok ER x.1 x.2.1 x.2.2 : sProp 𝕄))
    = bigSep Finset.univ fun c : Dev nD => iprop((barT c 0 ∗ barT c 1) ∗ crdT true c ∗ crdT false c ∗ sndT true c ∗ rcvT true c ∗ sndT false c ∗ rcvT false c) := by
  unfold allToks
  rw [bigSep_map, bigSep_times]
  refine bigSep_congr fun c _ => ?_
  unfold dutySet
  rw [bigSep_union (by decide), bigSep_union (by decide), bigSep_union (by decide), bigSep_union (by decide), bigSep_union (by decide), bigSep_union (by decide),
    bigSep_map, bigSep_map, bigSep_map, bigSep_map, bigSep_map, bigSep_map, bigSep_map,
    show Finset.range 2 = {0, 1} from by decide, bigSep_insert (by decide), bigSep_singleton]
  rfl

/-- Each right moved to the device that pays. -/
theorem toks_paid : (bigSep Finset.univ fun c : Dev nD =>
      (iprop((barT c 0 ∗ barT c 1) ∗ crdT true c ∗ crdT false c ∗ sndT true c ∗ rcvT true c ∗ sndT false c ∗ rcvT false c) : sProp 𝕄))
    = bigSep Finset.univ fun c : Dev nD => iprop((barT (lt c) 0 ∗ barT (rt c) 1) ∗ crdT true (inn true c) ∗ crdT false (inn false c)
        ∗ sndT true c ∗ rcvT true (out true c) ∗ sndT false c ∗ rcvT false (out false c)) := by
  simp only [bigSep_sep']
  rw [bigSep_univ_equiv (outE false) (fun c : Dev nD => (barT c 0 : sProp 𝕄)), bigSep_univ_equiv (outE true) (fun c : Dev nD => (barT c 1 : sProp 𝕄)),
    bigSep_univ_equiv (outE true).symm (fun c : Dev nD => (crdT true c : sProp 𝕄)), bigSep_univ_equiv (outE false).symm (fun c : Dev nD => (crdT false c : sProp 𝕄)),
    bigSep_univ_equiv (outE true) (fun c : Dev nD => (rcvT true c : sProp 𝕄)), bigSep_univ_equiv (outE false) (fun c : Dev nD => (rcvT false c : sProp 𝕄))]
  rfl

/-! ## The slots' readers and writers -/

def rdr (b : Bool) (c : Dev nD) : sProp 𝕄 := bigSep (Finset.Ico 1 6) fun j => Release.readerAt EL ((c, b, j + 2) : Key) 0
def wrt (b : Bool) (c : Dev nD) : sProp 𝕄 := bigSep (Finset.Ico 3 8) fun k => Release.writeTok EL ((c, b, k) : Key) 1

theorem bigSep_bool (Φ : Bool → sProp 𝕄) : bigSep Finset.univ Φ = iprop(Φ true ∗ Φ false) :=
  bigSep_univ_eq_bigSepL [true, false] (by decide) (by decide) Φ

theorem readers_own : (bigSep keys fun k => (Release.readerAt EL k 0 : sProp 𝕄)) = bigSep Finset.univ fun c : Dev nD => iprop(rdr true c ∗ rdr false c) := by
  unfold keys
  rw [bigSep_times]
  refine bigSep_congr fun c _ => ?_
  rw [bigSep_times, bigSep_bool, show Finset.Icc 3 7 = (Finset.Ico 1 6).map (addRightEmbedding 2) from by decide, bigSep_map, bigSep_map]
  rfl

theorem writers_own : (bigSep (keys ×ˢ Finset.range 1) fun x => (Release.writeTok EL x.1 (x.2 + 1) : sProp 𝕄))
    = bigSep Finset.univ fun c : Dev nD => iprop(wrt true (out true c) ∗ wrt false (out false c)) := by
  rw [bigSep_times, bigSep_congr (s := keys) (Ψ := fun k => (Release.writeTok EL k 1 : sProp 𝕄)) (fun k _ => by rw [Finset.range_one, bigSep_singleton])]
  unfold keys
  rw [bigSep_times, bigSep_congr (Ψ := fun c : Dev nD => iprop(wrt true c ∗ wrt false c)) (fun c _ => by
    rw [bigSep_times, bigSep_bool, show Finset.Icc 3 7 = Finset.Ico 3 8 from by decide]; rfl)]
  rw [bigSep_sep', bigSep_sep', bigSep_univ_equiv (outE true) (fun c : Dev nD => (wrt true c : sProp 𝕄)), bigSep_univ_equiv (outE false) (fun c : Dev nD => (wrt false c : sProp 𝕄))]
  rfl

/-! ## The launch's credits -/

def crdC (b : Bool) (c : Dev nD) : sProp 𝕄 := bigSep (Finset.Ico 3 8) fun k => cred (tallyAt (ccell b c) (k - 2) 1)

theorem dir_creds (b : Bool) (c : Dev nD) : (Pipeline.launchCred (fun d => Odir b d 0 1) c : sProp 𝕄) ⊢ iprop(credR b c 0 ∗ crdC b c) := by
  unfold Odir
  rw [Pipeline.launchCred_add (fun d => ∑ i ∈ Finset.Ico 0 8, tallyAt (rcell b (out b d) i) i (Nof i)) (fun d => ∑ i ∈ Finset.Ico 1 6, tallyAt (ccell b (inn b d)) i 1),
    Pipeline.launchCred_sum (Finset.Ico 0 8) (fun i d => tallyAt (rcell b (out b d) i) i (Nof i)), Pipeline.launchCred_sum (Finset.Ico 1 6) (fun i d => tallyAt (ccell b (inn b d)) i 1)]
  have h1 : (bigSep (Finset.Ico 0 8) fun i => (Pipeline.launchCred (fun d => tallyAt (rcell b (out b d) i) i (Nof i)) c : sProp 𝕄)) ⊢ credR b c 0 := by
    unfold credR
    exact bigSep_mono fun i _ => Pipeline.launchCred_tallyAt (.dma (rS b i)) (out b) (inn b) (out_inn b) (inn_out b) i (Nof i) c
  have h2 : (bigSep (Finset.Ico 1 6) fun i => (Pipeline.launchCred (fun d => tallyAt (ccell b (inn b d)) i 1) c : sProp 𝕄)) ⊢ crdC b c := by
    unfold crdC
    rw [show Finset.Ico 3 8 = (Finset.Ico 1 6).map (addRightEmbedding 2) from by decide, bigSep_map]
    exact bigSep_mono fun i _ => Pipeline.launchCred_tallyAt (.reg (cS b)) (inn b) (out b) (inn_out b) (out_inn b) i 1 c
  iintro ⟨H1, H2⟩
  isplitl [H1]
  · iapply h1; iexact H1
  · iapply h2; iexact H2

theorem bar_two (c : Dev nD) : iprop(cred (tallyAt (barCell c) 0 1) ∗ cred (tallyAt (barCell c) 0 1)) ⊢ (cred (tallyAt (barCell c) 0 2) : sProp 𝕄) := by
  refine (cred_add _ _).2.trans (Entails.of_eq (congrArg _ ?_))
  exact tallyAt_add _ _ 1 1

theorem creds (c : Dev nD) : (Pipeline.launchCred O₀ c : sProp 𝕄)
    ⊢ iprop((credR true c 0 ∗ crdC true c) ∗ (credR false c 0 ∗ crdC false c) ∗ cred (tallyAt (barCell c) 0 2)) := by
  show (Pipeline.launchCred (fun d => Odir true d 0 1 + Odir false d 0 1 + tallyAt (barCell (rt d)) 0 1 + tallyAt (barCell (lt d)) 0 1) c : sProp 𝕄) ⊢ _
  rw [Pipeline.launchCred_add (fun d => Odir true d 0 1 + Odir false d 0 1 + tallyAt (barCell (rt d)) 0 1) (fun d => tallyAt (barCell (lt d)) 0 1),
    Pipeline.launchCred_add (fun d => Odir true d 0 1 + Odir false d 0 1) (fun d => tallyAt (barCell (rt d)) 0 1),
    Pipeline.launchCred_add (fun d => Odir true d 0 1) (fun d => Odir false d 0 1)]
  iintro ⟨⟨⟨H1, H2⟩, H3⟩, H4⟩
  ihave H3 := (Pipeline.launchCred_tallyAt (.reg barrier0) rt lt rt_lt lt_rt 0 1 c) $$ H3
  ihave H4 := (Pipeline.launchCred_tallyAt (.reg barrier0) lt rt lt_rt rt_lt 0 1 c) $$ H4
  isplitl [H1]; · iapply (dir_creds true c); iexact H1
  isplitl [H2]; · iapply (dir_creds false c); iexact H2
  iapply (bar_two c)
  isplitl [H3] <;> iassumption

/-! ## The launch -/

def TokP (c : Dev nD) : sProp 𝕄 :=
  iprop((barT (lt c) 0 ∗ barT (rt c) 1) ∗ crdT true (inn true c) ∗ crdT false (inn false c) ∗ sndT true c ∗ rcvT true (out true c) ∗ sndT false c ∗ rcvT false (out false c))
def Rdrs (c : Dev nD) : sProp 𝕄 := iprop(rdr true c ∗ rdr false c)
def Wrts (c : Dev nD) : sProp 𝕄 := iprop(wrt true (out true c) ∗ wrt false (out false c))

/-- What goes to each device. -/
def Deal (c : Dev nD) : sProp 𝕄 :=
  iprop(Pipeline.launchCred O₀ c ∗ TokP c ∗ Rdrs c ∗ Wrts c ∗ atPos ER (barCell c) 0 (∅ : Finset ℕ) 0 ∗ Opens c)

theorem deal_dir (b : Bool) (c : Dev nD) :
    iprop(credR b c 0 ∗ crdC b c ∗ crdT b (inn b c) ∗ sndT b c ∗ rcvT b (out b c) ∗ rdr b c ∗ wrt b (out b c)) ⊢ (Raw b c : sProp 𝕄) := by
  unfold Raw crdC crdT sndT rcvT rdr wrt tokS tokC tokT
  rw [bigSep_sep', bigSep_sep', bigSep_sep']
  iintro ⟨H1, H2, H3, H4, H5, H6, H7⟩
  isplitl [H1]; · iexact H1
  isplitl [H4 H5]; · isplitl [H4] <;> iassumption
  isplitl [H3 H6]; · isplitl [H3] <;> iassumption
  isplitl [H7] <;> iassumption

def barReach : sProp 𝕄 := bigSep barCells fun g => reached (D := ℕ) ER g 0
instance barReach_persistent : BI.Persistent (barReach (F := F)) := by unfold barReach; infer_instance
theorem barReach_at (c : Dev nD) : (barReach (F := F)) ⊢ reached (D := ℕ) ER (barCell c) 0 := by
  unfold barReach; exact bigSep_elim (Finset.mem_map.mpr ⟨c, Finset.mem_univ _, rfl⟩)

theorem deal_raws (c : Dev nD) : iprop(barReach ∗ Deal c) ⊢ (Raws c : sProp 𝕄) := by
  unfold Deal TokP Rdrs Wrts Raws Bar0
  iintro ⟨#HR, HC, ⟨⟨B0, B1⟩, CT, CF, ST, RT, SF, RF⟩, ⟨DT, DF⟩, ⟨WT, WF⟩, HA, HO⟩
  ihave HC := (creds c) $$ HC
  icases HC with ⟨⟨C1, C2⟩, ⟨C3, C4⟩, C5⟩
  isplitl [C1 C2 CT ST RT DT WT]
  · iapply (deal_dir true c)
    isplitl [C1]; · iexact C1
    isplitl [C2]; · iexact C2
    isplitl [CT]; · iexact CT
    isplitl [ST]; · iexact ST
    isplitl [RT]; · iexact RT
    isplitl [DT] <;> iassumption
  isplitl [C3 C4 CF SF RF DF WF]
  · iapply (deal_dir false c)
    isplitl [C3]; · iexact C3
    isplitl [C4]; · iexact C4
    isplitl [CF]; · iexact CF
    isplitl [SF]; · iexact SF
    isplitl [RF]; · iexact RF
    isplitl [DF] <;> iassumption
  isplitr [HO]
  · isplitl [HA]; · iexact HA
    isplitl [C5]; · iexact C5
    isplitl [B0]
    · isplitl [B0]; · iapply (show barT (lt c) 0 ⊢ (dutyTok ER (barCell (lt c)) 0 (0 : ℕ) : sProp 𝕄) from by unfold barT; exact BIBase.Entails.rfl); iexact B0
      iapply (barReach_at (lt c)); iexact HR
    isplitl [B1]; · iapply (show barT (rt c) 1 ⊢ (dutyTok ER (barCell (rt c)) 0 (1 : ℕ) : sProp 𝕄) from by unfold barT; exact BIBase.Entails.rfl); iexact B1
    iapply (barReach_at (rt c)); iexact HR
  iexact HO

instance slotRes_storable (k : Key) : BI.Storable (upEmb : UEmb _ 𝕄) (slotRes (F := F) k) := by unfold slotRes bany; infer_instance

theorem cells_disjoint : Disjoint barCells scCells := by
  rw [Finset.disjoint_left]
  rintro g h₁ h₂
  obtain ⟨c, -, rfl⟩ := Finset.mem_map.mp h₁
  obtain ⟨x, -, h⟩ := Finset.mem_map.mp h₂
  exact (by decide : ∀ j : Fin 14, osem j ≠ .reg barrier0) x.2 (congrArg (fun g : GSem nD τ sig => g.2) h)

theorem deal_join : iprop((bigSep Finset.univ fun c : Dev nD => (Pipeline.launchCred O₀ c : sProp 𝕄)) ∗ bigSep Finset.univ (TokP (F := F)) ∗ bigSep Finset.univ (Rdrs (F := F))
      ∗ bigSep Finset.univ (Wrts (F := F)) ∗ (bigSep Finset.univ fun c : Dev nD => atPos ER (barCell c) 0 (∅ : Finset ℕ) 0) ∗ bigSep Finset.univ (Opens (F := F)))
    ⊢ (bigSep Finset.univ (Deal (F := F)) : sProp 𝕄) := by
  unfold Deal
  rw [bigSep_sep', bigSep_sep', bigSep_sep', bigSep_sep', bigSep_sep']

/-- The protocol at launch: every device its part, the records shared. -/
theorem fund_all :
    iprop((bigSep Finset.univ fun c : Dev nD => (semVal (barCell c) 0 : sProp 𝕄)) ∗ (bigSep Finset.univ fun c : Dev nD => Pipeline.launchCred O₀ c)
      ∗ BI.own (ER (launchOf barCells scCells allToks)) ∗ BI.own (EL (Release.initSlots keys 1)) ∗ levAts L lv)
    ⊢ (|={Set.univ}=> bigSep Finset.univ fun c : Dev nD => iprop(∃ K ι, recs X K ι ∗ Raws c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 (∅ : Finset ℕ) 0 : sProp 𝕄)) ⊢ bigSep Finset.univ (fun c : Dev nD => (atPos ER (barCell c) 0 (∅ : Finset ℕ) 0 : sProp 𝕄)) :=
    Entails.of_eq (bigSep_map (s := Finset.univ) barEmb (Φ := fun g : GSem nD τ sig => (atPos ER g 0 (∅ : Finset ℕ) 0 : sProp 𝕄)))
  have hop : bigSep scCells (fun g => (openTok (D := ℕ) ER g : sProp 𝕄)) ⊢ bigSep Finset.univ (fun c : Dev nD => Opens c) := by
    unfold scCells Opens; rw [bigSep_map, bigSep_univ_prod]; exact BIBase.Entails.rfl
  iintro ⟨Hv, HC, HE, HL, Hlev⟩
  ihave Hv := hv $$ Hv
  imod (Rounds.fund_launch ER (Rd X) cells_disjoint (fun g _ h => h) allToks) $$ [Hv HE] with ⟨%K, -, HI, HR, Hat, Hop, Htok⟩
  · isplitl [Hv] <;> iassumption
  imod (Release.slots_init EL keys 1 (slotRes (F := F))) $$ HL with ⟨%ι, -, HS, Hrd, Hwr⟩
  imodintro
  ihave #Hrecs := (show iprop(bigSep (barCells ∪ scCells) (fun g => cellInv ER (Rd X) (K g) g) ∗ bigSep keys (fun k => Release.slotInv EL (ι k) k (slotRes (F := F) k)) ∗ levAts L lv)
      ⊢ recs X K ι from by unfold recs levs cells; exact BIBase.Entails.rfl) $$ [HI HS Hlev]
  · isplitl [HI]; · iexact HI
    isplitl [HS] <;> iassumption
  ihave #Hreach := (show (bigSep barCells fun g => reached (D := ℕ) ER g 0) ⊢ barReach (F := F) from by unfold barReach; exact BIBase.Entails.rfl) $$ HR
  ihave Hat := hat $$ Hat
  ihave Hop := hop $$ Hop
  ihave Htok := (show _ ⊢ bigSep Finset.univ (TokP (F := F)) from Entails.of_eq (toks_own.trans toks_paid)) $$ Htok
  ihave Hrd := (show _ ⊢ bigSep Finset.univ (Rdrs (F := F)) from Entails.of_eq readers_own) $$ Hrd
  ihave Hwr := (show _ ⊢ bigSep Finset.univ (Wrts (F := F)) from Entails.of_eq writers_own) $$ Hwr
  ihave HD := deal_join $$ [HC Htok Hrd Hwr Hat Hop]
  · isplitl [HC]; · iexact HC
    isplitl [Htok]; · iexact Htok
    isplitl [Hrd]; · iexact Hrd
    isplitl [Hwr]; · iexact Hwr
    isplitl [Hat] <;> iassumption
  iapply (bigSep_with_persistent (R := iprop(recs X K ι ∗ barReach)) (Φ := Deal) (S := Finset.univ) fun c _ => by
    iintro ⟨⟨#HR, #HB⟩, HD⟩
    iexists K, ι
    isplitr; · iexact HR
    iapply (deal_raws c)
    isplitr; · iexact HB
    iexact HD)
  isplitr
  · isplitr; · iexact Hrecs
    iexact Hreach
  iexact HD

end Cert.KernelIdeal.Ring

end
-- ==== Proof.KernelIdealTables.lean ====
/- The tables the host computes: the neighbours, and whose row block each hop brings. -/
module

public import proofs.«01_k».proof.Proof.KernelIdealLoads
public import proofs.«01_k».proof.Proof.Gen.KernelIdeal.Regions

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The host's functions, composed -/

/-- An entry of a table of sixteen, as the host takes it. -/
def takeS (tab : IVec S16 32) (x : IVec S_ 32) : IVec S_ 32 :=
  let i : IVec S1 32 := broadcastInDim S1 ![] bcast_S_S1 (select (cmpi .slt x (constantI S_ 32 0#32)) (addi x (constantI S_ 32 16#32)) x)
  select (Host.reduce IntOp.andi (andi (cmpi .sge i (broadcastInDim S1 ![] bcast_S_S1 (constantI S_ 32 0#32))) (cmpi .sle i (constantI S1 32 15#32)))
      (constantI S_ 1 1#1) reducesTo_S1_S_d0 h_S_)
    (Host.gather gather_S16_S1_S__n_0_n_n_0_0_1 tab i) (constantI S_ 32 2147483648#32)

/-- The remainder of the sign of the divisor. -/
def remS (x n : IVec S_ 32) : IVec S_ 32 :=
  let d : IVec S_ 32 := select (cmpi .eq n (constantI S_ 32 0#32)) (constantI S_ 32 1#32) n
  let r : IVec S_ 32 := Host.remsi x d
  select (andi (cmpi .ne (cmpi .slt r (constantI S_ 32 0#32)) (cmpi .slt d (constantI S_ 32 0#32))) (cmpi .ne r (constantI S_ 32 0#32))) (addi r d) r

/-- The same for eight at once. -/
def takeV (tab : IVec S16 32) (x : IVec S8 32) : IVec S8 32 :=
  let i : IVec S8x1 32 := broadcastInDim S8x1 ![0] bcast_S8_S8x1_0 (select (cmpi .slt x (broadcastInDim S8 ![] bcast_S_S8 (constantI S_ 32 0#32)))
    (addi x (broadcastInDim S8 ![] bcast_S_S8 (constantI S_ 32 16#32))) x)
  select (Host.reduce IntOp.andi (andi (cmpi .sge i (broadcastInDim S8x1 ![] bcast_S_S8x1 (constantI S_ 32 0#32)))
        (cmpi .sle i (broadcastInDim S8x1 ![0, 1] bcast_S1x1_S8x1_0_1 (broadcastInDim S1x1 ![1] bcast_S1_S1x1_1 (constantI S1 32 15#32)))))
      (constantI S_ 1 1#1) reducesTo_S8x1_S8_d1 h_S_)
    (Host.gather gather_S16_S8x1_S8_n_0_n_n_0_1_1 tab i) (broadcastInDim S8 ![] bcast_S_S8 (constantI S_ 32 2147483648#32))

def remV (x : IVec S8 32) (n : IVec S_ 32) : IVec S8 32 :=
  let d : IVec S_ 32 := select (cmpi .eq n (constantI S_ 32 0#32)) (constantI S_ 32 1#32) n
  let r : IVec S8 32 := Host.remsi x (broadcastInDim S8 ![] bcast_S_S8 d)
  select (andi (cmpi .ne (cmpi .slt r (broadcastInDim S8 ![] bcast_S_S8 (constantI S_ 32 0#32)))
        (broadcastInDim S8 ![] bcast_S_S8 (cmpi .slt d (constantI S_ 32 0#32)))) (cmpi .ne r (broadcastInDim S8 ![] bcast_S_S8 (constantI S_ 32 0#32))))
    (addi r (broadcastInDim S8 ![] bcast_S_S8 d)) r

def tab0 : IVec S16 32 := fun i => lit0 (S16.rowMajor i)
def tab1 : IVec S16 32 := fun i => lit1 (S16.rowMajor i)
def one : IVec S_ 32 := constantI S_ 32 1#32
def sixteen : IVec S_ 32 := constantI S_ 32 16#32

variable (V : Valuation τ sig (Elt F)) (c : Dev nD)

/-- Two words side by side. -/
def pair (a b : IVec S_ 32) : IVec S2 32 :=
  concatenate S2 0 [⟨S1, broadcastInDim S1 ![] bcast_S_S1 a⟩, ⟨S1, broadcastInDim S1 ![] bcast_S_S1 b⟩] concatenates_S1_S1_S2_d0

section
attribute [local irreducible] Host.gather Host.reduce

theorem at1_v4 : StableHlo.after (hostOps0 c) V main_v4 = (Host.remui (Host.divui (constantI S_ 32 (Dev.word c)) one) sixteen : IVec S_ 32) := by
  after_results_simp
  try simp only [StableHlo.TRef.ofBuf_toBuf]
  rfl
theorem at1_c : StableHlo.after (hostOps0 c) V main_c = tab0 := by
  after_results_simp
  try simp only [StableHlo.TRef.ofBuf_toBuf]
  rfl
theorem at1_c_0 : StableHlo.after (hostOps0 c) V main_c_0 = tab1 := by
  after_results_simp
  try simp only [StableHlo.TRef.ofBuf_toBuf]
  rfl
theorem at2_v5 : StableHlo.after hostOps0_1 V main_v5 = takeS (V main_c_0) (V main_v4) := by
  after_results_simp
  try simp only [StableHlo.TRef.ofBuf_toBuf]
  rfl
theorem at3_v6 : StableHlo.after hostOps0_2 V main_v6 = subi (V main_v5) one := by
  after_results_simp
  try simp only [StableHlo.TRef.ofBuf_toBuf]
  rfl
theorem at3_c_4 : StableHlo.after hostOps0_2 V main_c_4 = sixteen := by
  after_results_simp
  try simp only [StableHlo.TRef.ofBuf_toBuf]
  rfl
theorem at4_v7 : StableHlo.after hostOps0_3 V main_v7 = remS (V main_v6) (V main_c_4) := by
  after_results_simp
  try simp only [StableHlo.TRef.ofBuf_toBuf]
  rfl
theorem at5_v8 : StableHlo.after hostOps0_4 V main_v8 = takeS (V main_c) (V main_v7) := by
  after_results_simp
  try simp only [StableHlo.TRef.ofBuf_toBuf]
  rfl
theorem at6_v9 : StableHlo.after hostOps0_5 V main_v9 = addi (V main_v5) one := by
  after_results_simp
  try simp only [StableHlo.TRef.ofBuf_toBuf]
  rfl
theorem at6_c_6 : StableHlo.after hostOps0_5 V main_c_6 = sixteen := by
  after_results_simp
  try simp only [StableHlo.TRef.ofBuf_toBuf]
  rfl
theorem at7_v10 : StableHlo.after hostOps0_6 V main_v10 = remS (V main_v9) (V main_c_6) := by
  after_results_simp
  try simp only [StableHlo.TRef.ofBuf_toBuf]
  rfl
theorem at8_v11 : StableHlo.after hostOps0_7 V main_v11 = takeS (V main_c) (V main_v10) := by
  after_results_simp
  try simp only [StableHlo.TRef.ofBuf_toBuf]
  rfl
theorem at9_v14 : StableHlo.after hostOps0_8 V main_v14 = pair (V main_v8) (V main_v11) := by
  after_results_simp
  try simp only [StableHlo.TRef.ofBuf_toBuf]
  rfl
theorem at9_v18 : StableHlo.after hostOps0_8 V main_v18 = subi (broadcastInDim S8 ![] bcast_S_S8 (subi (V main_v5) one)) (iotaInDim S8 32 0) := by
  after_results_simp
  try simp only [StableHlo.TRef.ofBuf_toBuf]
  rfl
theorem at9_c_8 : StableHlo.after hostOps0_8 V main_c_8 = sixteen := by
  after_results_simp
  try simp only [StableHlo.TRef.ofBuf_toBuf]
  rfl
theorem at10_v19 : StableHlo.after hostOps0_9 V main_v19 = remV (V main_v18) (V main_c_8) := by
  after_results_simp
  try simp only [StableHlo.TRef.ofBuf_toBuf]
  rfl
theorem at11_v20 : StableHlo.after hostOps0_10 V main_v20 = takeV (V main_c) (V main_v19) := by
  after_results_simp
  try simp only [StableHlo.TRef.ofBuf_toBuf]
  rfl
theorem at12_v24 : StableHlo.after hostOps0_11 V main_v24 = addi (broadcastInDim S8 ![] bcast_S_S8 (addi (V main_v5) one)) (iotaInDim S8 32 0) := by
  after_results_simp
  try simp only [StableHlo.TRef.ofBuf_toBuf]
  rfl
theorem at12_c_10 : StableHlo.after hostOps0_11 V main_c_10 = sixteen := by
  after_results_simp
  try simp only [StableHlo.TRef.ofBuf_toBuf]
  rfl
theorem at13_v25 : StableHlo.after hostOps0_12 V main_v25 = remV (V main_v24) (V main_c_10) := by
  after_results_simp
  try simp only [StableHlo.TRef.ofBuf_toBuf]
  rfl
theorem at14_v26 : StableHlo.after hostOps0_13 V main_v26 = takeV (V main_c) (V main_v25) := by
  after_results_simp
  try simp only [StableHlo.TRef.ofBuf_toBuf]
  rfl

end

/-! ## Their values -/

/-- The device's place in the ring. -/
def place (c : Dev nD) : IVec S_ 32 := takeS tab1 (Host.remui (Host.divui (constantI S_ 32 (Dev.word c)) one) sixteen)
/-- A place in the ring. -/
def rank : Dev nD → Dev nD := ![0, 7, 8, 15, 1, 6, 9, 14, 2, 5, 10, 13, 3, 4, 11, 12]

theorem s_ext {n : ℕ} {f g : IVec S_ n} (h : f default = g default) : f = g := by
  funext i; rw [show i = default from funext fun a => a.elim0]; exact h

theorem place_eq (c : Dev nD) : place c = fun _ => wd (rank c) := s_ext (by revert c; decide)

theorem left_eq (c : Dev nD) : takeS tab0 (remS (subi (fun _ => wd (rank c)) one) sixteen) = fun _ => wd (lt c) := s_ext (by revert c; decide)
theorem right_eq (c : Dev nD) : takeS tab0 (remS (addi (fun _ => wd (rank c)) one) sixteen) = fun _ => wd (rt c) := s_ext (by revert c; decide)

/-- An index of the tables. -/
def ix2 (k : Fin 2) : S2.Idx := fun a => ⟨k.val, by fin_cases a; exact k.isLt⟩
def ix8 (k : Fin 8) : S8.Idx := fun a => ⟨k.val, by fin_cases a; exact k.isLt⟩

theorem pair_eq (c : Dev nD) : pair (fun _ => wd (lt c)) (fun _ => wd (rt c)) = nbT c := by
  funext i
  obtain ⟨k, rfl⟩ : ∃ k, i = ix2 k := ⟨i 0, by funext a; fin_cases a; rfl⟩
  revert c k; decide

theorem ocw_eq (c : Dev nD) : takeV tab0 (remV (subi (broadcastInDim S8 ![] bcast_S_S8 (subi (fun _ => wd (rank c)) one)) (iotaInDim S8 32 0)) sixteen) = oT true c := by
  funext i
  obtain ⟨k, rfl⟩ : ∃ k, i = ix8 k := ⟨i 0, by funext a; fin_cases a; rfl⟩
  revert c k; decide

theorem occw_eq (c : Dev nD) : takeV tab0 (remV (addi (broadcastInDim S8 ![] bcast_S_S8 (addi (fun _ => wd (rank c)) one)) (iotaInDim S8 32 0)) sixteen) = oT false c := by
  funext i
  obtain ⟨k, rfl⟩ : ∃ k, i = ix8 k := ⟨i 0, by funext a; fin_cases a; rfl⟩
  revert c k; decide

variable (m : (ℓ : Loc nD τ sig) → Buf (Elt F) ℓ)

theorem place_at (c : Dev nD) : V2 m c main_v5 = (fun _ => wd (rank c) : IVec S_ 32) := by
  rw [← place_eq]
  refine (at2_v5 (V1 m c)).trans ?_
  rw [show V1 m c main_c_0 = tab1 from at1_c_0 (V0 m c) c, show V1 m c main_v4 = _ from at1_v4 (V0 m c) c]
  rfl
theorem left_at (c : Dev nD) : V5 m c main_v8 = (fun _ => wd (lt c) : IVec S_ 32) := by
  rw [← left_eq]
  refine (at5_v8 (V4 m c)).trans ?_
  rw [V4_of m c main_c (by decide), V3_of m c main_c (by decide), V2_of m c main_c (by decide), show V1 m c main_c = tab0 from at1_c (V0 m c) c, show V4 m c main_v7 = _ from at4_v7 (V3 m c),
    show V3 m c main_v6 = _ from at3_v6 (V2 m c), show V3 m c main_c_4 = _ from at3_c_4 (V2 m c), place_at]
theorem right_at (c : Dev nD) : V8 m c main_v11 = (fun _ => wd (rt c) : IVec S_ 32) := by
  rw [← right_eq]
  refine (at8_v11 (V7 m c)).trans ?_
  rw [V7_of m c main_c (by decide), V6_of m c main_c (by decide), V5_of m c main_c (by decide), V4_of m c main_c (by decide), V3_of m c main_c (by decide), V2_of m c main_c (by decide), show V1 m c main_c = tab0 from at1_c (V0 m c) c, show V7 m c main_v10 = _ from at7_v10 (V6 m c),
    show V6 m c main_v9 = _ from at6_v9 (V5 m c), show V6 m c main_c_6 = _ from at6_c_6 (V5 m c), V5_of m c main_v5 (by decide), V4_of m c main_v5 (by decide), V3_of m c main_v5 (by decide), place_at]

/-- The neighbours' table, as the region finds it. -/
theorem nb_at (c : Dev nD) : V14 m c main_v14 = (nbT c : IVec S2 32) := by
  rw [← pair_eq, V14_of m c main_v14 (by decide), V13_of m c main_v14 (by decide), V12_of m c main_v14 (by decide), V11_of m c main_v14 (by decide), V10_of m c main_v14 (by decide)]
  refine (at9_v14 (V8 m c)).trans ?_
  rw [V8_of m c main_v8 (by decide), V7_of m c main_v8 (by decide), V6_of m c main_v8 (by decide), left_at, right_at]
/-- The clockwise table. -/
theorem ocw_at (c : Dev nD) : V14 m c main_v20 = (oT true c : IVec S8 32) := by
  rw [← ocw_eq, V14_of m c main_v20 (by decide), V13_of m c main_v20 (by decide), V12_of m c main_v20 (by decide)]
  refine (at11_v20 (V10 m c)).trans ?_
  rw [V10_of m c main_c (by decide), V9_of m c main_c (by decide), V8_of m c main_c (by decide), V7_of m c main_c (by decide), V6_of m c main_c (by decide), V5_of m c main_c (by decide), V4_of m c main_c (by decide), V3_of m c main_c (by decide), V2_of m c main_c (by decide), show V1 m c main_c = tab0 from at1_c (V0 m c) c, show V10 m c main_v19 = _ from at10_v19 (V9 m c),
    show V9 m c main_v18 = _ from at9_v18 (V8 m c), show V9 m c main_c_8 = _ from at9_c_8 (V8 m c), V8_of m c main_v5 (by decide), V7_of m c main_v5 (by decide), V6_of m c main_v5 (by decide), V5_of m c main_v5 (by decide), V4_of m c main_v5 (by decide), V3_of m c main_v5 (by decide), place_at]
/-- The other way's table. -/
theorem occw_at (c : Dev nD) : V14 m c main_v26 = (oT false c : IVec S8 32) := by
  rw [← occw_eq]
  refine (at14_v26 (V13 m c)).trans ?_
  rw [V13_of m c main_c (by decide), V12_of m c main_c (by decide), V11_of m c main_c (by decide), V10_of m c main_c (by decide), V9_of m c main_c (by decide), V8_of m c main_c (by decide), V7_of m c main_c (by decide), V6_of m c main_c (by decide), V5_of m c main_c (by decide), V4_of m c main_c (by decide), V3_of m c main_c (by decide), V2_of m c main_c (by decide), show V1 m c main_c = tab0 from at1_c (V0 m c) c, show V13 m c main_v25 = _ from at13_v25 (V12 m c),
    show V12 m c main_v24 = _ from at12_v24 (V11 m c), show V12 m c main_c_10 = _ from at12_c_10 (V11 m c), V11_of m c main_v5 (by decide), V10_of m c main_v5 (by decide), V9_of m c main_v5 (by decide), V8_of m c main_v5 (by decide), V7_of m c main_v5 (by decide), V6_of m c main_v5 (by decide), V5_of m c main_v5 (by decide), V4_of m c main_v5 (by decide), V3_of m c main_v5 (by decide), place_at]
theorem arg0_at (c : Dev nD) : V14 m c main_arg0 = m ((c : Thread nD τ).loc main_arg0) := by
  rw [V14_of m c main_arg0 (by decide), V13_of m c main_arg0 (by decide), V12_of m c main_arg0 (by decide), V11_of m c main_arg0 (by decide), V10_of m c main_arg0 (by decide), V9_of m c main_arg0 (by decide), V8_of m c main_arg0 (by decide), V7_of m c main_arg0 (by decide), V6_of m c main_arg0 (by decide), V5_of m c main_arg0 (by decide), V4_of m c main_arg0 (by decide), V3_of m c main_arg0 (by decide), V2_of m c main_arg0 (by decide), V1_of m c main_arg0 (by decide)]
theorem arg1_at (c : Dev nD) : V14 m c main_arg1 = m ((c : Thread nD τ).loc main_arg1) := by
  rw [V14_of m c main_arg1 (by decide), V13_of m c main_arg1 (by decide), V12_of m c main_arg1 (by decide), V11_of m c main_arg1 (by decide), V10_of m c main_arg1 (by decide), V9_of m c main_arg1 (by decide), V8_of m c main_arg1 (by decide), V7_of m c main_arg1 (by decide), V6_of m c main_arg1 (by decide), V5_of m c main_arg1 (by decide), V4_of m c main_arg1 (by decide), V3_of m c main_arg1 (by decide), V2_of m c main_arg1 (by decide), V1_of m c main_arg1 (by decide)]

end Cert.KernelIdeal.Ring

end
-- ==== Proof.KernelIdealRegion.lean ====
/- The kernel as a region of the program: its windows, its body, what enters and leaves. -/
module

public import proofs.«01_k».proof.Proof.KernelIdealFund
public import proofs.«01_k».proof.Proof.KernelIdealTables
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The operands as the region finds them, the result as it leaves it -/

abbrev Xm (c : Dev nD) : S256x4096.Idx → Elt F .f32 := m ((c : Thread nD τ).loc main_arg0)
abbrev Wm (c : Dev nD) : S4096x128.Idx → Elt F .f32 := m ((c : Thread nD τ).loc main_arg1)

/-- What the region leaves of its result. -/
def outs : Outs (F := F) := fun _ r c => if h : r = main_v27 then h ▸ G (Xm m) (Wm m) c else m ((c : Thread nD τ).loc r)

theorem outs_res (c : Dev nD) : outs m 15 main_v27 c = G (Xm m) (Wm m) c := by unfold outs; rw [dif_pos rfl]

theorem V15_res (c : Dev nD) : V15 m (outs m) c main_v27 = G (Xm m) (Wm m) c :=
  (Function.update_self (α := DevRef τ sig) _ _ _).trans (outs_res m c)

theorem V15_rest (c : Dev nD) (b : DevRef τ sig) (h : b ≠ Proc.devRef .tc main_v27) : V15 m (outs m) c b = V14 m c b :=
  Function.update_of_ne h _ _

/-! ## The region's data -/

/-- Before the kernel. -/
def P0 (c : Dev nD) : sProp 𝕄 :=
  iprop((∃ K ι, recs (Xm m) K ι ∗ Ini c) ∗ Pipeline.scopedRest spec0 c ∗ ∃ r, prngReg c r)
/-- After it. -/
def P1 (c : Dev nD) : sProp 𝕄 := iprop(Zero c ∗ Pipeline.scopedRest spec0 c ∗ ∃ r, prngReg c r)

def datR (c : Dev nD) : Pipeline.Dat τ (Elt F) ℕ ℕ UU ℕ cfg0 c where
  A w := V14 m c (Proc.devRef .tc (Pipeline.arrRef spec0 w))
  after w _ := match w with
    | ⟨0, _⟩ => Xm m c
    | ⟨1, _⟩ => Wm m c
    | ⟨2, _⟩ => (nbT c : S2.Idx → Elt F .i32)
    | ⟨3, _⟩ => (oT true c : S8.Idx → Elt F .i32)
    | ⟨4, _⟩ => (oT false c : S8.Idx → Elt F .i32)
    | ⟨5, _⟩ => G (Xm m) (Wm m) c
  Φ t := match t with
    | ⟨0, _⟩ => P0 m c
    | ⟨_ + 1, _⟩ => P1 c
  q _ := fullShare
  owed t := match t with
    | ⟨0, _⟩ => O₀ c
    | ⟨_ + 1, _⟩ => 0

def datsR : (p : Fin 1) → (c : Dev nD) → Pipeline.Dat τ (Elt F) ℕ ℕ UU ℕ (cfgs p) c
  | ⟨0, _⟩ => datR m

theorem owns_whole_eq (c : Dev nD) (b : Ref sig .tc) (Y : b.ty.Contents (Elt F)) :
    (owns (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-! ### What the fetched windows hold -/

theorem whole_row {n : ℕ} (k : ℕ) (i : Fin n) : 0 * k + i.val = i.val := by omega

theorem before0 (c : Dev nD) (d) : (datR m c).before (0 : Fin 6) t0_0 d = Xm m c := by
  unfold Pipeline.Dat.before; rw [if_pos (fetch0_0 t0_0)]
  refine Eq.trans (?_ : _ = V14 m c main_arg0) (arg0_at m c)
  refine funext fun i => congrArg (V14 m c main_arg0) (funext fun a => Fin.ext ?_)
  blk_simp; exact whole_row _ (i a)
theorem before1 (c : Dev nD) (d) : (datR m c).before (1 : Fin 6) t0_0 d = Wm m c := by
  unfold Pipeline.Dat.before; rw [if_pos (fetch0_1 t0_0)]
  refine Eq.trans (?_ : _ = V14 m c main_arg1) (arg1_at m c)
  refine funext fun i => congrArg (V14 m c main_arg1) (funext fun a => Fin.ext ?_)
  blk_simp; exact whole_row _ (i a)
theorem before2 (c : Dev nD) (d) : (datR m c).before (2 : Fin 6) t0_0 d = (nbT c : S2.Idx → Elt F .i32) := by
  unfold Pipeline.Dat.before; rw [if_pos (fetch0_2 t0_0)]
  refine Eq.trans (?_ : _ = V14 m c main_v14) (nb_at m c)
  refine funext fun i => congrArg (V14 m c main_v14) (funext fun a => Fin.ext ?_)
  blk_simp; exact whole_row _ (i a)
theorem before3 (c : Dev nD) (d) : (datR m c).before (3 : Fin 6) t0_0 d = (oT true c : S8.Idx → Elt F .i32) := by
  unfold Pipeline.Dat.before; rw [if_pos (fetch0_3 t0_0)]
  refine Eq.trans (?_ : _ = V14 m c main_v20) (ocw_at m c)
  refine funext fun i => congrArg (V14 m c main_v20) (funext fun a => Fin.ext ?_)
  blk_simp; exact whole_row _ (i a)
theorem before4 (c : Dev nD) (d) : (datR m c).before (4 : Fin 6) t0_0 d = (oT false c : S8.Idx → Elt F .i32) := by
  unfold Pipeline.Dat.before; rw [if_pos (fetch0_4 t0_0)]
  refine Eq.trans (?_ : _ = V14 m c main_v26) (occw_at m c)
  refine funext fun i => congrArg (V14 m c main_v26) (funext fun a => Fin.ext ?_)
  blk_simp; exact whole_row _ (i a)

/-! ### The arrays before and after -/

theorem arrIn (c : Dev nD) (w : Fin cfg0.W) : (datR m c).arrAt w 0 = V14 m c (Proc.devRef .tc (Pipeline.arrRef spec0 w)) := rfl

theorem arrOut5 (c : Dev nD) : (datR m c).arrAt (5 : Fin 6) cfg0.N = G (Xm m) (Wm m) c :=
  (datR m c).arrAt_eq_of_after_last (5 : Fin 6) t0_0 (by decide +kernel) _ (fun j => by blk_simp; rfl)

theorem arrOut_in (c : Dev nD) (w : Fin cfg0.W) (hi : (cfg0.win w).isOut = false) (h : Proc.devRef .tc (Pipeline.arrRef spec0 w) ≠ Proc.devRef (τ := τ) .tc main_v27) :
    (datR m c).arrAt w cfg0.N = V15 m (outs m) c (Proc.devRef .tc (Pipeline.arrRef spec0 w)) :=
  ((datR m c).arrAt_in w hi _).trans (V15_rest m c _ h).symm

theorem arrOut (c : Dev nD) (w : Fin cfg0.W) : (datR m c).arrAt w cfg0.N = V15 m (outs m) c (Proc.devRef .tc (Pipeline.arrRef spec0 w)) := by
  by_cases h : w = (5 : Fin 6)
  · subst h; exact (arrOut5 m c).trans (V15_res m c).symm
  · exact arrOut_in m c w ((by decide : ∀ w : Fin 6, w ≠ 5 → (win0 w).isOut = false) w h)
      ((by decide : ∀ w : Fin 6, w ≠ 5 → Proc.devRef .tc (Pipeline.arrRef spec0 w) ≠ Proc.devRef (τ := τ) .tc main_v27) w h)

/-! ### The body -/

theorem two_bufs (c : Dev nD) : (Pipeline.scopedRest spec0 c : sProp 𝕄) = iprop(bany true c Finset.univ ∗ bany false c Finset.univ) := by
  rw [scopedRest0_eq]; rfl

theorem body_prog : defs₀ (F := F) .tc cfg0.body (cfg0.bodyArgs t0_0 (cfg0.slots t0_0)) = (onArgs (cc0_body (F := F)) :) := rfl

/-- The staged buffers before the kernel, -/
def Stg0 (c : Dev nD) : sProp 𝕄 := iprop((∃ d, owns (c : Thread nD τ) (Memref.whole cc0_stg0_0) fullShare ((datR m c).before (0 : Fin 6) t0_0 d)) ∗ (∃ d, owns (c : Thread nD τ) (Memref.whole cc0_stg1_0) fullShare ((datR m c).before (1 : Fin 6) t0_0 d)) ∗ (∃ d, owns (c : Thread nD τ) (Memref.whole cc0_stg2_0) fullShare ((datR m c).before (2 : Fin 6) t0_0 d)) ∗ (∃ d, owns (c : Thread nD τ) (Memref.whole cc0_stg3_0) fullShare ((datR m c).before (3 : Fin 6) t0_0 d)) ∗ (∃ d, owns (c : Thread nD τ) (Memref.whole cc0_stg4_0) fullShare ((datR m c).before (4 : Fin 6) t0_0 d)) ∗ (∃ d, owns (c : Thread nD τ) (Memref.whole cc0_stg5_0) fullShare ((datR m c).before (5 : Fin 6) t0_0 d)))
/-- and after it. -/
def Stg1 (c : Dev nD) : sProp 𝕄 := iprop(owns (c : Thread nD τ) (Memref.whole cc0_stg0_0) fullShare (Xm m c) ∗ owns (c : Thread nD τ) (Memref.whole cc0_stg1_0) fullShare (Wm m c) ∗ owns (c : Thread nD τ) (Memref.whole cc0_stg2_0) fullShare ((nbT c : S2.Idx → Elt F .i32)) ∗ owns (c : Thread nD τ) (Memref.whole cc0_stg3_0) fullShare ((oT true c : S8.Idx → Elt F .i32)) ∗ owns (c : Thread nD τ) (Memref.whole cc0_stg4_0) fullShare ((oT false c : S8.Idx → Elt F .i32)) ∗ owns (c : Thread nD τ) (Memref.whole cc0_stg5_0) fullShare (G (Xm m) (Wm m) c))

theorem phi0 (c : Dev nD) : (datR m c).Φ t0_0.castSucc = P0 m c := rfl
theorem phi1 (c : Dev nD) : (datR m c).Φ t0_0.succ = P1 c := rfl
theorem x_whole (c : Dev nD) : (((c : Thread nD τ).loc cc0_stg0_0 ↦{fullShare} Xm m c) : sProp 𝕄) = xpts (Xm m) c fullShare := by
  show _ = (((c : Thread nD τ).loc cc0_stg0_0 ↦[(View.whole cc0_stg0_0).set]{fullShare} Xm m c) : sProp 𝕄); rw [View.set_whole]
theorem stg0 (c : Dev nD) : (bigSep Finset.univ fun w : Fin cfg0.W => iprop(∃ d, owns (c : Thread nD τ) ((cfg0.win w).stage (cfg0.slots t0_0 w)) fullShare ((datR m c).before w t0_0 d)) : sProp 𝕄) = Stg0 m c :=
  (bigSep_W0 _).trans rfl
theorem stg1 (c : Dev nD) : (bigSep Finset.univ fun w : Fin cfg0.W => owns (c : Thread nD τ) ((cfg0.win w).stage (cfg0.slots t0_0 w)) fullShare ((datR m c).after w t0_0) : sProp 𝕄) = Stg1 m c :=
  (bigSep_W0 _).trans rfl
theorem body_wp (c : Dev nD) : iprop(P0 m c ∗ (datR m c).owesAt 0 t0_0.castSucc ∗ Stg0 m c)
    ⊢ run c ((onArgs (cc0_body (F := F)) :)) (fun _ => iprop(P1 c ∗ (datR m c).owesAt 0 t0_0.succ ∗ Stg1 m c)) := by
  unfold P0 P1 Pipeline.Dat.owesAt Pipeline.owesWithin Stg0 Stg1
  rw [two_bufs]
  simp only [owns_whole_eq, before0 m c, before1 m c, before2 m c, before3 m c, before4 m c]
  iintro ⟨⟨⟨%K, %ι, #HR, HI⟩, ⟨HT, HF⟩, Hp⟩, ⟨%Wt, -, HO⟩, ⟨%d0, %f0, %h0, H0⟩, ⟨%d1, %f1, %h1, H1⟩, ⟨%d2, %f2, %h2, H2⟩, ⟨%d3, %f3, %h3, H3⟩, ⟨%d4, %f4, %h4, H4⟩, %d5, %f5, -, H5⟩
  subst h0 h1 h2 h3 h4
  iapply (body_run (Xm m) (Wm m) K ι c) $$ [HI HT HF HO H0 H1 H2 H3 H4 H5]
  · isplitr; · iexact HR
    isplitl [HI]; · iexact HI
    isplitr [HO]
    · unfold Bufs Tab wpts
      isplitl [HT]; · iexact HT
      isplitl [HF]; · iexact HF
      isplitl [H0]; · iapply (Entails.of_eq (x_whole m c)); iexact H0
      isplitr [H5]
      · isplitl [H2]; · iexact H2
        isplitl [H3]; · iexact H3
        isplitl [H4]; · iexact H4
        iexact H1
      iexists f5; iexact H5
    iexists Wt; iexact HO
  unfold Bufs' Tab wpts
  iintro ⟨HZ, ⟨HT, HF, H0, ⟨H2, H3, H4, H1⟩, H5⟩, ⟨%Wu, HO⟩⟩
  isplitl [HZ HT HF Hp]
  · isplitl [HZ]; · iexact HZ
    isplitl [HT HF]
    · isplitl [HT] <;> iassumption
    iexact Hp
  isplitl [HO]
  · iexists Wu; isplitr
    · ipureintro; exact fun _ _ => Or.inl trivial
    iexact HO
  isplitl [H0]; · iexists _; isplitr; · ipureintro; rfl
                  iapply (Entails.of_eq (x_whole m c).symm); iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  iexists _; isplitr; · ipureintro; rfl
  iexact H5

theorem idle0 (w : Fin cfg0.W) : cfg0.idle w (cfg0.grid.coords t0_0) = false := rfl

set_option maxRecDepth 8000 in
theorem body_ok (c : Dev nD) : Pipeline.BodyObligation (datR m c) (defs₀ (F := F)) 𝒱₀ 0 Set.univ := fun t => by
  rw [fin_N0 t, body_prog]
  simp only [idle0]
  rw [phi0, phi1, stg0, stg1]
  have h := body_wp m c
  unfold run at h
  dsimp only [onArgs] at h ⊢
  exact h

/-! ## What enters the region and what leaves it -/

/-- What the launch gives device `c` for the region. -/
def Tk (c : Dev nD) : sProp 𝕄 := iprop(∃ K ι, recs (Xm m) K ι ∗ Raws c)
/-- The same, the kernel's own counters opened. -/
def Xk (c : Dev nD) : sProp 𝕄 := iprop(∃ K ι, recs (Xm m) K ι ∗ Ini c)
/-- The barrier's counter, at zero. -/
def Yk (c : Dev nD) : sProp 𝕄 := semVal (barCell c) 0

theorem tk_open (c : Dev nD) : iprop(Tk m c ∗ Pipeline.ownSems0 osem c ∗ levAts L lv) ⊢ (|={Set.univ}=> Xk m c : sProp 𝕄) := by
  unfold Tk Xk
  iintro ⟨⟨%K, %ι, #HR, HI⟩, Hs, -⟩
  imod (ini_open (Xm m) K ι c) $$ [HI Hs] with H
  · isplitr; · iexact HR
    isplitl [HI] <;> iassumption
  imodintro
  iexists K, ι
  isplitr; · iexact HR
  iexact H

theorem enter (c : Dev nD) : iprop(Pipeline.scopedRest spec0 c ∗ (∃ r, prngReg c r) ∗ StableHlo.held (c.tc : Thread nD τ) ∅ (V14 m c) ∗ Xk m c) ⊢ (datR m c).Φ 0 := by
  show _ ⊢ P0 m c
  unfold P0 Xk
  iintro ⟨Hs, Hp, -, HX⟩
  isplitl [HX]; · iexact HX
  isplitl [Hs] <;> iassumption

theorem leave (c : Dev nD) : (datR m c).Φ (Fin.last cfg0.N)
    ⊢ iprop(Pipeline.scopedRest spec0 c ∗ (∃ r, prngReg c r) ∗ StableHlo.held (c.tc : Thread nD τ) ∅ (V15 m (outs m) c) ∗ Pipeline.ownSems0 osem c ∗ Yk c) := by
  show P1 c ⊢ _
  unfold P1 Zero Yk StableHlo.held
  rw [bigSep_empty]
  iintro ⟨⟨HB, HS⟩, Hr, Hp⟩
  isplitl [Hr]; · iexact Hr
  isplitl [Hp]; · iexact Hp
  isplitr; · iempintro
  isplitl [HS]
  · iapply (sems_own c); iexact HS
  iexact HB

theorem start_owed {c : Dev nD} {g : GSem nD τ sig} {i : ℕ} (h : 0 < O₀ c g i) : i ∈ L g ∧ 0 < lv g i := by
  unfold O₀ at h
  simp only [Pi.add_apply, Finsupp.add_apply] at h
  have bar : ∀ d : Dev nD, 0 < (tallyAt (barCell d) 0 1 : CellTallies nD τ sig ℕ) g i → i ∈ L g ∧ 0 < lv g i := fun d h => by
    rw [tallyAt_apply] at h
    split at h
    · next hg => obtain ⟨rfl, rfl⟩ := hg; exact ⟨by rw [L_tc]; decide, by rw [lv_bar]; decide⟩
    · exact absurd h (Nat.lt_irrefl 0)
  rcases Nat.add_pos_iff_pos_or_pos.mp h with h | h
  · rcases Nat.add_pos_iff_pos_or_pos.mp h with h | h
    · rcases Nat.add_pos_iff_pos_or_pos.mp h with h | h
      · exact ⟨Odir_L h, Odir_above (by omega) (.inl (by omega)) h⟩
      · exact ⟨Odir_L h, Odir_above (by omega) (.inl (by omega)) h⟩
    · exact bar _ h
  · exact bar _ h

theorem stage_level (c : Dev nD) (w : Fin cfg0.W) (s : Fin (cfg0.win w).nbuf) :
    lv ((c : Thread nD τ), .dma ((cfg0.win w).sem s)) 0 ≤ 0 := by
  revert c s w; decide

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut0 : Pipeline.LevelCutOwed (pcfgs (F := F)) adm (datsR m) 0 L lv 0 (fun _ => 0) where
  hι c w s := by rw [L_tc]; decide
  hιb c w s := stage_level c w s
  hD c t g i h := by
    obtain ⟨_ | n, ht⟩ := t
    · exact start_owed h
    · exact absurd h (Nat.lt_irrefl 0)

/-- The buffers no window names. -/
abbrev Sr : Finset (DevRef τ sig) := Pipeline.ucRefs τ sig \ Pipeline.arrRefs spec0

set_option backward.isDefEq.respectTransparency.types false in
def reg0 : Pipeline.RegionSeg (pcfgs (F := F)) adm (datsR m) 0 defs₀ 𝒱₀ L lv 0 :=
  Pipeline.RegionSeg.ofTalk (pcfgs (F := F)) adm (datsR m) 0 defs₀ 𝒱₀ L lv 0 osem (by decide : Pipeline.OwnSemFacts spec0 osem)
    ∅ Sr (Finset.empty_subset _) kit0 rfl (fun c => (body_ok m c).loose)
    (fun _ => 0) O₀ (fun c => (zero_add (O₀ c)).symm) (fun _ => rfl) (fun _ => rfl) (fun c w => by unfold Pipeline.Dat.share; split <;> rfl)
    (fun c => V14 m c) (fun c => V15 m (outs m) c)
    (fun c b hb => V15_rest m c b fun e => (Finset.mem_sdiff.mp (Finset.mem_sdiff.mp hb).1).2 (e ▸ (by decide)))
    (Tk m) Yk (Xk m) Yk (tk_open m) (enter m) (leave m)
    (fun c => by iintro H; imodintro; iexact H)
    (fun _ => 0) (cut0 m) (fun _ => iprop(emp)) (arrIn m) (arrOut m)

end Cert.KernelIdeal.Ring

end
-- ==== Proof.KernelIdealLaunch.lean ====
/- The run of the whole program from any memory. -/
module

public import proofs.«01_k».proof.Proof.KernelIdealRegion
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## What the launch hands out -/

/-- The schedules and the once-only records, all of them, on the first device. -/
def Gho (c : Dev nD) : sProp 𝕄 :=
  if c = 0 then iprop(BI.own (ER (launchOf barCells scCells allToks)) ∗ BI.own (EL (Release.initSlots keys 1))) else iprop(emp)

theorem gho_all : bigSep Finset.univ (Gho (F := F))
    = (iprop(BI.own (ER (launchOf barCells scCells allToks)) ∗ BI.own (EL (Release.initSlots keys 1))) : sProp 𝕄) := by
  rw [bigSep_univ_at _ (0 : Dev nD), bigSep_congr (s := Finset.univ.erase (0 : Dev nD)) (Ψ := fun _ => (BI.emp : sProp 𝕄))
    fun c hc => by unfold Gho; rw [if_neg (Finset.ne_of_mem_erase hc)]; rfl, BI.bigSep_emp_const]
  unfold Gho; rw [if_pos rfl]
  exact BI.equiv_iff.mp sep_emp

/-- The rest beside the buffers: before the region and after it. -/
def E2 : Fin 2 → Dev nD → sProp 𝕄
  | 0, c => iprop(Tk m c ∗ (∃ r, prngReg c r) ∗ ∃ Wd, owes (c : Thread nD τ) (O₀ c) Wd)
  | 1, c => iprop((∃ r, prngReg c r) ∗ Yk c ∗ ∃ Wd, owes (c : Thread nD τ) (0 : CellTallies nD τ sig ℕ) Wd)

theorem bar_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem launch_rest : iprop((bigSep Finset.univ fun c : Dev nD => iprop(unscopedSems0 c ∗ owes (c : Thread nD τ) (O₀ c) ∅ ∗ Pipeline.launchCred O₀ c ∗ prngReg c (ρ c) ∗ Gho c)) ∗ levAts L lv)
    ⊢ (|={Set.univ}=> bigSep Finset.univ (E2 m 0) : sProp 𝕄) := by
  have hv : (unscopedSems0 : Dev nD → sProp 𝕄) = fun c => semVal (barCell c) 0 := funext bar_sems
  have he : (E2 m 0 : Dev nD → sProp 𝕄) = fun c => iprop(Tk m c ∗ (∃ r, prngReg c r) ∗ ∃ Wd, owes (c : Thread nD τ) (O₀ c) Wd) := rfl
  have hp : bigSep Finset.univ (fun c : Dev nD => (prngReg c (ρ c) : sProp 𝕄)) ⊢ bigSep Finset.univ (fun c : Dev nD => (iprop(∃ r, prngReg c r) : sProp 𝕄)) :=
    bigSep_mono fun c _ => (show (prngReg c (ρ c) : sProp 𝕄) ⊢ iprop(∃ r, prngReg c r) from by iintro H; iexists _; iexact H)
  have ho : bigSep Finset.univ (fun c : Dev nD => (owes (c : Thread nD τ) (O₀ c) ∅ : sProp 𝕄)) ⊢ bigSep Finset.univ (fun c : Dev nD => (iprop(∃ Wd, owes (c : Thread nD τ) (O₀ c) Wd) : sProp 𝕄)) :=
    bigSep_mono fun c _ => (show (owes (c : Thread nD τ) (O₀ c) ∅ : sProp 𝕄) ⊢ iprop(∃ Wd, owes (c : Thread nD τ) (O₀ c) Wd) from by iintro H; iexists _; iexact H)
  rw [he, bigSep_sep', bigSep_sep', bigSep_sep', bigSep_sep', bigSep_sep', bigSep_sep', hv, gho_all]
  iintro ⟨⟨Hv, HO, HC, Hp, HE, HL⟩, Hlev⟩
  imod (fund_all (Xm m)) $$ [Hv HC HE HL Hlev] with H
  · isplitl [Hv]; · iexact Hv
    isplitl [HC]; · iexact HC
    isplitl [HE]; · iexact HE
    isplitl [HL] <;> iassumption
  imodintro
  isplitl [H]; · unfold Tk; iexact H
  isplitl [Hp]; · iapply hp; iexact Hp
  iapply ho; iexact HO

/-! ## Into the region and out of it -/

theorem arrs_sub : Pipeline.arrRefs spec0 ⊆ Pipeline.ucRefs τ sig := by decide

theorem into_region (c : Dev nD) : iprop(StableHlo.held (c : Thread nD τ) (Pipeline.ucRefs τ sig) (V14 m c) ∗ E2 m 0 c) ⊢ (reg0 m).pre c := by
  show _ ⊢ iprop(StableHlo.held (c.tc : Thread nD τ) (Pipeline.arrRefs spec0) (V14 m c) ∗ (∃ r, prngReg c r)
    ∗ (StableHlo.held (c.tc : Thread nD τ) Sr (V14 m c) ∗ emp) ∗ Tk m c ∗ ∃ Wd, owes (c : Thread nD τ) (0 + O₀ c) Wd)
  rw [StableHlo.held_sub_split (c : Thread nD τ) arrs_sub (V14 m c), zero_add]
  unfold E2
  iintro ⟨⟨HA, HS⟩, HT, Hp, HO⟩
  isplitl [HA]; · iexact HA
  isplitl [Hp]; · iexact Hp
  isplitl [HS]
  · isplitl [HS]; · iexact HS
    iempintro
  isplitl [HT] <;> iassumption

theorem from_region (c : Dev nD) : (reg0 m).post c ⊢ iprop(StableHlo.held (c : Thread nD τ) (Pipeline.ucRefs τ sig) (V15 m (outs m) c) ∗ E2 m 1 c) := by
  show iprop(StableHlo.held (c.tc : Thread nD τ) (Pipeline.arrRefs spec0) (V15 m (outs m) c) ∗ (∃ r, prngReg c r)
    ∗ (StableHlo.held (c.tc : Thread nD τ) Sr (V15 m (outs m) c) ∗ emp) ∗ Yk c ∗ ∃ Wd, owes (c : Thread nD τ) (0 : CellTallies nD τ sig ℕ) Wd) ⊢ _
  rw [StableHlo.held_sub_split (c : Thread nD τ) arrs_sub (V15 m (outs m) c)]
  unfold E2
  iintro ⟨HA, Hp, ⟨HS, -⟩, HY, HO⟩
  isplitl [HA HS]
  · isplitl [HA] <;> iassumption
  isplitl [Hp]; · iexact Hp
  isplitl [HY] <;> iassumption

/-! ## The run -/

def u₀ : UU := (initOf (Pipeline.cells cfgs cellOf_inj) (Pipeline.launchToks cfgs cellOf_inj), (launchOf barCells scCells allToks, Release.initSlots keys 1))

theorem launch_split : (ownU u₀ : sProp 𝕄)
    ⊢ |={Set.univ}=> iprop(BI.own (EP (initOf (Pipeline.cells cfgs cellOf_inj) (Pipeline.launchToks cfgs cellOf_inj))) ∗ bigSep Finset.univ (Gho (F := F))) := by
  unfold u₀
  rw [gho_all]
  iintro Hu
  ihave ⟨HP, HX⟩ := (ownU_pair _ _) $$ Hu
  imodintro
  isplitl [HP]; · iexact HP
  iapply (show BI.own (embR (launchOf barCells scCells allToks, Release.initSlots keys 1)) ⊢ (iprop(BI.own (ER (launchOf barCells scCells allToks)) ∗ BI.own (EL (Release.initSlots keys 1))) : sProp 𝕄) from own_pair_emb (A := UT) (B := US) (embR : Emb (UT × US) 𝕄) (launchOf barCells scCells allToks) (Release.initSlots keys 1))
  iexact HX

theorem buf_mem (b : Ref sig .tc) (h : Proc.devRef (τ := τ) .tc b ∈ Pipeline.ucRefs τ sig) : Proc.devRef (τ := τ) .tc b ∈ Pipeline.ucRefs τ sig := h

theorem unscoped_bar : ∀ sm : SemLoc sig, sm.isScoped .tc = false → sm = .reg barrier0 := by decide

/-- What every device's memory holds at the end. -/
def End (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v27) = G (Xm m) (Wm m) c) ∧ s.sem (barCell c) = 0

theorem read_end (c : Dev nD) (s' : Phys nD τ sig (Elt F)) :
    iprop((StableHlo.held (c : Thread nD τ) (Pipeline.ucRefs τ sig) (V15 m (outs m) c) ∗ Yk c) ∗ SI s') ⊢ (|={Set.univ}=> iprop(⌜End m c s'.mem⌝ ∗ SI s') : sProp 𝕄) := by
  unfold StableHlo.held Yk
  iintro ⟨⟨Hh, Hb⟩, HSI⟩
  icombine HSI Hb gives %hb
  ihave Hr := (pointsTo_read_all (Pipeline.ucRefs τ sig) (fun b => ((c : Thread nD τ).1, b)) (V15 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V15_main_arg0 m (outs m) c),
      (h (Proc.devRef .tc main_arg1) (Finset.mem_filter.mpr ⟨StableHlo.devRef_mem_tcRefs main_arg1, by decide⟩)).trans (V15_main_arg1 m (outs m) c),
      (h (Proc.devRef .tc main_v27) (Finset.mem_filter.mpr ⟨StableHlo.devRef_mem_tcRefs main_v27, by decide⟩)).trans (V15_res m c)⟩, by simpa using hb⟩
  · iexact HSI

theorem split_bufs : (bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ Gho c))
    ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (O₀ c) ∅ ∗ Pipeline.launchCred O₀ c ∗ prngReg c (ρ c) ∗ Gho c)) : sProp 𝕄) := by
  rw [← bigSep_sep']
  exact bigSep_mono fun c _ => by rw [← Pipeline.unscopedBufs_held (Ix := ℕ) (Name := ℕ) (U := UU) (Lvl := ℕ) c (V0 m c)]; exact BI.Entails.refl _

/-- Every execution terminates, the arguments unchanged, every counter zero and every device's result in place. -/
theorem runs : θ_run (defs (F := F)) (onTc (τ := τ) (main (F := F))) ⟨m, fun _ => 0, ρ⟩ (fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v27) = G (Xm m) (Wm m) c) ∧ r.2.sem = fun _ => 0) := by
  refine Pipeline.θ_run_regions_kit_dev_sems (pcfgs (F := F)) adm (datsR m) 0 cellOf_inj EP defs₀ 𝒱₀ L lv m ρ main
    (segs m 𝒱₀ L lv (E2 m) 0 (datsR m) (reg0 m))
    (fun c Q => by
      rewrite [main_chain c, Pipeline.Seg.run_eq_chain,
        show (segs m 𝒱₀ L lv (E2 m) 0 (datsR m) (reg0 m) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne Gho u₀ launch_split
    (T₀ := fun c => iprop(StableHlo.held (c : Thread nD τ) (Pipeline.ucRefs τ sig) (V0 m c) ∗ E2 m 0 c))
    (Tₙ := fun c => iprop(StableHlo.held (c : Thread nD τ) (Pipeline.ucRefs τ sig) (V15 m (outs m) c) ∗ Yk c))
    (hch := fun c => ⟨.rfl, .rfl, .rfl, .rfl, .rfl, .rfl, .rfl, .rfl, .rfl, .rfl, .rfl, .rfl, .rfl, .rfl, into_region m c, (from_region m c).trans ?_⟩)
    (hinit := ?_) (QY := End m) (hfin := read_end m)
    (hQ := fun s h hs => ⟨fun c => (h c).1, sem_eq_zero hs fun c sm hsm => by obtain rfl := unscoped_bar sm hsm; exact (h c).2⟩)
  · unfold E2
    iintro ⟨Hh, -, HY, HO⟩
    isplitr [HO]
    · isplitl [Hh] <;> iassumption
    iexact HO
  · iintro ⟨H, Hla⟩
    ihave ⟨Hh, Hr⟩ := (split_bufs m ρ) $$ H
    imod (launch_rest m ρ) $$ [Hr Hla] with HE
    · isplitl [Hr] <;> iassumption
    imodintro
    rw [bigSep_sep']
    isplitl [Hh] <;> iassumption

end Cert.KernelIdeal.Ring

end
-- ==== Proof.KernelIdealValue.lean ====
/- The value: at the ideal instance the kernel's result is its part of the whole arrays' product, negatives cut to zero. -/
module

public import proofs.«01_k».proof.Proof.KernelIdealLaunch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Whole

open Cert.KernelIdeal Cert.KernelIdeal.Gen
open Cert.KernelIdeal.Ring hiding ix2
open Idealize.ShloMosaic Idealize.ShloMosaic.TcCoe Idealize.ShloMosaic.ValueIdx Idealize.ShloMosaic.StackMember

/-- One element of the result: row `p` of the row operand with column `q` of the weights, a negative sum cut to zero. -/
def cell {M N : ℕ} (x : (⟨2, ![M, 4096]⟩ : Shape).Idx → EReal) (w : (⟨2, ![4096, N]⟩ : Shape).Idx → EReal)
    (p : Fin M) (q : Fin N) : Ideal .f32 :=
  FloatOps.maximumf (F := Ideal) (φ := .f32) (∑ k : Fin 4096, x (ix2 p k) * w (ix2 k q)) (Ideal.ofBits .f32 0x00000000#32)

theorem rowIdx_eq {n j : ℕ} (hj : j < n) (q : Fin 128) : rowIdx j hj q = ix2 ⟨j, hj⟩ q :=
  eq_ix2 _

theorem g256_cell (x : S256x4096.Idx → Elt Ideal .f32) (w : S4096x128.Idx → Elt Ideal .f32) {j : ℕ} (hj : j < 256) (q : Fin 128) :
    g256 (F := Ideal) x w (rowIdx j hj q) = cell (M := 256) (N := 128) x w ⟨j, hj⟩ q := by
  rw [rowIdx_eq]
  refine congrArg (fun s => FloatOps.maximumf (F := Ideal) (φ := .f32) s (Ideal.ofBits .f32 0x00000000#32)) ?_
  refine (Ideal.matmul_plain_apply (M := 256) (K := 4096) (N := 128) (φ₁ := .f32) (φ₂ := .f32) none x w _ ⟨j, hj⟩ q).trans ?_
  show Ideal.ofBits .f32 0x00000000#32 + _ = _
  rw [Ideal.ofBits_zero_f32, zero_add]

theorem g128_cell (x : S128x4096.Idx → Elt Ideal .f32) (w : S4096x128.Idx → Elt Ideal .f32) {j : ℕ} (hj : j < 128) (q : Fin 128) :
    g128 (F := Ideal) x w (rowIdx j hj q) = cell (M := 128) (N := 128) x w ⟨j, hj⟩ q := by
  rw [rowIdx_eq]
  refine congrArg (fun s => FloatOps.maximumf (F := Ideal) (φ := .f32) s (Ideal.ofBits .f32 0x00000000#32)) ?_
  refine (Ideal.matmul_plain_apply (M := 128) (K := 4096) (N := 128) (φ₁ := .f32) (φ₂ := .f32) none x w _ ⟨j, hj⟩ q).trans ?_
  show Ideal.ofBits .f32 0x00000000#32 + _ = _
  rw [Ideal.ofBits_zero_f32, zero_add]

theorem cell_congr {M M' N N' : ℕ} {x : (⟨2, ![M, 4096]⟩ : Shape).Idx → EReal} {x' : (⟨2, ![M', 4096]⟩ : Shape).Idx → EReal}
    {w : (⟨2, ![4096, N]⟩ : Shape).Idx → EReal} {w' : (⟨2, ![4096, N']⟩ : Shape).Idx → EReal} {p : Fin M} {p' : Fin M'}
    {q : Fin N} {q' : Fin N'} (hx : ∀ k, x (ix2 p k) = x' (ix2 p' k)) (hw : ∀ k, w (ix2 k q) = w' (ix2 k q')) :
    cell x w p q = cell x' w' p' q' := by
  unfold cell
  simp only [hx, hw]

/-- A half's rows are the block's. -/
theorem halfX_at (t : Bool) (x : S256x4096.Idx → Elt Ideal .f32) {j : ℕ} (hj : j < 128) (k : Fin 4096) :
    halfX (F := Ideal) t x (ix2 ⟨j, hj⟩ k) = x (ix2 (⟨j + cond t 0 128, by cases t <;> simp <;> omega⟩ : Fin 256) k) :=
  congrArg x (eq_ix2 _)

/-- Both ways of writing a row block give the same elements. -/
theorem G_cell (X : Dev nD → S256x4096.Idx → Elt Ideal .f32) (W : Dev nD → S4096x128.Idx → Elt Ideal .f32) (c : Dev nD)
    (i : S4096x128.Idx) (h : (i 0).val / 256 < 16) :
    G (F := Ideal) X W c i = cell (M := 256) (N := 128) (X ⟨(i 0).val / 256, h⟩) (W c)
      ⟨(i 0).val % 256, Nat.mod_lt _ (by decide : 0 < 256)⟩ (i 1) := by
  have h2 : (i 0).val < 4096 := (i 0).isLt
  show (if _ then _ else _) = _
  split
  · refine (g128_cell _ _ _ _).trans (cell_congr (fun k => ?_) fun _ => rfl)
    refine (halfX_at _ _ _ k).trans (congrArg _ ?_)
    refine congrArg (fun r => ix2 r k) (Fin.ext ?_)
    show (i 0).val % 128 + cond (decide ((i 0).val % 256 < 128)) 0 128 = (i 0).val % 256
    by_cases hh : (i 0).val % 256 < 128
    · rw [decide_eq_true hh]; show _ + 0 = _; omega
    · rw [decide_eq_false hh]; show _ + 128 = _; omega
  · exact g256_cell _ _ _ _

/-- The reference's result. -/
def refOut (x : (⟨2, ![4096, 4096]⟩ : Shape).Idx → Elt Ideal .f32) (w : (⟨2, ![4096, 2048]⟩ : Shape).Idx → Elt Ideal .f32) :
    (⟨2, ![4096, 2048]⟩ : Shape).Idx → Elt Ideal .f32 :=
  maximumf (F := Ideal) (Host.dotGeneral (F := Ideal) (φ₁ := .f32) (φ₂ := .f32) Cert.ReferenceIdeal.dot_S4096x4096_S4096x2048_S4096x2048_1_0_0_1_n_n none x w)
    (broadcastInDim Cert.ReferenceIdeal.S4096x2048 ![] Cert.ReferenceIdeal.Gen.bcast_S_S4096x2048 (constant (F := Ideal) Cert.ReferenceIdeal.S_ .f32 0x00000000#32))

theorem refOut_cell (x : (⟨2, ![4096, 4096]⟩ : Shape).Idx → Elt Ideal .f32) (w : (⟨2, ![4096, 2048]⟩ : Shape).Idx → Elt Ideal .f32)
    (p : Fin 4096) (q : Fin 2048) : refOut x w (ix2 p q) = cell (M := 4096) (N := 2048) x w p q := by
  refine congrArg (fun s => FloatOps.maximumf (F := Ideal) (φ := .f32) s (Ideal.ofBits .f32 0x00000000#32)) ?_
  exact dotGeneral_plain_apply (m := 4096) (k := 4096) (n := 2048) (φ₁ := .f32) (φ₂ := .f32) none x w p q

/-- The kernel's result on a device is the device's columns of the reference's. -/
theorem G_block (x : (⟨2, ![4096, 4096]⟩ : Shape).Idx → Elt Ideal .f32) (w : (⟨2, ![4096, 2048]⟩ : Shape).Idx → Elt Ideal .f32)
    (X : Dev nD → S256x4096.Idx → Elt Ideal .f32) (W : Dev nD → S4096x128.Idx → Elt Ideal .f32)
    (hX : ∀ c, X c = Layout.block ⟨2, ![256, 4096]⟩ ⟨2, ![4096, 4096]⟩ 0 16 c x)
    (hW : ∀ c, W c = Layout.block ⟨2, ![4096, 128]⟩ ⟨2, ![4096, 2048]⟩ 1 16 c w) (c : Dev nD) :
    G (F := Ideal) X W c = Layout.block ⟨2, ![4096, 128]⟩ ⟨2, ![4096, 2048]⟩ 1 16 c (refOut x w) := by
  funext i
  have h2 : (i 0).val < 4096 := (i 0).isLt
  have h3 : (i 1).val < 128 := (i 1).isLt
  have h4 : c.val < 16 := c.isLt
  have h : (i 0).val / 256 < 16 := by omega
  rw [G_cell X W c i h, Layout.block_apply]
  refine Eq.trans ?_ ((refOut_cell x w (i 0) ⟨c.val * 128 + (i 1).val, by omega⟩).symm.trans (congrArg _ (eq_ix2 _).symm))
  refine cell_congr (fun k => ?_) fun k => ?_
  · rw [hX, Layout.block_apply]
    refine congrArg x ((eq_ix2 _).trans ?_)
    refine congrArg₂ ix2 (Fin.ext ?_) (Fin.ext rfl)
    show (i 0).val / 256 * 256 + (i 0).val % 256 = (i 0).val
    omega
  · rw [hW, Layout.block_apply]
    exact congrArg w (eq_ix2 _)

end Cert.KernelIdeal.Whole

end
-- ==== Proof.lean ====
module

public import proofs.«01_k».proof.Proof.Gen.ReferenceIdeal.Run
public import proofs.«01_k».proof.Defs
public import proofs.«01_k».proof.Proof.KernelIdealValue
public import proofs.«01_k».proof.Proof.KernelLaunch
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Weaken what a run is known to end with. -/
theorem frame_kernel : Cert.quiescent_Kernel := fun m g _ =>
  (θ_run _ _ _).mono (fun _ h => ⟨fun c => ⟨(h.1 c).1, (h.1 c).2.1⟩, h.2⟩) (Cert.Kernel.Ring.runs (F := Bits) m g)

theorem frame_ideal : Cert.quiescent_KernelIdeal := fun m g _ =>
  (θ_run _ _ _).mono (fun _ h => ⟨fun c => ⟨(h.1 c).1, (h.1 c).2.1⟩, h.2⟩) (Cert.KernelIdeal.Ring.runs (F := Ideal) m g)

/-- The reference has no semaphore. -/
theorem frame_ref : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The two programs' results agree: the kernel's, block by block, is the reference's. -/
theorem value : Cert.algebraic_KernelIdeal_ReferenceIdeal := fun m g m' g' _ hin =>
  ⟨_, (θ_run _ _ _).mono (fun _ h c => ⟨(h.1 c).2.2.trans
        (Cert.KernelIdeal.Whole.G_block _ _ _ _ (fun e => (hin e).1) (fun e => (hin e).2) c), (h.1 c).1, (h.1 c).2.1⟩)
      (Cert.KernelIdeal.Ring.runs (F := Ideal) m g),
    (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_ref, trivial, value⟩

end Cert.Proof

end
